-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 2, 2] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = Layout.blockN ⟨2, ![2048, 1024]⟩ ⟨2, ![4096, 1024]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v97) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S8 : Shape := ⟨1, ![8]⟩
abbrev S1x2048 : Shape := ⟨2, ![1, 2048]⟩
abbrev S8x1 : Shape := ⟨2, ![8, 1]⟩
abbrev S8x2048 : Shape := ⟨2, ![8, 2048]⟩
abbrev S_ : Shape := ⟨0, ![]⟩

class Facts : Prop where
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  natLt_1_32 : 1 < 32
  reducesTo_S8x2048_S8_d1 : S8x2048.ReducesTo [1] S8
  h_S_ : 0 < S_.numel
  bcast_S_S8 : S_.BroadcastsInDim S8 (![] : Fin 0 → Fin S8.rank)

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S8 1 :=
  let main_v0 : IVec S8 32 := iotaInDim S8 32 0
  let main_v1 : IVec S1x2048 32 := broadcastInDim S1x2048 ![1] bcast_S2048_S1x2048_1 main_arg1
  let main_v2 : IVec S8x1 32 := broadcastInDim S8x1 ![0] bcast_S8_S8x1_0 main_v0
  let main_v3 : IVec S8x2048 32 := broadcastInDim S8x2048 ![0, 1] bcast_S1x2048_S8x2048_0_1 main_v1
  let main_v4 : IVec S8x2048 32 := broadcastInDim S8x2048 ![0, 1] bcast_S8x1_S8x2048_0_1 main_v2
  let main_v5 : IVec S8x2048 1 := cmpi .eq main_v3 main_v4
  let main_v6 : IVec S8x2048 32 := (extui 32 · natLt_1_32) main_v5
  let main_c : IVec S_ 32 := constantI S_ 32 0#32
  let main_v7 : IVec S8 32 := (fun x v => Host.reduce IntOp.addi x v reducesTo_S8x2048_S8_d1 h_S_) main_v6 main_c
  let main_c_0 : IVec S_ 32 := constantI S_ 32 320#32
  let main_v8 : IVec S8 32 := broadcastInDim S8 ![] bcast_S_S8 main_c_0
  let main_v9 : IVec S8 1 := cmpi .sle main_v7 main_v8
  main_v9
-- ==== Pre_capacity_ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S8 : Shape := ⟨1, ![8]⟩
abbrev S1x4096 : Shape := ⟨2, ![1, 4096]⟩
abbrev S8x1 : Shape := ⟨2, ![8, 1]⟩
abbrev S8x4096 : Shape := ⟨2, ![8, 4096]⟩
abbrev S_ : Shape := ⟨0, ![]⟩

class Facts : Prop where
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  natLt_1_32 : 1 < 32
  reducesTo_S8x4096_S8_d1 : S8x4096.ReducesTo [1] S8
  h_S_ : 0 < S_.numel
  bcast_S_S8 : S_.BroadcastsInDim S8 (![] : Fin 0 → Fin S8.rank)

variable [Facts]

def fn {F : FTy → Type} [FloatOps F] (main_arg0 : FVec F S4096x1024 .f32) (main_arg1 : IVec S4096 32) (main_arg2 : FVec F S8x1024x2048 .f32) (main_arg3 : FVec F S8x2048x1024 .f32) : IVec S8 1 :=
  let main_v0 : IVec S8 32 := iotaInDim S8 32 0
  let main_v1 : IVec S1x4096 32 := broadcastInDim S1x4096 ![1] bcast_S4096_S1x4096_1 main_arg1
  let main_v2 : IVec S8x1 32 := broadcastInDim S8x1 ![0] bcast_S8_S8x1_0 main_v0
  let main_v3 : IVec S8x4096 32 := broadcastInDim S8x4096 ![0, 1] bcast_S1x4096_S8x4096_0_1 main_v1
  let main_v4 : IVec S8x4096 32 := broadcastInDim S8x4096 ![0, 1] bcast_S8x1_S8x4096_0_1 main_v2
  let main_v5 : IVec S8x4096 1 := cmpi .eq main_v3 main_v4
  let main_v6 : IVec S8x4096 32 := (extui 32 · natLt_1_32) main_v5
  let main_c : IVec S_ 32 := constantI S_ 32 0#32
  let main_v7 : IVec S8 32 := (fun x v => Host.reduce IntOp.addi x v reducesTo_S8x4096_S8_d1 h_S_) main_v6 main_c
  let main_c_0 : IVec S_ 32 := constantI S_ 32 320#32
  let main_v8 : IVec S8 32 := broadcastInDim S8 ![] bcast_S_S8 main_c_0
  let main_v9 : IVec S8 1 := cmpi .sle main_v7 main_v8
  main_v9
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S8 : Shape := ⟨1, ![8]⟩
abbrev S8x1 : Shape := ⟨2, ![8, 1]⟩
abbrev S1x2048 : Shape := ⟨2, ![1, 2048]⟩
abbrev S8x2048 : Shape := ⟨2, ![8, 2048]⟩
abbrev S2048x1 : Shape := ⟨2, ![2048, 1]⟩
abbrev S320 : Shape := ⟨1, ![320]⟩
abbrev S1x320 : Shape := ⟨2, ![1, 320]⟩
abbrev S2048x320 : Shape := ⟨2, ![2048, 320]⟩
abbrev S8x320 : Shape := ⟨2, ![8, 320]⟩
abbrev S4x320 : Shape := ⟨2, ![4, 320]⟩
abbrev S2x320 : Shape := ⟨2, ![2, 320]⟩
abbrev S1280x1 : Shape := ⟨2, ![1280, 1]⟩
abbrev S1280x2048 : Shape := ⟨2, ![1280, 2048]⟩
abbrev S640x1024 : Shape := ⟨2, ![640, 1024]⟩
abbrev S1280x1024 : Shape := ⟨2, ![1280, 1024]⟩
abbrev S1024x2048 : Shape := ⟨2, ![1024, 2048]⟩
abbrev S2 : Shape := ⟨1, ![2]⟩
abbrev S1 : Shape := ⟨1, ![1]⟩
abbrev S512x1024 : Shape := ⟨2, ![512, 1024]⟩
abbrev S1x1024x2048 : Shape := ⟨3, ![1, 1024, 2048]⟩
abbrev S1x2048x1024 : Shape := ⟨3, ![1, 2048, 1024]⟩
abbrev S320x2048 : Shape := ⟨2, ![320, 2048]⟩
abbrev S320x1024 : Shape := ⟨2, ![320, 1024]⟩
abbrev S1280x512 : Shape := ⟨2, ![1280, 512]⟩

abbrev nBuf : Space → Nat
  | .hbm => 134
  | .vmem => 14
  | .smem => 0
  | _ => 0

abbrev hbmTy0_0 (i : Nat) : BufTy := match i % 128 with
  | 0 => ⟨S2048x1024, .f32⟩
  | 1 => ⟨S2048, .i32⟩
  | 2 => ⟨S4x1024x2048, .f32⟩
  | 3 => ⟨S4x2048x1024, .f32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S8, .i32⟩
  | 17 => ⟨S8x1, .i32⟩
  | 18 => ⟨S1x2048, .i32⟩
  | 19 => ⟨S8x2048, .i32⟩
  | 20 => ⟨S8x2048, .i32⟩
  | 21 => ⟨S8x2048, .i1⟩
  | 22 => ⟨S8x2048, .i32⟩
  | 23 => ⟨S_, .i32⟩
  | 24 => ⟨S_, .i32⟩
  | 25 => ⟨S8x2048, .i32⟩
  | 26 => ⟨S8x2048, .i32⟩
  | 27 => ⟨S_, .i32⟩
  | 28 => ⟨S2048, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i32⟩
  | 36 => ⟨S1x2048, .i32⟩
  | 37 => ⟨S8x2048, .i32⟩
  | 38 => ⟨S8x2048, .i32⟩
  | 39 => ⟨S8x2048, .f32⟩
  | 40 => ⟨S2048x1, .i32⟩
  | 41 => ⟨S320, .i32⟩
  | 42 => ⟨S1x320, .i32⟩
  | 43 => ⟨S2048x320, .i32⟩
  | 44 => ⟨S2048x320, .i32⟩
  | 45 => ⟨S2048x320, .i1⟩
  | 46 => ⟨S2048x320, .f32⟩
  | 47 => ⟨S8x320, .f32⟩
  | 48 => ⟨S_, .f32⟩
  | 49 => ⟨S8x320, .f32⟩
  | 50 => ⟨S8x320, .i1⟩
  | 51 => ⟨S8x320, .i32⟩
  | 52 => ⟨S_, .i32⟩
  | 53 => ⟨S8x320, .i32⟩
  | 54 => ⟨S8x320, .i32⟩
  | 55 => ⟨S_, .i32⟩
  | 56 => ⟨S_, .i32⟩
  | 57 => ⟨S8x320, .i32⟩
  | 58 => ⟨S8x320, .i32⟩
  | 59 => ⟨S2048, .i32⟩
  | 60 => ⟨S1x2048, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S4x320, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S2x320, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S2x320, .i32⟩
  | 90 => ⟨S4x320, .i32⟩
  | 91 => ⟨S1280x1, .i32⟩
  | 92 => ⟨S1280x2048, .i32⟩
  | 93 => ⟨S1280x2048, .i32⟩
  | 94 => ⟨S1280x2048, .i1⟩
  | 95 => ⟨S1280x2048, .bf16⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S4x320, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S2x320, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S2x320, .i32⟩
  | 127 => ⟨S4x320, .i32⟩
  | _ => ⟨S2048x1024, .f32⟩

abbrev hbmTy0_1 (i : Nat) : BufTy := match i % 128 with
  | 0 => ⟨S1280x1, .i32⟩
  | 1 => ⟨S1280x2048, .i32⟩
  | 2 => ⟨S1280x2048, .i32⟩
  | 3 => ⟨S1280x2048, .i1⟩
  | 4 => ⟨S1280x2048, .bf16⟩
  | 5 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S1280x2048, .bf16⟩
  | .local _ .vmem, ⟨2, _⟩ => ⟨S1280x2048, .bf16⟩
  | .local _ .vmem, ⟨3, _⟩ => ⟨S2048x1024, .bf16⟩
  | .local _ .vmem, ⟨4, _⟩ => ⟨S2048x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S1280x1024, .bf16⟩
  | .local _ .vmem, ⟨9, _⟩ => ⟨S1280x1024, .bf16⟩
  | .local _ .vmem, ⟨10, _⟩ => ⟨S1024x2048, .bf16⟩
  | .local _ .vmem, ⟨11, _⟩ => ⟨S2048x1024, .bf16⟩
  | .local _ .vmem, ⟨12, _⟩ => ⟨S1024x2048, .f32⟩
  | .local _ .vmem, ⟨13, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_c : Ref sig .tc := ⟨.hbm, 23, rfl⟩
abbrev main_call0_call0_v0 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_c_13 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_c_17 : Ref sig .tc := ⟨.hbm, 81, rfl⟩
abbrev main_v55 : Ref sig .tc := ⟨.hbm, 82, rfl⟩
abbrev main_c_18 : Ref sig .tc := ⟨.hbm, 83, rfl⟩
abbrev main_v56 : Ref sig .tc := ⟨.hbm, 84, rfl⟩
abbrev main_c_19 : Ref sig .tc := ⟨.hbm, 85, rfl⟩
abbrev main_v57 : Ref sig .tc := ⟨.hbm, 86, rfl⟩
abbrev main_v58 : Ref sig .tc := ⟨.hbm, 87, rfl⟩
abbrev main_c_20 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_21 : Ref sig .tc := ⟨.hbm, 96, rfl⟩
abbrev main_v66 : Ref sig .tc := ⟨.hbm, 97, rfl⟩
abbrev main_c_22 : Ref sig .tc := ⟨.hbm, 98, rfl⟩
abbrev main_v67 : Ref sig .tc := ⟨.hbm, 99, rfl⟩
abbrev main_c_23 : Ref sig .tc := ⟨.hbm, 100, rfl⟩
abbrev main_v68 : Ref sig .tc := ⟨.hbm, 101, rfl⟩
abbrev main_c_24 : Ref sig .tc := ⟨.hbm, 102, rfl⟩
abbrev main_v69 : Ref sig .tc := ⟨.hbm, 103, rfl⟩
abbrev main_v70 : Ref sig .tc := ⟨.hbm, 104, rfl⟩
abbrev main_c_25 : Ref sig .tc := ⟨.hbm, 105, rfl⟩
abbrev main_v71 : Ref sig .tc := ⟨.hbm, 106, rfl⟩
abbrev main_c_26 : Ref sig .tc := ⟨.hbm, 107, rfl⟩
abbrev main_v72 : Ref sig .tc := ⟨.hbm, 108, rfl⟩
abbrev main_c_27 : Ref sig .tc := ⟨.hbm, 109, rfl⟩
abbrev main_v73 : Ref sig .tc := ⟨.hbm, 110, rfl⟩
abbrev main_c_28 : Ref sig .tc := ⟨.hbm, 111, rfl⟩
abbrev main_v74 : Ref sig .tc := ⟨.hbm, 112, rfl⟩
abbrev main_v75 : Ref sig .tc := ⟨.hbm, 113, rfl⟩
abbrev main_c_29 : Ref sig .tc := ⟨.hbm, 114, rfl⟩
abbrev main_v76 : Ref sig .tc := ⟨.hbm, 115, rfl⟩
abbrev main_c_30 : Ref sig .tc := ⟨.hbm, 116, rfl⟩
abbrev main_v77 : Ref sig .tc := ⟨.hbm, 117, rfl⟩
abbrev main_c_31 : Ref sig .tc := ⟨.hbm, 118, rfl⟩
abbrev main_v78 : Ref sig .tc := ⟨.hbm, 119, rfl⟩
abbrev main_c_32 : Ref sig .tc := ⟨.hbm, 120, rfl⟩
abbrev main_v79 : Ref sig .tc := ⟨.hbm, 121, rfl⟩
abbrev main_c_33 : Ref sig .tc := ⟨.hbm, 122, rfl⟩
abbrev main_v80 : Ref sig .tc := ⟨.hbm, 123, rfl⟩
abbrev main_v81 : Ref sig .tc := ⟨.hbm, 124, rfl⟩
abbrev main_c_34 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_20 : BitVec 32 := 4#32
  let v38 : BitVec 32 := Scalar.muli v9 c4_i32_20
  let v39 : BitVec 32 := Scalar.addi c0_i32 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v40 : BitVec 32 := Scalar.muli v5 c2_i32_21
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v42 : BitVec 32 := Scalar.muli v8 c1_i32_22
  let v43 : BitVec 32 := Scalar.addi v41 v42
  v43.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v44 : BitVec 32 := Scalar.muli v2 c4_i32_24
  let v45 : BitVec 32 := Scalar.addi c0_i32_25 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v46 : BitVec 32 := Scalar.muli v5 c2_i32_26
  let v47 : BitVec 32 := Scalar.addi v45 v46
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_27 : BitVec 32 := 1#32
  let v48 : BitVec 32 := Scalar.muli v10 c1_i32_27
  let v49 : BitVec 32 := Scalar.addi v47 v48
  v49.toNat
def k0_dev3 (d0 : Dev nD) : Nat :=
  let c0_i32_30 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_29 : BitVec 32 := 4#32
  let v50 : BitVec 32 := Scalar.muli v11 c4_i32_29
  let v51 : BitVec 32 := Scalar.addi c0_i32_30 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v52 : BitVec 32 := Scalar.muli v5 c2_i32_31
  let v53 : BitVec 32 := Scalar.addi v51 v52
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_32 : BitVec 32 := 1#32
  let v54 : BitVec 32 := Scalar.muli v12 c1_i32_32
  let v55 : BitVec 32 := Scalar.addi v53 v54
  v55.toNat
def k0_off1 (d0 : Dev nD) (c0_i32_34 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2_i32_33 : BitVec 32 := 2#32
  let v56 : BitVec 32 := Scalar.muli v8 c2_i32_33
  let v57 : BitVec 32 := Scalar.addi v56 c0_i32_34
  let c0_i32_36 : BitVec 32 := 0#32
  let c0_i32_37 : BitVec 32 := 0#32
  ![v57.toNat, 0, 0]
def k0_off2 (d0 : Dev nD) (c0_i32_34 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2_i32_33 : BitVec 32 := 2#32
  let v56 : BitVec 32 := Scalar.muli v8 c2_i32_33
  let v57 : BitVec 32 := Scalar.addi v56 c0_i32_34
  let c0_i32_39 : BitVec 32 := 0#32
  let c0_i32_40 : BitVec 32 := 0#32
  ![v57.toNat, 0, 0]
def k0_dev4 (d0 : Dev nD) : Nat :=
  let c0_i32_50 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_49 : BitVec 32 := 4#32
  let v74 : BitVec 32 := Scalar.muli v9 c4_i32_49
  let v75 : BitVec 32 := Scalar.addi c0_i32_50 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v76 : BitVec 32 := Scalar.muli v5 c2_i32_51
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v78 : BitVec 32 := Scalar.muli v8 c1_i32_52
  let v79 : BitVec 32 := Scalar.addi v77 v78
  v79.toNat
def k0_dev5 (d0 : Dev nD) : Nat :=
  let c0_i32_66 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_65 : BitVec 32 := 4#32
  let v94 : BitVec 32 := Scalar.muli v9 c4_i32_65
  let v95 : BitVec 32 := Scalar.addi c0_i32_66 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v96 : BitVec 32 := Scalar.muli v5 c2_i32_67
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v98 : BitVec 32 := Scalar.muli v8 c1_i32_68
  let v99 : BitVec 32 := Scalar.addi v97 v98
  v99.toNat
def k0_dev6 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v152 : BitVec 32 := Scalar.muli v2 c4_i32_112
  let v153 : BitVec 32 := Scalar.addi c0_i32_113 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v154 : BitVec 32 := Scalar.muli v5 c2_i32_114
  let v155 : BitVec 32 := Scalar.addi v153 v154
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_115 : BitVec 32 := 1#32
  let v156 : BitVec 32 := Scalar.muli v10 c1_i32_115
  let v157 : BitVec 32 := Scalar.addi v155 v156
  v157.toNat
def k0_dev7 (d0 : Dev nD) : Nat :=
  let c0_i32_150 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_149 : BitVec 32 := 4#32
  let v190 : BitVec 32 := Scalar.muli v9 c4_i32_149
  let v191 : BitVec 32 := Scalar.addi c0_i32_150 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v192 : BitVec 32 := Scalar.muli v5 c2_i32_151
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v194 : BitVec 32 := Scalar.muli v8 c1_i32_152
  let v195 : BitVec 32 := Scalar.addi v193 v194
  v195.toNat
def k0_dev8 (d0 : Dev nD) : Nat :=
  let c0_i32_160 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_159 : BitVec 32 := 4#32
  let v202 : BitVec 32 := Scalar.muli v11 c4_i32_159
  let v203 : BitVec 32 := Scalar.addi c0_i32_160 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v204 : BitVec 32 := Scalar.muli v5 c2_i32_161
  let v205 : BitVec 32 := Scalar.addi v203 v204
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_162 : BitVec 32 := 1#32
  let v206 : BitVec 32 := Scalar.muli v12 c1_i32_162
  let v207 : BitVec 32 := Scalar.addi v205 v206
  v207.toNat
def k0_dev9 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v250 : BitVec 32 := Scalar.muli v2 c4_i32_199
  let v251 : BitVec 32 := Scalar.addi c0_i32_200 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v252 : BitVec 32 := Scalar.muli v5 c2_i32_201
  let v253 : BitVec 32 := Scalar.addi v251 v252
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_202 : BitVec 32 := 1#32
  let v254 : BitVec 32 := Scalar.muli v10 c1_i32_202
  let v255 : BitVec 32 := Scalar.addi v253 v254
  v255.toNat
def k0_dev10 (d0 : Dev nD) : Nat :=
  let c0_i32_237 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_236 : BitVec 32 := 4#32
  let v288 : BitVec 32 := Scalar.muli v9 c4_i32_236
  let v289 : BitVec 32 := Scalar.addi c0_i32_237 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v290 : BitVec 32 := Scalar.muli v5 c2_i32_238
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v292 : BitVec 32 := Scalar.muli v8 c1_i32_239
  let v293 : BitVec 32 := Scalar.addi v291 v292
  v293.toNat
def k0_dev11 (d0 : Dev nD) : Nat :=
  let c0_i32_247 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_246 : BitVec 32 := 4#32
  let v300 : BitVec 32 := Scalar.muli v11 c4_i32_246
  let v301 : BitVec 32 := Scalar.addi c0_i32_247 v300
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_248 : BitVec 32 := 2#32
  let v302 : BitVec 32 := Scalar.muli v5 c2_i32_248
  let v303 : BitVec 32 := Scalar.addi v301 v302
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_249 : BitVec 32 := 1#32
  let v304 : BitVec 32 := Scalar.muli v12 c1_i32_249
  let v305 : BitVec 32 := Scalar.addi v303 v304
  v305.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S1x1024x2048, .f32⟩
  | .hbm, ⟨10, _⟩ => ⟨S1024x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S1x1024x2048, .f32⟩
  | .hbm, ⟨25, _⟩ => ⟨S1024x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S1x1024x2048, .f32⟩
  | .hbm, ⟨40, _⟩ => ⟨S1024x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S1x1024x2048, .f32⟩
  | .hbm, ⟨55, _⟩ => ⟨S1024x2048, .f32⟩
  | .hbm, ⟨56, _⟩ => ⟨S4096x2048, .f32⟩
  | .hbm, ⟨57, _⟩ => ⟨S_, .f32⟩
  | .hbm, ⟨58, _⟩ => ⟨S4096x2048, .f32⟩
  | .hbm, ⟨59, _⟩ => ⟨S4096x2048, .f32⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S1x1024x2048, .f32⟩
  | .hbm, ⟨70, _⟩ => ⟨S1024x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S1x1024x2048, .f32⟩
  | .hbm, ⟨85, _⟩ => ⟨S1024x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S1x1024x2048, .f32⟩
  | .hbm, ⟨100, _⟩ => ⟨S1024x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S_, .i32⟩
  | .hbm, ⟨112, _⟩ => ⟨S4096, .i32⟩
  | .hbm, ⟨113, _⟩ => ⟨S4096, .i1⟩
  | .hbm, ⟨114, _⟩ => ⟨S1x1024x2048, .f32⟩
  | .hbm, ⟨115, _⟩ => ⟨S1024x2048, .f32⟩
  | .hbm, ⟨116, _⟩ => ⟨S4096x2048, .f32⟩
  | .hbm, ⟨117, _⟩ => ⟨S_, .f32⟩
  | .hbm, ⟨118, _⟩ => ⟨S4096x2048, .f32⟩
  | .hbm, ⟨119, _⟩ => ⟨S4096x2048, .f32⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | .hbm, ⟨126, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_c_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== Proof.Slots.lean ====
/-
  The names the run is written with: the three partners of a device, the buffers and the row slabs of them that travel,
  the semaphore cells, and what each slab holds as a function of the launch memory.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Rounds.Family
public import Idealize.ShloMosaic.Lib.Memref
public import Idealize.ShloMosaic.Lib.VecWindow
public import Idealize.ShloMosaic.Lib.Tactic

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy and the exchange's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

/-! ## The partners -/

/-- The device across the first mesh axis. -/
def xp (c : Dev nD) : Dev nD := ⟨(c.val + 4) % 8, Nat.mod_lt _ (by decide)⟩
/-- The device across the last mesh axis. -/
def zp (c : Dev nD) : Dev nD := if c.val % 2 = 0 then ⟨(c.val + 1) % 8, Nat.mod_lt _ (by decide)⟩ else ⟨(c.val + 7) % 8, Nat.mod_lt _ (by decide)⟩
/-- The device across both. -/
def dg (c : Dev nD) : Dev nD := xp (zp c)

theorem xp_xp (c : Dev nD) : xp (xp c) = c := by revert c; decide
theorem zp_zp (c : Dev nD) : zp (zp c) = c := by revert c; decide
theorem dg_dg (c : Dev nD) : dg (dg c) = c := by revert c; decide

theorem dev1_eq (c : Dev nD) : (⟨k0_dev1 c, k0_dev1_lt c⟩ : Dev nD) = xp c := by revert c; decide
theorem dev2_eq (c : Dev nD) : (⟨k0_dev2 c, k0_dev2_lt c⟩ : Dev nD) = zp c := by revert c; decide
theorem dev3_eq (c : Dev nD) : (⟨k0_dev3 c, k0_dev3_lt c⟩ : Dev nD) = dg c := by revert c; decide
theorem dev4_eq (c : Dev nD) : (⟨k0_dev4 c, k0_dev4_lt c⟩ : Dev nD) = xp c := by revert c; decide
theorem dev5_eq (c : Dev nD) : (⟨k0_dev5 c, k0_dev5_lt c⟩ : Dev nD) = xp c := by revert c; decide
theorem dev6_eq (c : Dev nD) : (⟨k0_dev6 c, k0_dev6_lt c⟩ : Dev nD) = zp c := by revert c; decide
theorem dev7_eq (c : Dev nD) : (⟨k0_dev7 c, k0_dev7_lt c⟩ : Dev nD) = xp c := by revert c; decide
theorem dev8_eq (c : Dev nD) : (⟨k0_dev8 c, k0_dev8_lt c⟩ : Dev nD) = dg c := by revert c; decide
theorem dev9_eq (c : Dev nD) : (⟨k0_dev9 c, k0_dev9_lt c⟩ : Dev nD) = zp c := by revert c; decide
theorem dev10_eq (c : Dev nD) : (⟨k0_dev10 c, k0_dev10_lt c⟩ : Dev nD) = xp c := by revert c; decide
theorem dev11_eq (c : Dev nD) : (⟨k0_dev11 c, k0_dev11_lt c⟩ : Dev nD) = dg c := by revert c; decide

/-! ## The buffers and their slabs -/

/-- The tokens' staged rows. -/
abbrev bX : Memref sig .tc .vmem S2048x1024 .f32 := win0_0.stage 0
/-- The staged selection of the rows kept on the device's own side, -/
abbrev bPl : Memref sig .tc .vmem S1280x2048 .bf16 := win0_1.stage 0
/-- and of the rows sent across. -/
abbrev bPs : Memref sig .tc .vmem S1280x2048 .bf16 := win0_2.stage 0
/-- The staged result. -/
abbrev bOut : Memref sig .tc .vmem S2048x1024 .bf16 := win0_3.stage 0
/-- The device's first weights, in its large memory, -/
abbrev bW1 : Memref sig .tc .hbm S4x1024x2048 .f32 := Memref.whole main_arg2
/-- and its second weights. -/
abbrev bW2 : Memref sig .tc .hbm S4x2048x1024 .f32 := Memref.whole main_arg3
/-- The tokens' rows, rounded. -/
abbrev bXb : Memref sig .tc .vmem S2048x1024 .bf16 := Memref.whole cc0_scratch0
/-- Rows selected to send, -/
abbrev bXs : Memref sig .tc .vmem S640x1024 .bf16 := Memref.whole cc0_scratch1
/-- rows received, -/
abbrev bXr : Memref sig .tc .vmem S640x1024 .bf16 := Memref.whole cc0_scratch2
/-- the received rows' results to send back, -/
abbrev bYb : Memref sig .tc .vmem S640x1024 .bf16 := Memref.whole cc0_scratch3
/-- results of the rows of the own side, -/
abbrev bYl : Memref sig .tc .vmem S1280x1024 .bf16 := Memref.whole cc0_scratch4
/-- and of the rows sent across. -/
abbrev bYr : Memref sig .tc .vmem S1280x1024 .bf16 := Memref.whole cc0_scratch5
/-- One expert's first weights, rounded, -/
abbrev bA : Memref sig .tc .vmem S1024x2048 .bf16 := Memref.whole cc0_scratch6
/-- and its second weights. -/
abbrev bB : Memref sig .tc .vmem S2048x1024 .bf16 := Memref.whole cc0_scratch7
/-- One expert's first weights as copied in, -/
abbrev bS1 : Memref sig .tc .vmem S1024x2048 .f32 := Memref.whole cc0_scratch8
/-- and its second weights. -/
abbrev bS2 : Memref sig .tc .vmem S2048x1024 .f32 := Memref.whole cc0_scratch9

/-- Rows 0 to 319 of a 640-row buffer, and rows 320 to 639. -/
abbrev r0 : Rect S640x1024 := Rect.unit (s := S640x1024) ![0, 0] S320x1024.size inb_S640x1024_S320x1024_0_0
abbrev r1 : Rect S640x1024 := Rect.unit (s := S640x1024) ![320, 0] S320x1024.size inb_S640x1024_S320x1024_320_0
/-- The four 320-row slabs of a 1280-row buffer. -/
abbrev q0 : Rect S1280x1024 := Rect.unit (s := S1280x1024) ![0, 0] S320x1024.size inb_S1280x1024_S320x1024_0_0
abbrev q1 : Rect S1280x1024 := Rect.unit (s := S1280x1024) ![320, 0] S320x1024.size inb_S1280x1024_S320x1024_320_0
abbrev q2 : Rect S1280x1024 := Rect.unit (s := S1280x1024) ![640, 0] S320x1024.size inb_S1280x1024_S320x1024_640_0
abbrev q3 : Rect S1280x1024 := Rect.unit (s := S1280x1024) ![960, 0] S320x1024.size inb_S1280x1024_S320x1024_960_0

abbrev xs0 : Memref sig .tc .vmem S320x1024 .bf16 := bXs.slice r0 (fun _ => rfl)
abbrev xs1 : Memref sig .tc .vmem S320x1024 .bf16 := bXs.slice r1 (fun _ => rfl)
abbrev xr0 : Memref sig .tc .vmem S320x1024 .bf16 := bXr.slice r0 (fun _ => rfl)
abbrev xr1 : Memref sig .tc .vmem S320x1024 .bf16 := bXr.slice r1 (fun _ => rfl)
abbrev yb0 : Memref sig .tc .vmem S320x1024 .bf16 := bYb.slice r0 (fun _ => rfl)
abbrev yb1 : Memref sig .tc .vmem S320x1024 .bf16 := bYb.slice r1 (fun _ => rfl)
abbrev yl0 : Memref sig .tc .vmem S320x1024 .bf16 := bYl.slice q0 (fun _ => rfl)
abbrev yl1 : Memref sig .tc .vmem S320x1024 .bf16 := bYl.slice q1 (fun _ => rfl)
abbrev yl2 : Memref sig .tc .vmem S320x1024 .bf16 := bYl.slice q2 (fun _ => rfl)
abbrev yl3 : Memref sig .tc .vmem S320x1024 .bf16 := bYl.slice q3 (fun _ => rfl)
abbrev yr0 : Memref sig .tc .vmem S320x1024 .bf16 := bYr.slice q0 (fun _ => rfl)
abbrev yr1 : Memref sig .tc .vmem S320x1024 .bf16 := bYr.slice q1 (fun _ => rfl)
abbrev yr2 : Memref sig .tc .vmem S320x1024 .bf16 := bYr.slice q2 (fun _ => rfl)
abbrev yr3 : Memref sig .tc .vmem S320x1024 .bf16 := bYr.slice q3 (fun _ => rfl)

/-- The first weights of expert `j` of device `c`'s pair for its place on the last mesh axis, -/
abbrev w1src (c : Dev nD) (j : Fin 2) : Memref sig .tc .hbm S1024x2048 .f32 :=
  (bW1.slice (Rect.unit (s := S4x1024x2048) (k0_off1 c (BitVec.ofNat 32 j.val)) S1x1024x2048.size (k0_off1_inb c j)) (fun _ => rfl)).squeeze S1024x2048 squeezes_S1x1024x2048_S1024x2048
/-- and its second weights. -/
abbrev w2src (c : Dev nD) (j : Fin 2) : Memref sig .tc .hbm S2048x1024 .f32 :=
  (bW2.slice (Rect.unit (s := S4x2048x1024) (k0_off2 c (BitVec.ofNat 32 j.val)) S1x2048x1024.size (k0_off2_inb c j)) (fun _ => rfl)).squeeze S2048x1024 squeezes_S1x2048x1024_S2048x1024

/-! ## What the buffers hold -/

/-- Device `c`'s tokens, -/
def xV (c : Dev nD) : Vec F S2048x1024 .f32 := V5 m c main_arg0
/-- its own-side selection, -/
def plV (c : Dev nD) : Vec F S1280x2048 .bf16 := V5 m c main_v65
/-- and its selection of rows to send. -/
def psV (c : Dev nD) : Vec F S1280x2048 .bf16 := V5 m c main_v88
/-- The device's weights. -/
abbrev w1V (c : Dev nD) : main_arg2.ty.Contents (Elt F) := V5 m c main_arg2
abbrev w2V (c : Dev nD) : main_arg3.ty.Contents (Elt F) := V5 m c main_arg3

/-- The tokens rounded. -/
def xbV (c : Dev nD) : Vec F S2048x1024 .bf16 := truncf .bf16 (xV m c) bitsLt_bf16_f32

/-- Rows 0 to 319, and rows 320 to 639, of a selection. -/
def selA (p : Vec F S1280x2048 .bf16) : Vec F S320x2048 .bf16 :=
  fun j => p ((Rect.unit (s := S1280x2048) ![0, 0] S320x2048.size inb_S1280x2048_S320x2048_0_0).emb j)
def selB (p : Vec F S1280x2048 .bf16) : Vec F S320x2048 .bf16 :=
  fun j => p ((Rect.unit (s := S1280x2048) ![320, 0] S320x2048.size inb_S1280x2048_S320x2048_320_0).emb j)

/-- The rows device `c` selects to send, slab by slab. -/
def xsV (c : Dev nD) : Fin 2 → FVec F S320x1024 .bf16
  | 0 => k0_pay6 (selA (psV m c)) (xbV m c)
  | 1 => k0_pay6 (selB (psV m c)) (xbV m c)

/-- Expert `j`'s weights as copied in, -/
def w1f (c : Dev nD) (j : Fin 2) : Vec F S1024x2048 .f32 := (w1src c j).view.read (Elt F) (w1V m c)
def w2f (c : Dev nD) (j : Fin 2) : Vec F S2048x1024 .f32 := (w2src c j).view.read (Elt F) (w2V m c)
/-- and rounded. -/
def aV (c : Dev nD) (j : Fin 2) : FVec F S1024x2048 .bf16 := k0_pay9 (w1f m c j)
def bV (c : Dev nD) (j : Fin 2) : FVec F S2048x1024 .bf16 := k0_pay11 (k0_pay10 (w2f m c j))

/-- The results of the rows of the own side, slab by slab. -/
def ylV (c : Dev nD) : Fin 2 → FVec F S320x1024 .bf16
  | 0 => k0_pay12 (selA (plV m c)) (xbV m c) (aV m c 0) (bV m c 0)
  | 1 => k0_pay12 (selB (plV m c)) (xbV m c) (aV m c 1) (bV m c 1)

/-- The results of the rows received from across, slab by slab. -/
def ybV (c : Dev nD) (j : Fin 2) : FVec F S320x1024 .bf16 :=
  k0_pay13 (xsV m (xp c) j) (aV m c j) (constant S320x2048 .f32 0x00000000#32) (bV m c j)

/-! ## The cells -/

/-- The barrier semaphore. -/
abbrev barS : Sem sig := (SemArray.scalar (sig.barrier 0 rfl) : Sems sig S_).sem

/-- The semaphores of the exchange: the barrier, then the sixteen of the remote copies, then the two of the weights' copies. -/
abbrev osem : Fin 19 → SemLoc sig
  | ⟨0, _⟩ => .reg barS
  | ⟨k + 1, h⟩ => .dma ⟨k + 4, Nat.lt_of_lt_of_le (Nat.add_lt_add_right (Nat.lt_of_succ_lt_succ h) 4) (by decide)⟩

/-- Which of them a semaphore is. -/
def kOf : SemLoc sig → Option (Fin 19)
  | .reg _ => some 0
  | .dma k => if h : 4 ≤ k.val then some ⟨k.val - 3, by have := k.isLt; have h2 : (k.val < 22) := this; omega⟩ else none

theorem kOf_osem (k : Fin 19) : kOf (osem k) = some k := by revert k; decide

/-- Device `c`'s cell `k`. -/
abbrev kcell (c : Dev nD) (k : Fin 19) : GSem nD τ sig := ((c : Thread nD τ), osem k)

/-- What a copy of a slab credits, -/
abbrev N : ℕ := (xr0 : Memref sig .tc .vmem S320x1024 .bf16).view.dmaCredit
/-- and a copy of an expert's weights. -/
abbrev N1 : ℕ := (bS1 : Memref sig .tc .vmem S1024x2048 .f32).view.dmaCredit
abbrev N2 : ℕ := (bS2 : Memref sig .tc .vmem S2048x1024 .f32).view.dmaCredit
theorem N_pos : 0 < N := View.dmaCredit_pos _ (by decide)
theorem N1_pos : 0 < N1 := View.dmaCredit_pos _ (by decide)
theorem N2_pos : 0 < N2 := View.dmaCredit_pos _ (by decide)

end Cert.MoeK

end
-- ==== Proof.Schedule.lean ====
/-
  The exchange's schedule: for every semaphore cell, who credits it, by how much, and what comes with the credit.
-/
module

public import proofs.«01_k».proof.Proof.Slots

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A device's block of memory, at whatever it holds. -/
def anyTc {s : Shape} {e : EltTy} {sp : Space} (c : Dev nD) (M : Memref sig .tc sp s e) : sProp 𝕄 :=
  iprop(∃ X, ownsTc c M fullShare X)

/-- The expert's first weights, where they lie, -/
abbrev w1P (c : Dev nD) (j : Fin 2) : sProp 𝕄 := (w1src c j).view.loc (c : Thread nD τ) ↦[(w1src c j).view.set]{fullShare} w1V m c
/-- and its second weights. -/
abbrev w2P (c : Dev nD) (j : Fin 2) : sProp 𝕄 := (w2src c j).view.loc (c : Thread nD τ) ↦[(w2src c j).view.set]{fullShare} w2V m c

/-- What comes to device `c`'s barrier: from each partner, the blocks it lets `c` write and that the semaphores signalled there are at their start. -/
def barPay (c : Dev nD) : Fin 3 → sProp 𝕄
  | 0 => iprop(anyTc (xp c) xr0 ∗ anyTc (xp c) xr1 ∗ anyTc (xp c) yr0 ∗ anyTc (xp c) yr1
      ∗ reached ER (kcell (xp c) 3) 0 ∗ reached ER (kcell (xp c) 4) 0 ∗ reached ER (kcell (xp c) 7) 0 ∗ reached ER (kcell (xp c) 8) 0)
  | 1 => iprop(anyTc (zp c) yl2 ∗ anyTc (zp c) yl3 ∗ reached ER (kcell (zp c) 15) 0 ∗ reached ER (kcell (zp c) 16) 0)
  | 2 => iprop(anyTc (dg c) yr2 ∗ anyTc (dg c) yr3 ∗ reached ER (kcell (dg c) 11) 0 ∗ reached ER (kcell (dg c) 12) 0)

/-- What comes with the copy that credits cell `k`: a send gives its source back, a receipt the block written with what arrived, and a copy of
    weights both. -/
def cpPay (c : Dev nD) (r : ℕ) (k : Fin 19) : sProp 𝕄 :=
  match k.val with
  | 0 => iprop(emp)
  | 1 => ownsTc c xs0 fullShare (xsV m c 0)
  | 2 => ownsTc c xs1 fullShare (xsV m c 1)
  | 3 => ownsTc c xr0 fullShare (xsV m (xp c) 0)
  | 4 => ownsTc c xr1 fullShare (xsV m (xp c) 1)
  | 5 => ownsTc c yb0 fullShare.left (ybV m c 0)
  | 6 => ownsTc c yb1 fullShare.left (ybV m c 1)
  | 7 => ownsTc c yr0 fullShare (ybV m (xp c) 0)
  | 8 => ownsTc c yr1 fullShare (ybV m (xp c) 1)
  | 9 => ownsTc c yb0 fullShare.right (ybV m c 0)
  | 10 => ownsTc c yb1 fullShare.right (ybV m c 1)
  | 11 => ownsTc c yr2 fullShare (ybV m (dg c) 0)
  | 12 => ownsTc c yr3 fullShare (ybV m (dg c) 1)
  | 13 => ownsTc c yl0 fullShare (ylV m c 0)
  | 14 => ownsTc c yl1 fullShare (ylV m c 1)
  | 15 => ownsTc c yl2 fullShare (ylV m (zp c) 0)
  | 16 => ownsTc c yl3 fullShare (ylV m (zp c) 1)
  | 17 => if r = 0 then iprop(ownsTc c bS1 fullShare (w1f m c 0) ∗ w1P m c 0) else iprop(ownsTc c bS1 fullShare (w1f m c 1) ∗ w1P m c 1)
  | 18 => if r = 0 then iprop(ownsTc c bS2 fullShare (w2f m c 0) ∗ w2P m c 0) else iprop(ownsTc c bS2 fullShare (w2f m c 1) ∗ w2P m c 1)
  | _ => iprop(emp)

/-- What comes with duty `d` of round `r` of device `c`'s cell `k`. -/
def pay (c : Dev nD) (k : Fin 19) (r : ℕ) (d : Fin 3) : sProp 𝕄 := if k = 0 then barPay c d else cpPay m c r k

/-- By how much cell `k` is credited. -/
def amt (k : Fin 19) : ℕ := if k = 0 then 1 else if k = 17 then N1 else if k = 18 then N2 else N

theorem amt_pos (k : Fin 19) : 0 < amt k := by
  unfold amt; (repeat' split)
  exacts [Nat.one_pos, N1_pos, N2_pos, N_pos]

/-- The duties of cell `k`: three at the barrier, one at a copy's, and one more at the weights' copies' in the second round. -/
def dut (k : Fin 19) (r : ℕ) : Finset (Fin 3) :=
  if r = 0 then (if k = 0 then Finset.univ else {0}) else if r = 1 ∧ 17 ≤ k.val then {0} else ∅

/-- The schedule. -/
def Rd : Rounds.Schedule (GSem nD τ sig) (Fin 3) 𝕄 where
  duties g r := if g.1.2 = .tc then (kOf g.2).elim ∅ (fun k => dut k r) else ∅
  unitless _ := False
  amount g _ _ := (kOf g.2).elim 1 amt
  payload g r d := (kOf g.2).elim iprop(emp) (fun k => pay m g.1.1 k r d)
  amount_pos g _ _ _ := by
    cases kOf g.2 with
    | none => exact Nat.one_pos
    | some k => exact amt_pos k

instance barPay_storable (c : Dev nD) (d : Fin 3) : BI.Storable (upEmb : UEmb _ 𝕄) (barPay (F := F) c d) := by
  unfold barPay anyTc ownsTc; split <;> infer_instance
instance cpPay_storable (c : Dev nD) (r : ℕ) (k : Fin 19) : BI.Storable (upEmb : UEmb _ 𝕄) (cpPay m c r k) := by
  unfold cpPay ownsTc
  (repeat' split) <;> infer_instance

instance Rd_payload_storable (g : GSem nD τ sig) (r : ℕ) (d : Fin 3) :
    BI.Storable (upEmb : UEmb _ 𝕄) ((Rd (F := F) m).payload g r d) := by
  show BI.Storable upEmb ((kOf g.2).elim iprop(emp) (fun k => pay m g.1.1 k r d))
  cases kOf g.2 with
  | none => exact inferInstanceAs (BI.Storable upEmb iprop(emp))
  | some k =>
    show BI.Storable upEmb (pay m g.1.1 k r d)
    unfold pay; split <;> infer_instance

section
variable (c : Dev nD) (k : Fin 19)

theorem duties_eq (r : ℕ) : (Rd (F := F) m).duties (kcell c k) r = dut k r := by
  show (if (Proc.tc : Proc τ) = .tc then (kOf (osem k)).elim ∅ (fun k => dut k r) else ∅) = _
  rw [if_pos rfl, kOf_osem]; rfl
theorem amount_eq (r : ℕ) (d : Fin 3) : (Rd (F := F) m).amount (kcell c k) r d = amt k := by
  show (kOf (osem k)).elim 1 amt = _
  rw [kOf_osem]; rfl
theorem payload_eq (r : ℕ) (d : Fin 3) : (Rd (F := F) m).payload (kcell c k) r d = pay m c k r d := by
  show (kOf (osem k)).elim iprop(emp) (fun k => pay m c k r d) = _
  rw [kOf_osem]; rfl

theorem expect_bar : (Rd (F := F) m).expect (kcell c 0) 0 = 3 := by
  unfold Schedule.expect Schedule.amountOf; rw [duties_eq]
  exact (Finset.sum_congr rfl fun d _ => amount_eq m c 0 0 d).trans (by decide)
theorem expect_cp (r : ℕ) (hk : dut k r = {0}) : (Rd (F := F) m).expect (kcell c k) r = amt k := by
  unfold Schedule.expect Schedule.amountOf; rw [duties_eq, hk, Finset.sum_singleton, amount_eq]

theorem rest_bar : bigSep ((Rd (F := F) m).duties (kcell c 0) 0 \ ∅) (fun d => (Rd (F := F) m).payload (kcell c 0) 0 d)
    = iprop(barPay c 0 ∗ barPay c 1 ∗ barPay c 2) := by
  have h : dut 0 0 = insert 0 (insert 1 {2}) := by decide
  have hf : (fun d => (Rd (F := F) m).payload (kcell c 0) 0 d) = barPay (F := F) c := by funext d; rw [payload_eq]; rfl
  rw [Finset.sdiff_empty, duties_eq, hf, h, bigSep_insert (by decide), bigSep_insert (by decide), bigSep_singleton]; rfl
theorem rest_cp (r : ℕ) (hk : dut k r = {0}) (h0 : k ≠ 0) : bigSep ((Rd (F := F) m).duties (kcell c k) r \ ∅) (fun d => (Rd (F := F) m).payload (kcell c k) r d)
    = cpPay m c r k := by
  rw [Finset.sdiff_empty, duties_eq, hk, bigSep_singleton, payload_eq]; exact if_neg h0

theorem duties_late (r : ℕ) (hr : 2 ≤ r) (g : GSem nD τ sig) : (Rd (F := F) m).duties g r = ∅ := by
  show (if g.1.2 = .tc then (kOf g.2).elim ∅ (fun k => dut k r) else ∅) = _
  split
  · cases kOf g.2 with
    | none => rfl
    | some k => show dut k r = ∅; unfold dut; rw [if_neg (by omega), if_neg (by omega)]
  · rfl
theorem duties_later (hk : k.val < 17) (r : ℕ) (hr : 1 ≤ r) : (Rd (F := F) m).duties (kcell c k) r = ∅ := by
  rw [duties_eq]; unfold dut; rw [if_neg (by omega), if_neg (by omega)]
end

/-! ## What a device owes -/

/-- The eleven credits device `c` pays to others, in program order: to whom, -/
def dst (c : Dev nD) : Fin 11 → Dev nD
  | 0 => xp c | 1 => zp c | 2 => dg c
  | 3 => xp c | 4 => xp c | 5 => zp c | 6 => xp c | 7 => dg c | 8 => zp c | 9 => xp c | 10 => dg c
/-- and at which cell. -/
def kd : Fin 11 → Fin 19
  | 0 => 0 | 1 => 0 | 2 => 0
  | 3 => 3 | 4 => 4 | 5 => 15 | 6 => 7 | 7 => 11 | 8 => 16 | 9 => 8 | 10 => 12

/-- What is still to be paid after the first `n` payments. -/
def owe (c : Dev nD) (n : ℕ) : CellTallies nD τ sig Unit :=
  ∑ i : Fin 11, if n ≤ i.val then tallyAt (kcell (dst c i) (kd i)) () (amt (kd i)) else 0

theorem owe_step (c : Dev nD) (i : Fin 11) : owe c i.val = owe c (i.val + 1) + tallyAt (kcell (dst c i) (kd i)) () (amt (kd i)) := by
  unfold owe
  have h : ∀ j : Fin 11, (if i.val ≤ j.val then tallyAt (kcell (dst c j) (kd j)) () (amt (kd j)) else 0)
      = (if i.val + 1 ≤ j.val then tallyAt (kcell (dst c j) (kd j)) () (amt (kd j)) else 0)
        + (if j = i then (tallyAt (kcell (dst c j) (kd j)) () (amt (kd j)) : CellTallies nD τ sig Unit) else 0) := by
    intro j
    by_cases h1 : j = i
    · subst h1; rw [if_pos le_rfl, if_neg (by omega), if_pos rfl, zero_add]
    · have : j.val ≠ i.val := fun h => h1 (Fin.ext h)
      rw [if_neg h1, add_zero]
      by_cases h2 : i.val ≤ j.val
      · rw [if_pos h2, if_pos (by omega)]
      · rw [if_neg h2, if_neg (by omega)]
  rw [Finset.sum_congr rfl (fun j _ => h j), Finset.sum_add_distrib, Finset.sum_ite_eq' Finset.univ i, if_pos (Finset.mem_univ _)]

theorem owe_end (c : Dev nD) : owe c 11 = 0 := by
  unfold owe; exact Finset.sum_eq_zero (fun j _ => if_neg (by omega))

theorem owe_apply (c : Dev nD) (n : ℕ) (g : GSem nD τ sig) (u : Unit) :
    owe c n g u = ∑ i : Fin 11, if n ≤ i.val ∧ g = kcell (dst c i) (kd i) then amt (kd i) else 0 := by
  unfold owe
  rw [Finset.sum_apply]
  refine (Finsupp.finset_sum_apply _ _ u).trans ?_
  refine Finset.sum_congr rfl fun i _ => ?_
  by_cases h : n ≤ i.val
  · rw [if_pos h, tallyAt_apply]
    by_cases h2 : g = kcell (dst c i) (kd i)
    · rw [if_pos ⟨h2, rfl⟩, if_pos ⟨h, h2⟩]
    · rw [if_neg (fun h => h2 h.1), if_neg (fun h => h2 h.2)]
  · rw [if_neg h, if_neg (fun h' => h h'.1)]; rfl

theorem owe_pos (c : Dev nD) (n : ℕ) (g : GSem nD τ sig) (u : Unit) (h : 0 < owe c n g u) :
    ∃ i : Fin 11, n ≤ i.val ∧ g = kcell (dst c i) (kd i) := by
  rw [owe_apply] at h
  by_contra hn
  push Not at hn
  rw [Finset.sum_eq_zero (fun i _ => if_neg (fun h' => hn i h'.1 h'.2))] at h
  exact absurd h (Nat.lt_irrefl 0)

/-! ## The order of waiting -/

def L (g : GSem nD τ sig) : Finset Unit := if g.1.2 = .tc then {()} else ∅

/-- The barrier before the rows' receipts, those before the results' receipts; everything local at the bottom. -/
def lvk (k : Fin 19) : ℕ :=
  if k = 0 then 1 else if k = 3 ∨ k = 4 then 2 else if k = 7 ∨ k = 8 ∨ k = 11 ∨ k = 12 ∨ k = 15 ∨ k = 16 then 3 else 0
def lv (g : GSem nD τ sig) (_ : Unit) : ℕ := (kOf g.2).elim 0 lvk

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 19) (u : Unit) : lv (kcell c k) u = lvk k := by
  show (kOf (osem k)).elim 0 lvk = _
  rw [kOf_osem]; rfl

/-- A device may wait at its cell `k` after `n` payments when every cell still to be paid is of a higher level. -/
theorem mayWait (c : Dev nD) (k : Fin 19) (n : ℕ) (h : ∀ i : Fin 11, n ≤ i.val → lvk k < lvk (kd i)) :
    (levAts L lv : sProp 𝕄) ⊢ MayWait (c : Thread nD τ) (osem k) () (owe c n) :=
  MayOwe.of_cut (L := L) (lev := lv) (lvk k) (fun p hp => by rw [Finset.mem_singleton.mp hp, L_tc]; exact Finset.mem_singleton_self _)
    (fun g u hg => by
      obtain ⟨i, -, rfl⟩ := owe_pos c n g u hg
      rw [L_tc]; exact Finset.mem_singleton_self _)
    (fun p hp => by rw [Finset.mem_singleton.mp hp]; exact (lv_kcell c k ()).le)
    (fun g u hg => by
      obtain ⟨i, hi, rfl⟩ := owe_pos c n g u hg
      rw [lv_kcell]; exact h i hi)

end Cert.MoeK

end
-- ==== Proof.Steps.lean ====
/-
  One step of the kernel's body at a time, over blocks of memory owned at named contents.
-/
module

public import proofs.«01_k».proof.Proof.Schedule

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The device's weakest precondition, outside every pipeline. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Mem
variable {α : Type} (c : Dev nD)

/-- A load of a part of a block reads that part. -/
theorem load_part {cs : CoreSpace} {s : Shape} {e : EltTy} {M : Memref sig .tc cs s e} {q : PosShare TreeShare} {X : s.Idx → Elt F e} {r : Rect s}
    {hl : M.view.LoadsAt r.toLoadRect} {k : (r.shape.Idx → Elt F e) → Prog (TpuEff nD τ sig (Elt F) Λ₀ .tc) α} {Q : α → sProp 𝕄} :
    (ownsTc c M q X : sProp 𝕄) ⊢ iprop((ownsTc c M q X -∗ wpc c (k (fun j => X (r.emb j))) Q) -∗ wpc c (.op (.load M r.toLoadRect hl) k) Q) := by
  unfold ownsTc owns
  iintro ⟨%f, %hf, H⟩ Hk
  iapply (wp_load 𝒱₀ (c : Thread nD τ) none Set.univ (m := M) (r := r.toLoadRect) (hl := hl) (k := k) (S := M.view.set) (q := q) (f := f)
    (by rw [View.set]; exact Finset.map_subset_map.mpr (Finset.subset_univ _))) $$ H
  iintro H
  have h : M.view.readAt (Elt F) r.toLoadRect f = fun j => X (r.emb j) := by rw [← hf]; rfl
  rw [h]
  iapply Hk; iexists f; isplitr
  · ipureintro; exact hf
  iexact H

/-- A load of a slab owned by itself. -/
theorem load_slab {cs : CoreSpace} {s : Shape} {e : EltTy} {M : Memref sig .tc cs s e} {q : PosShare TreeShare} {r : Rect s} {hr : ∀ a, r.stride a = 1}
    {X : r.shape.Idx → Elt F e}
    {hl : M.view.LoadsAt r.toLoadRect} {k : (r.shape.Idx → Elt F e) → Prog (TpuEff nD τ sig (Elt F) Λ₀ .tc) α} {Q : α → sProp 𝕄} :
    (ownsTc c (M.slice r hr) q X : sProp 𝕄) ⊢ iprop((ownsTc c (M.slice r hr) q X -∗ wpc c (k X) Q) -∗ wpc c (.op (.load M r.toLoadRect hl) k) Q) := by
  unfold ownsTc owns
  iintro ⟨%f, %hf, H⟩ Hk
  iapply (wp_load_rect 𝒱₀ (c : Thread nD τ) none Set.univ (m := M) (r := r) (hl := hl) (k := k) (S := (M.access r).set) (q := q) (f := f)
    subset_rfl) $$ H
  iintro H
  have h : (M.access r).read (Elt F) f = X := hf
  rw [h]
  iapply Hk; iexists f; isplitr
  · ipureintro; exact hf
  iexact H

/-- A store to a slab owned by itself. -/
theorem store_slab {cs : CoreSpace} {s : Shape} {e : EltTy} {M : Memref sig .tc cs s e} {r : Rect s} {hr : ∀ a, r.stride a = 1}
    {X w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (ownsTc c (M.slice r hr) fullShare X : sProp 𝕄)
      ⊢ iprop((ownsTc c (M.slice r hr) fullShare w -∗ wpc c (k ⟨⟩) Q) -∗ wpc c (.op (.store M r w Finset.univ hx hm) k) Q) := by
  unfold ownsTc owns
  iintro ⟨%f, %hf, H⟩ Hk
  iapply (wp_store 𝒱₀ (c : Thread nD τ) none Set.univ (m := M) (r := r) (w := w) (Mk := Finset.univ) (hx := hx) (hm := hm) (k := k) (S := (M.access r).set) (f := f)
    (by rw [View.setOn_univ])) $$ H
  iintro H
  iapply Hk; iexists _; isplitr
  on_goal 2 => iexact H
  ipureintro; exact View.read_write_univ _ _

/-- A load of a whole block. -/
theorem load_all {cs : CoreSpace} {s : Shape} {e : EltTy} {M : Memref sig .tc cs s e} {q : PosShare TreeShare} {X : s.Idx → Elt F e}
    {off : Fin s.rank → ℕ} {inb : ∀ a, off a + s.size a ≤ s.size a}
    {hl : M.view.LoadsAt (Rect.unit (s := s) off s.size inb).toLoadRect} {k : (s.Idx → Elt F e) → Prog (TpuEff nD τ sig (Elt F) Λ₀ .tc) α} {Q : α → sProp 𝕄} :
    (ownsTc c M q X : sProp 𝕄) ⊢ iprop((ownsTc c M q X -∗ wpc c (k X) Q) -∗ wpc c (.op (.load M (Rect.unit (s := s) off s.size inb).toLoadRect hl) k) Q) := by
  have h : (fun j => X ((Rect.unit (s := s) off s.size inb).emb j)) = X := by funext j; rw [Rect.emb_unit_full]
  have := load_part (F := F) (Q := Q) c (M := M) (q := q) (X := X) (r := Rect.unit (s := s) off s.size inb) (hl := hl) (k := k)
  rw [h] at this
  exact this

/-- A store to a whole block. -/
theorem store_all {cs : CoreSpace} {s : Shape} {e : EltTy} {M : Memref sig .tc cs s e} {X w : s.Idx → Elt F e}
    {off : Fin s.rank → ℕ} {inb : ∀ a, off a + s.size a ≤ s.size a} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {Q : α → sProp 𝕄} :
    (ownsTc c M fullShare X : sProp 𝕄)
      ⊢ iprop((ownsTc c M fullShare w -∗ wpc c (k ⟨⟩) Q) -∗ wpc c (.op (.store M (Rect.unit (s := s) off s.size inb) w Finset.univ hx hm) k) Q) := by
  unfold ownsTc owns
  iintro ⟨%f, %hf, H⟩ Hk
  iapply (wp_store 𝒱₀ (c : Thread nD τ) none Set.univ (m := M) (r := Rect.unit (s := s) off s.size inb) (w := w) (Mk := Finset.univ) (hx := hx) (hm := hm) (k := k)
    (S := M.view.set) (f := f) (by rw [View.setOn_univ]; exact View.set_slice_subset _ _)) $$ H
  iintro H
  iapply Hk; iexists _; isplitr
  on_goal 2 => iexact H
  ipureintro
  have h := View.read_write_univ (v := M.access (Rect.unit (s := s) off s.size inb)) (Val := Elt F) f w
  funext j
  have h2 := congrFun h j
  rw [← h2]
  show M.view.read (Elt F) _ j = M.view.read (Elt F) _ ((Rect.unit (s := s) off s.size inb).emb j)
  rw [Rect.emb_unit_full]
end Mem

/-! ## The exchange's steps -/

/-- The invariants of all cells, at names `K`. -/
def Inv (K : GSem nD τ sig → ℕ) : sProp 𝕄 :=
  bigSep Finset.univ (fun p : Dev nD × Fin 19 => cellInv ER (Rd m) (K (kcell p.1 p.2)) (kcell p.1 p.2))

instance Inv_persistent (K : GSem nD τ sig → ℕ) : BI.Persistent (Inv m K) := by unfold Inv; infer_instance

theorem inv_at (K : GSem nD τ sig → ℕ) (c : Dev nD) (k : Fin 19) :
    (Inv m K : sProp 𝕄) ⊢ cellInv ER (Rd m) (K (kcell c k)) (kcell c k) := by
  unfold Inv
  refine (Entails.of_eq (bigSep_erase (Finset.mem_univ (c, k)))).trans ?_
  refine (show iprop(cellInv ER (Rd m) (K (kcell c k)) (kcell c k)
    ∗ bigSep (Finset.univ.erase (c, k)) (fun p : Dev nD × Fin 19 => cellInv ER (Rd m) (K (kcell p.1 p.2)) (kcell p.1 p.2))) ⊢ _ from ?_)
  iintro ⟨H, -⟩; iexact H

/-- What a device owes, whatever waits it has recorded. -/
def owing (c : Dev nD) (O : CellTallies nD τ sig Unit) : sProp 𝕄 := iprop(∃ W, owes (c : Thread nD τ) O W)
/-- The right to wait for a copy at cell `k`. -/
abbrev crd (c : Dev nD) (k : Fin 19) : sProp 𝕄 := cred (tallyAt (kcell c k) () (amt k))
/-- The right to pay duty `d` of round `r` of cell `k`. -/
abbrev tok (c : Dev nD) (k : Fin 19) (r : ℕ) (d : Fin 3) : sProp 𝕄 := dutyTok ER (kcell c k) r d
/-- The device stands before round `r` of its cell `k`. -/
abbrev pos (c : Dev nD) (k : Fin 19) (r : ℕ) : sProp 𝕄 := atPos ER (kcell c k) r ∅ 0
/-- Round `r` of cell `k` is reached. -/
abbrev rch (c : Dev nD) (k : Fin 19) (r : ℕ) : sProp 𝕄 := reached ER (kcell c k) r

section Talk
variable {α : Type} (K : GSem nD τ sig → ℕ) (c : Dev nD)

/-- Signalling a partner's barrier. -/
theorem signal_step {n : Dev nD} (c' : Dev nD) (hn : n = c') (i : Fin 11) (d : Fin 3) (hd : dst c i = c') (hk : kd i = 0)
    {k : PUnit → Prog (TpuEff nD τ sig (Elt F) Λ₀ .tc) α} {Q : α → sProp 𝕄} :
    (iprop(Inv m K ∗ owing c (owe c i.val) ∗ tok c' 0 0 d ∗ barPay c' d ∗ rch c' 0 0) : sProp 𝕄)
      ⊢ iprop((owing c (owe c (i.val + 1)) -∗ wpc c (k ⟨⟩) Q) -∗ wpc c (.op (.semSignal ((n, .tc) : Thread nD τ) barS (1#32 : BitVec 32).toInt) k) Q) := by
  subst hn
  unfold owing
  iintro ⟨#HI, ⟨%W, HO⟩, Ht, Hp, Hr⟩ Hk
  ihave #HI' := (inv_at m K n 0) $$ HI
  have hO := owe_step c i
  rw [hd, hk] at hO
  iapply (Rounds.wp_signal 𝒱₀ ER (Rd m) (c : Thread nD τ) none (dst := (n : Thread nD τ)) (sem := barS) (r := 0) (d := d) (κ := K (kcell n 0))
      (by rw [duties_eq m n 0]; exact Finset.mem_univ _) (amount_eq m n 0 0 d) () (owe c (i.val + 1)) hO (W := W))
    $$ [HO Ht Hp Hr]
  · isplitr; · iexact HI'
    isplitl [HO]; · iexact HO
    isplitl [Ht]; · iexact Ht
    isplitl [Hp]
    · rw [payload_eq m n 0, show pay m n 0 0 d = barPay n d from if_pos rfl]; iexact Hp
    · iexact Hr
  iintro HO
  iapply Hk; iexists W; iexact HO

/-- Waiting at the barrier: the partners' blocks come. -/
theorem barrier_step (n : ℕ) (hl : ∀ i : Fin 11, n ≤ i.val → lvk 0 < lvk (kd i))
    {k : PUnit → Prog (TpuEff nD τ sig (Elt F) Λ₀ .tc) α} {Q : α → sProp 𝕄} :
    (iprop(Inv m K ∗ levAts L lv ∗ cred (tallyAt (kcell c 0) () 3) ∗ owing c (owe c n) ∗ pos c 0 0) : sProp 𝕄)
      ⊢ iprop(((owing c (owe c n) ∗ pos c 0 1 ∗ barPay c 0 ∗ barPay c 1 ∗ barPay c 2) -∗ wpc c (k ⟨⟩) Q)
        -∗ wpc c (.op (.semWait barS (3#32 : BitVec 32).toInt) k) Q) := by
  unfold owing
  iintro ⟨#HI, #Hlev, Hc, ⟨%W, HO⟩, Hat⟩ Hk
  ihave #HI' := (inv_at m K c 0) $$ HI
  iapply (Rounds.wp_wait_rest_token 𝒱₀ ER (Rd m) (c : Thread nD τ) none (κ := K (kcell c 0))
      (wpE_semWait_eq 𝒱₀ (c : Thread nD τ) none Set.univ) (Set.mem_univ _) () (O := owe c n) (W := W) (R := 0) (m := 0) (T := ∅)
      ((Nat.zero_add 3).trans (expect_bar m c).symm)) $$ [Hc HO Hat]
  · isplitr; · iexact HI'
    isplitl [Hc]; · iexact Hc
    isplitl [HO]; · iexact HO
    isplitr; · iapply (mayWait c 0 n hl); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- Waiting for a copy at cell `κ`: what it delivers comes. -/
theorem wait_step (κ : Fin 19) (r n : ℕ) (h0 : κ ≠ 0) (hd : dut κ r = {0}) (hl : ∀ i : Fin 11, n ≤ i.val → lvk κ < lvk (kd i))
    {sm : DmaSem sig} (hs : SemLoc.dma sm = osem κ)
    {sp sp' : Space} {s s' : Shape} {e e' : EltTy} {src : Memref sig .tc sp s e} {dst : Memref sig .tc sp' s' e'} {hsrc : src.view.WordExact} {hdst : dst.view.WordExact}
    (hN : dst.view.dmaCredit = amt κ)
    {k : PUnit → Prog (TpuEff nD τ sig (Elt F) Λ₀ .tc) α} {Q : α → sProp 𝕄} :
    (iprop(Inv m K ∗ levAts L lv ∗ crd c κ ∗ owing c (owe c n) ∗ pos c κ r) : sProp 𝕄)
      ⊢ iprop(((owing c (owe c n) ∗ pos c κ (r + 1) ∗ rch c κ (r + 1) ∗ cpPay m c r κ) -∗ wpc c (k ⟨⟩) Q)
        -∗ wpc c (.op (.waitDma2 sm src dst hsrc hdst) k) Q) := by
  unfold owing
  iintro ⟨#HI, #Hlev, Hc, ⟨%W, HO⟩, Hat⟩ Hk
  ihave #HI' := (inv_at m K c κ) $$ HI
  iapply (Rounds.wp_wait_rest_token 𝒱₀ ER (Rd m) (c : Thread nD τ) none (κ := K (kcell c κ)) (sm := osem κ) (k' := amt κ)
      (by rw [← hs, ← hN]; exact wpE_waitDma2_eq 𝒱₀ (c : Thread nD τ) none Set.univ) (Set.mem_univ _) () (O := owe c n) (W := W) (R := r) (m := 0) (T := ∅)
      ((Nat.zero_add _).trans (expect_cp m c κ r hd).symm)) $$ [Hc HO Hat]
  · isplitr; · iexact HI'
    isplitl [Hc]; · iexact Hc
    isplitl [HO]; · iexact HO
    isplitr; · iapply (mayWait c κ n hl); iexact Hlev
    iexact Hat
  iintro ⟨HO, Hat, Hr, Hpay⟩
  ihave Hp := (Entails.of_eq (rest_cp m c κ r hd h0)) $$ Hpay
  iapply Hk
  isplitl [HO]; · iexists _; iexact HO
  isplitl [Hat]; · iexact Hat
  isplitl [Hr]; · iexact Hr
  iexact Hp

/-- Sending a slab to a partner. -/
theorem send_step {n : Dev nD} (c' : Dev nD) (hn : n = c') (i : Fin 11) (hd : dst c i = c') (κ₁ : Fin 19) (h₁ : amt κ₁ = N) (hd₁ : dut κ₁ 0 = {0}) (h₁0 : κ₁ ≠ 0)
    (h₂ : amt (kd i) = N) (hd₂ : dut (kd i) 0 = {0}) (h₂0 : kd i ≠ 0)
    {s₁ s₂ : DmaSem sig} (hs₁ : SemLoc.dma s₁ = osem κ₁) (hs₂ : SemLoc.dma s₂ = osem (kd i))
    {src : Memref sig .tc .vmem S320x1024 .bf16} {dst : Memref sig .tc .vmem S320x1024 .bf16} {hsc : dst.view.ref.isScScratch = false}
    {hsrc : src.view.WordExact} {hdst : dst.view.WordExact} {hsem : DmaTarget.Typed .vmem (.dma s₂) (.remote ((n, .tc) : Thread nD τ) dst (.dma s₁) hsc)}
    {q : PosShare TreeShare} {X : S320x1024.Idx → Elt F .bf16}
    (hN : dst.view.dmaCredit = N)
    (hp₁ : cpPay m c 0 κ₁ = ownsTc c src q X) (hp₂ : cpPay m c' 0 (kd i) = ownsTc c' dst fullShare X)
    {k : PUnit → Prog (TpuEff nD τ sig (Elt F) Λ₀ .tc) α} {Q : α → sProp 𝕄} :
    (iprop(Inv m K ∗ ownsTc c src q X ∗ anyTc c' dst ∗ owing c (owe c i.val) ∗ tok c κ₁ 0 0 ∗ rch c κ₁ 0 ∗ tok c' (kd i) 0 0 ∗ rch c' (kd i) 0) : sProp 𝕄)
      ⊢ iprop(((crd c κ₁ ∗ owing c (owe c (i.val + 1))) -∗ wpc c (k ⟨⟩) Q)
        -∗ wpc c (.op (.enqueueDma src (.remote ((n, .tc) : Thread nD τ) dst (.dma s₁) hsc) (.dma s₂) hsrc hdst hsem) k) Q) := by
  subst hn
  unfold owing
  have e₁ : ownsTc c src q X ⊢ (iprop(∃ f, ⌜src.view.read (Elt F) f = X⌝ ∗ (src.view.loc (c : Thread nD τ) ↦[src.view.set]{q} f)) : sProp 𝕄) := .rfl
  have e₂ : anyTc n dst ⊢ (iprop(∃ f, (dst.view.loc (n : Thread nD τ) ↦[dst.view.set]{fullShare} f)) : sProp 𝕄) := by
    unfold anyTc ownsTc owns; iintro ⟨%Y, %f, -, H⟩; iexists f; iexact H
  iintro ⟨#HI, Hs, Hd, ⟨%W, HO⟩, Ht₁, Hr₁, Ht₂, Hr₂⟩ Hk
  ihave #HI₁ := (inv_at m K c κ₁) $$ HI
  ihave #HI₂ := (inv_at m K n (kd i)) $$ HI
  ihave Hs' := e₁ $$ Hs
  ihave Hd' := e₂ $$ Hd
  icases Hs' with ⟨%fs, %hfs, Hs⟩
  icases Hd' with ⟨%fd, Hd⟩
  have hO : owe c i.val = owe c (i.val + 1) + tallyAt ((n : Thread nD τ), .dma s₂) () N := by
    rw [hs₂, ← h₂, ← hd]; exact owe_step c i
  subst hfs
  have hpay₁ : (src.view.loc (c : Thread nD τ) ↦[src.view.set]{q} fs : sProp 𝕄) ⊢ (Rd (F := F) m).payload ((c : Thread nD τ), .dma s₁) 0 0 := by
    rw [hs₁, payload_eq m c κ₁ 0 0, show pay m c κ₁ 0 0 = cpPay m c 0 κ₁ from if_neg h₁0, hp₁]
    exact owns_intro _ _ _ _
  have hpay₂ : (dst.view.loc (n : Thread nD τ) ↦[dst.view.set]{fullShare} (dst.view.write (Elt F) fd (src.view.read (Elt F) fs) Finset.univ) : sProp 𝕄)
      ⊢ (Rd (F := F) m).payload ((n : Thread nD τ), .dma s₂) 0 0 := by
    rw [hs₂, payload_eq m n (kd i) 0 0, show pay m n (kd i) 0 0 = cpPay m n 0 (kd i) from if_neg h₂0, hp₂]
    refine (owns_intro (n : Thread nD τ) dst fullShare _).trans ?_
    rw [View.read_write_univ]
  have ha₁ : (Rd (F := F) m).amount ((c : Thread nD τ), .dma s₁) 0 0 = N := by rw [hs₁, amount_eq, h₁]
  have ha₂ : (Rd (F := F) m).amount ((n : Thread nD τ), .dma s₂) 0 0 = N := by rw [hs₂, amount_eq, h₂]
  iapply (Rounds.wp_send_pointsTo 𝒱₀ ER (Rd m) (c : Thread nD τ) none (c' := (n : Thread nD τ)) (src := src) (dst := dst) (hsc := hsc)
      (sS := .dma s₁) (sem := .dma s₂) (q := q) (fs := fs) (κ₁ := K (kcell c κ₁)) (κ₂ := K (kcell n (kd i)))
      (r₁ := 0) (r₂ := 0) (d₁ := 0) (d₂ := 0) (fd := fd)
      (by rw [hs₁, duties_eq m c κ₁, hd₁]; exact Finset.mem_singleton_self _) (by rw [hs₂, duties_eq m n (kd i), hd₂]; exact Finset.mem_singleton_self _)
      () () N hN ha₁ ha₂ (owe c (i.val + 1)) hO (W := W) hpay₁ hpay₂) $$ [Hs Hd HO Ht₁ Hr₁ Ht₂ Hr₂]
  · rw [hs₁, hs₂]
    isplitr; · iexact HI₁
    isplitr; · iexact HI₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]; · rw [hs₁, ← h₁]; iexact Hc
  iexists W; iexact HO

/-- Starting a copy of an expert's weights. -/
theorem copy_step (κ : Fin 19) (r : ℕ) (h0 : κ ≠ 0) (hd : dut κ r = {0})
    {sm : DmaSem sig} (hs : SemLoc.dma sm = osem κ)
    {s : Shape} {e : EltTy} {src : Memref sig .tc .hbm s e} {dst : Memref sig .tc .vmem s e} {hsrc : src.view.WordExact} {hdst : dst.view.WordExact}
    {hsem : DmaTarget.Typed (nD := nD) .hbm (.dma sm) (DmaTarget.here (p := Proc.tc) dst)}
    (fs : Buf (Elt F) (src.view.loc (c : Thread nD τ)))
    (hN : dst.view.dmaCredit = amt κ)
    (hp : cpPay m c r κ = iprop(ownsTc c dst fullShare (src.view.read (Elt F) fs) ∗ (src.view.loc (c : Thread nD τ) ↦[src.view.set]{fullShare} fs)))
    {k : PUnit → Prog (TpuEff nD τ sig (Elt F) Λ₀ .tc) α} {Q : α → sProp 𝕄} :
    (iprop(Inv m K ∗ (src.view.loc (c : Thread nD τ) ↦[src.view.set]{fullShare} fs) ∗ anyTc c dst ∗ tok c κ r 0 ∗ rch c κ r) : sProp 𝕄)
      ⊢ iprop((crd c κ -∗ wpc c (k ⟨⟩) Q)
        -∗ wpc c (.op (.enqueueDma src (.here dst) (.dma sm) hsrc hdst hsem) k) Q) := by
  have e₂ : anyTc c dst ⊢ (iprop(∃ f, (dst.view.loc (c : Thread nD τ) ↦[dst.view.set]{fullShare} f)) : sProp 𝕄) := by
    unfold anyTc ownsTc owns; iintro ⟨%Y, %f, -, H⟩; iexists f; iexact H
  iintro ⟨#HI, Hs, Hd, Ht, Hr⟩ Hk
  ihave #HI' := (inv_at m K c κ) $$ HI
  ihave Hd' := e₂ $$ Hd
  icases Hd' with ⟨%fd, Hd⟩
  have hpay : (iprop((dst.view.loc (c : Thread nD τ) ↦[dst.view.set]{fullShare} (dst.view.write (Elt F) fd (src.view.read (Elt F) fs) Finset.univ))
      ∗ (src.view.loc (c : Thread nD τ) ↦[src.view.set]{fullShare} fs)) : sProp 𝕄) ⊢ (Rd (F := F) m).payload ((c : Thread nD τ), .dma sm) r 0 := by
    rw [hs, payload_eq m c κ r 0, show pay m c κ r 0 = cpPay m c r κ from if_neg h0, hp]
    refine sep_mono_left ((owns_intro (c : Thread nD τ) dst fullShare _).trans ?_)
    rw [View.read_write_univ]
  have ha : (Rd (F := F) m).amount ((c : Thread nD τ), .dma sm) r 0 = amt κ := by rw [hs, amount_eq]
  iapply (Rounds.wp_copy_pointsTo 𝒱₀ ER (Rd m) (c : Thread nD τ) none (src := src) (dst := dst) (sem := .dma sm) (q := fullShare)
      (fs := fs) (fd := fd) (r := r) (d := 0) (κ := K (kcell c κ))
      (by rw [hs, duties_eq m c κ, hd]; exact Finset.mem_singleton_self _) () (amt κ) hN ha hpay) $$ [Hs Hd Ht Hr]
  · rw [hs]
    isplitr; · iexact HI'
    isplitl [Hs]; · iexact Hs
    isplitl [Hd]; · iexact Hd
    isplitl [Ht]; · iexact Ht
    iexact Hr
  iintro Hc
  iapply Hk
  rw [hs]; iexact Hc
end Talk

end Cert.MoeK

end
-- ==== Proof.Slabs.lean ====
/-
  Buffers cut into slabs of rows: what a buffer holds when its slabs are put together, and the ownership of the buffer as that of its slabs.
-/
module

public import proofs.«01_k».proof.Proof.Steps
public import Idealize.ShloMosaic.Lib.Pipeline.ValueKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An index of a matrix. -/
def ix2 {a b : ℕ} (i : Fin a) (j : Fin b) : (⟨2, ![a, b]⟩ : Shape).Idx
  | ⟨0, _⟩ => i
  | ⟨1, _⟩ => j

/-- `k` slabs of `n` rows one below another. -/
def glue {α : Type} {k n w R : ℕ} (hR : R = k * n) (A : Fin k → (⟨2, ![n, w]⟩ : Shape).Idx → α) : (⟨2, ![R, w]⟩ : Shape).Idx → α :=
  fun x => A ⟨(x 0).val / n, Nat.div_lt_of_lt_mul (by have h : (x 0).val < R := (x 0).isLt; rw [Nat.mul_comm]; omega)⟩
    (ix2 ⟨(x 0).val % n, Nat.mod_lt _ (by
      rcases Nat.eq_zero_or_pos n with h0 | h0
      · have h : (x 0).val < R := (x 0).isLt
        subst h0; omega
      · exact h0)⟩ (x 1))

/-- The slab's rows of the whole are the slab. -/
theorem glue_emb {α : Type} {k n w R : ℕ} (hR : R = k * n) (A : Fin k → (⟨2, ![n, w]⟩ : Shape).Idx → α) (t : Fin k)
    {off : Fin 2 → ℕ} (h0 : off 0 = t.val * n) (h1 : off 1 = 0) (inb : ∀ a, off a + (⟨2, ![n, w]⟩ : Shape).size a ≤ (⟨2, ![R, w]⟩ : Shape).size a) :
    (fun j => glue hR A ((Rect.unit (s := ⟨2, ![R, w]⟩) off (⟨2, ![n, w]⟩ : Shape).size inb).emb j)) = A t := by
  funext j
  have hj : (j 0).val < n := (j 0).isLt
  have e0 : (((Rect.unit (s := ⟨2, ![R, w]⟩) off (⟨2, ![n, w]⟩ : Shape).size inb).emb j) 0).val = t.val * n + (j 0).val := by
    rw [ValueKit.rect_emb_unit_val, h0]
  have e1 : (((Rect.unit (s := ⟨2, ![R, w]⟩) off (⟨2, ![n, w]⟩ : Shape).size inb).emb j) 1).val = (j 1).val := by
    rw [ValueKit.rect_emb_unit_val, h1, Nat.zero_add]
  unfold glue
  have ht : ∀ h, (⟨(((Rect.unit (s := ⟨2, ![R, w]⟩) off (⟨2, ![n, w]⟩ : Shape).size inb).emb j) 0).val / n, h⟩ : Fin k) = t := by
    intro h
    apply Fin.ext
    show _ / n = t.val
    rw [e0, Nat.mul_comm, Nat.mul_add_div (by omega), Nat.div_eq_of_lt hj, Nat.add_zero]
  rw [ht]
  congr 1
  funext a
  match a with
  | ⟨0, _⟩ =>
    apply Fin.ext
    show _ % n = (j 0).val
    rw [e0, Nat.mul_comm, Nat.mul_add_mod, Nat.mod_eq_of_lt hj]
  | ⟨1, _⟩ => exact Fin.ext e1

/-! ## The families of slabs -/

/-- The two slabs of a 640-row buffer. -/
abbrev rr : Fin 2 → Rect S640x1024
  | 0 => r0
  | 1 => r1
/-- The four slabs of a 1280-row buffer. -/
abbrev qq : Fin 4 → Rect S1280x1024
  | 0 => q0
  | 1 => q1
  | 2 => q2
  | 3 => q3

/-- The four 512-row slabs of a 2048-row buffer. -/
abbrev p0 : Rect S2048x1024 := Rect.unit (s := S2048x1024) ![0, 0] S512x1024.size inb_S2048x1024_S512x1024_0_0
abbrev p1 : Rect S2048x1024 := Rect.unit (s := S2048x1024) ![512, 0] S512x1024.size inb_S2048x1024_S512x1024_512_0
abbrev p2 : Rect S2048x1024 := Rect.unit (s := S2048x1024) ![1024, 0] S512x1024.size inb_S2048x1024_S512x1024_1024_0
abbrev p3 : Rect S2048x1024 := Rect.unit (s := S2048x1024) ![1536, 0] S512x1024.size inb_S2048x1024_S512x1024_1536_0
abbrev pp : Fin 4 → Rect S2048x1024
  | 0 => p0
  | 1 => p1
  | 2 => p2
  | 3 => p3

theorem rr_mem (t : Fin 2) (i : S640x1024.Idx) : i ∈ (rr t).set ↔ t.val * 320 ≤ (i 0).val ∧ (i 0).val < t.val * 320 + 320 := by
  have h1 : (i 1).val < 1024 := (i 1).isLt
  match t with
  | 0 | 1 =>
    rw [Rect.mem_set_unit]
    constructor
    · intro h; exact h 0
    · intro h a
      match a with
      | ⟨0, _⟩ => exact h
      | ⟨1, _⟩ => exact ⟨Nat.zero_le _, by show (i 1).val < 0 + 1024; omega⟩
theorem qq_mem (t : Fin 4) (i : S1280x1024.Idx) : i ∈ (qq t).set ↔ t.val * 320 ≤ (i 0).val ∧ (i 0).val < t.val * 320 + 320 := by
  have h1 : (i 1).val < 1024 := (i 1).isLt
  match t with
  | 0 | 1 | 2 | 3 =>
    rw [Rect.mem_set_unit]
    constructor
    · intro h; exact h 0
    · intro h a
      match a with
      | ⟨0, _⟩ => exact h
      | ⟨1, _⟩ => exact ⟨Nat.zero_le _, by show (i 1).val < 0 + 1024; omega⟩
theorem pp_mem (t : Fin 4) (i : S2048x1024.Idx) : i ∈ (pp t).set ↔ t.val * 512 ≤ (i 0).val ∧ (i 0).val < t.val * 512 + 512 := by
  have h1 : (i 1).val < 1024 := (i 1).isLt
  match t with
  | 0 | 1 | 2 | 3 =>
    rw [Rect.mem_set_unit]
    constructor
    · intro h; exact h 0
    · intro h a
      match a with
      | ⟨0, _⟩ => exact h
      | ⟨1, _⟩ => exact ⟨Nat.zero_le _, by show (i 1).val < 0 + 1024; omega⟩

theorem rr_hr (t : Fin 2) (a) : (rr t).stride a = 1 := by match t with | 0 | 1 => rfl
theorem qq_hr (t : Fin 4) (a) : (qq t).stride a = 1 := by match t with | 0 | 1 | 2 | 3 => rfl
theorem pp_hr (t : Fin 4) (a) : (pp t).stride a = 1 := by match t with | 0 | 1 | 2 | 3 => rfl

theorem rr_disj (t t' : Fin 2) (h : t ≠ t') : Disjoint (rr t).set (rr t').set := by
  rw [Finset.disjoint_left]; intro i hi hi'
  rw [rr_mem] at hi hi'
  exact h (Fin.ext (by omega))
theorem qq_disj (t t' : Fin 4) (h : t ≠ t') : Disjoint (qq t).set (qq t').set := by
  rw [Finset.disjoint_left]; intro i hi hi'
  rw [qq_mem] at hi hi'
  exact h (Fin.ext (by omega))
theorem pp_disj (t t' : Fin 4) (h : t ≠ t') : Disjoint (pp t).set (pp t').set := by
  rw [Finset.disjoint_left]; intro i hi hi'
  rw [pp_mem] at hi hi'
  exact h (Fin.ext (by omega))

theorem rr_cov : (Finset.univ : Finset (Fin 2)).biUnion (fun t => (rr t).set) = Finset.univ := by
  refine Finset.eq_univ_of_forall fun i => Finset.mem_biUnion.mpr ?_
  have h : (i 0).val < 640 := (i 0).isLt
  refine ⟨⟨(i 0).val / 320, by omega⟩, Finset.mem_univ _, ?_⟩
  rw [rr_mem]; dsimp only; omega
theorem qq_cov : (Finset.univ : Finset (Fin 4)).biUnion (fun t => (qq t).set) = Finset.univ := by
  refine Finset.eq_univ_of_forall fun i => Finset.mem_biUnion.mpr ?_
  have h : (i 0).val < 1280 := (i 0).isLt
  refine ⟨⟨(i 0).val / 320, by omega⟩, Finset.mem_univ _, ?_⟩
  rw [qq_mem]; dsimp only; omega
theorem pp_cov : (Finset.univ : Finset (Fin 4)).biUnion (fun t => (pp t).set) = Finset.univ := by
  refine Finset.eq_univ_of_forall fun i => Finset.mem_biUnion.mpr ?_
  have h : (i 0).val < 2048 := (i 0).isLt
  refine ⟨⟨(i 0).val / 512, by omega⟩, Finset.mem_univ _, ?_⟩
  rw [pp_mem]; dsimp only; omega

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep2 (Φ : Fin 2 → sProp 𝕄) : bigSep Finset.univ Φ = iprop(Φ 0 ∗ Φ 1) :=
  bigSep_univ_eq_bigSepL [0, 1] (by decide) (by decide) Φ

section
variable (c : Dev nD) (q : PosShare TreeShare)

/-- A 640-row buffer's ownership, slab by slab. -/
theorem split2 {sp : Space} {e : EltTy} (M : Memref sig .tc sp S640x1024 e) (X : S640x1024.Idx → Elt F e) :
    (ownsTc c M q X : sProp 𝕄) ⊢ iprop(ownsTc c (M.slice r0 (fun _ => rfl)) q (fun j => X (r0.emb j)) ∗ ownsTc c (M.slice r1 (fun _ => rfl)) q (fun j => X (r1.emb j))) := by
  refine (owns_rects (c : Thread nD τ) M q rr rr_hr rr_disj rr_cov X).trans ?_
  rw [bigSep2]
theorem join2 {sp : Space} {e : EltTy} (M : Memref sig .tc sp S640x1024 e) (A : Fin 2 → S320x1024.Idx → Elt F e) :
    (iprop(ownsTc c (M.slice r0 (fun _ => rfl)) q (A 0) ∗ ownsTc c (M.slice r1 (fun _ => rfl)) q (A 1)) : sProp 𝕄) ⊢ ownsTc c M q (glue (R := 640) rfl A) := by
  have h := owns_of_rects (c : Thread nD τ) M q rr rr_hr rr_disj rr_cov (glue (R := 640) rfl A) (Val := Elt F) (Ix := Unit) (Name := ℕ) (U := UU) (Lvl := ℕ)
  rw [bigSep2] at h
  have h0 := glue_emb (R := 640) rfl A 0 (off := ![0, 0]) rfl rfl inb_S640x1024_S320x1024_0_0
  have h1 := glue_emb (R := 640) rfl A 1 (off := ![320, 0]) rfl rfl inb_S640x1024_S320x1024_320_0
  refine Entails.trans (Entails.of_eq ?_) h
  rw [← h0, ← h1]

/-- A 1280-row buffer's ownership, slab by slab. -/
theorem split4 {sp : Space} {e : EltTy} (M : Memref sig .tc sp S1280x1024 e) (X : S1280x1024.Idx → Elt F e) :
    (ownsTc c M q X : sProp 𝕄) ⊢ iprop(ownsTc c (M.slice q0 (fun _ => rfl)) q (fun j => X (q0.emb j)) ∗ ownsTc c (M.slice q1 (fun _ => rfl)) q (fun j => X (q1.emb j))
      ∗ ownsTc c (M.slice q2 (fun _ => rfl)) q (fun j => X (q2.emb j)) ∗ ownsTc c (M.slice q3 (fun _ => rfl)) q (fun j => X (q3.emb j))) := by
  refine (owns_rects (c : Thread nD τ) M q qq qq_hr qq_disj qq_cov X).trans ?_
  rw [bigSep4]
theorem join4 {sp : Space} {e : EltTy} (M : Memref sig .tc sp S1280x1024 e) (A : Fin 4 → S320x1024.Idx → Elt F e) :
    (iprop(ownsTc c (M.slice q0 (fun _ => rfl)) q (A 0) ∗ ownsTc c (M.slice q1 (fun _ => rfl)) q (A 1)
      ∗ ownsTc c (M.slice q2 (fun _ => rfl)) q (A 2) ∗ ownsTc c (M.slice q3 (fun _ => rfl)) q (A 3)) : sProp 𝕄) ⊢ ownsTc c M q (glue (R := 1280) rfl A) := by
  have h := owns_of_rects (c : Thread nD τ) M q qq qq_hr qq_disj qq_cov (glue (R := 1280) rfl A) (Val := Elt F) (Ix := Unit) (Name := ℕ) (U := UU) (Lvl := ℕ)
  rw [bigSep4] at h
  have h0 := glue_emb (R := 1280) rfl A 0 (off := ![0, 0]) rfl rfl inb_S1280x1024_S320x1024_0_0
  have h1 := glue_emb (R := 1280) rfl A 1 (off := ![320, 0]) rfl rfl inb_S1280x1024_S320x1024_320_0
  have h2 := glue_emb (R := 1280) rfl A 2 (off := ![640, 0]) rfl rfl inb_S1280x1024_S320x1024_640_0
  have h3 := glue_emb (R := 1280) rfl A 3 (off := ![960, 0]) rfl rfl inb_S1280x1024_S320x1024_960_0
  refine Entails.trans (Entails.of_eq ?_) h
  rw [← h0, ← h1, ← h2, ← h3]

/-- A 2048-row buffer's ownership, slab by slab. -/
theorem split5 {sp : Space} {e : EltTy} (M : Memref sig .tc sp S2048x1024 e) (X : S2048x1024.Idx → Elt F e) :
    (ownsTc c M q X : sProp 𝕄) ⊢ iprop(ownsTc c (M.slice p0 (fun _ => rfl)) q (fun j => X (p0.emb j)) ∗ ownsTc c (M.slice p1 (fun _ => rfl)) q (fun j => X (p1.emb j))
      ∗ ownsTc c (M.slice p2 (fun _ => rfl)) q (fun j => X (p2.emb j)) ∗ ownsTc c (M.slice p3 (fun _ => rfl)) q (fun j => X (p3.emb j))) := by
  refine (owns_rects (c : Thread nD τ) M q pp pp_hr pp_disj pp_cov X).trans ?_
  rw [bigSep4]
theorem join5 {sp : Space} {e : EltTy} (M : Memref sig .tc sp S2048x1024 e) (X : S2048x1024.Idx → Elt F e) :
    (iprop(ownsTc c (M.slice p0 (fun _ => rfl)) q (fun j => X (p0.emb j)) ∗ ownsTc c (M.slice p1 (fun _ => rfl)) q (fun j => X (p1.emb j))
      ∗ ownsTc c (M.slice p2 (fun _ => rfl)) q (fun j => X (p2.emb j)) ∗ ownsTc c (M.slice p3 (fun _ => rfl)) q (fun j => X (p3.emb j))) : sProp 𝕄) ⊢ ownsTc c M q X := by
  have h := owns_of_rects (c : Thread nD τ) M q pp pp_hr pp_disj pp_cov X (Val := Elt F) (Ix := Unit) (Name := ℕ) (U := UU) (Lvl := ℕ)
  rw [bigSep4] at h
  exact h
theorem join5g {sp : Space} {e : EltTy} (M : Memref sig .tc sp S2048x1024 e) (A : Fin 4 → S512x1024.Idx → Elt F e) :
    (iprop(ownsTc c (M.slice p0 (fun _ => rfl)) q (A 0) ∗ ownsTc c (M.slice p1 (fun _ => rfl)) q (A 1)
      ∗ ownsTc c (M.slice p2 (fun _ => rfl)) q (A 2) ∗ ownsTc c (M.slice p3 (fun _ => rfl)) q (A 3)) : sProp 𝕄) ⊢ ownsTc c M q (glue (R := 2048) rfl A) := by
  have h := join5 (F := F) c q M (glue (R := 2048) rfl A)
  have h0 := glue_emb (R := 2048) rfl A 0 (off := ![0, 0]) rfl rfl inb_S2048x1024_S512x1024_0_0
  have h1 := glue_emb (R := 2048) rfl A 1 (off := ![512, 0]) rfl rfl inb_S2048x1024_S512x1024_512_0
  have h2 := glue_emb (R := 2048) rfl A 2 (off := ![1024, 0]) rfl rfl inb_S2048x1024_S512x1024_1024_0
  have h3 := glue_emb (R := 2048) rfl A 3 (off := ![1536, 0]) rfl rfl inb_S2048x1024_S512x1024_1536_0
  refine Entails.trans (Entails.of_eq ?_) h
  rw [← h0, ← h1, ← h2, ← h3]
end

/-! ## What the glued buffers hold -/

variable (m : (ℓ : Loc nD τ sig) → Buf (Elt F) ℓ)

/-- The results of the own side's rows, all four experts'. -/
def ylS (c : Dev nD) : Fin 4 → Vec F S320x1024 .bf16
  | 0 => ylV m c 0
  | 1 => ylV m c 1
  | 2 => ylV m (zp c) 0
  | 3 => ylV m (zp c) 1
def ylF (c : Dev nD) : Vec F S1280x1024 .bf16 := glue (R := 1280) rfl (ylS m c)
/-- The results of the rows sent across, all four experts'. -/
def yrS (c : Dev nD) : Fin 4 → Vec F S320x1024 .bf16
  | 0 => ybV m (xp c) 0
  | 1 => ybV m (xp c) 1
  | 2 => ybV m (dg c) 0
  | 3 => ybV m (dg c) 1
def yrF (c : Dev nD) : Vec F S1280x1024 .bf16 := glue (R := 1280) rfl (yrS m c)

/-- The columns of a selection that belong to one group of 512 tokens. -/
def cols (i : Fin 4) (p : Vec F S1280x2048 .bf16) : Vec F S1280x512 .bf16 :=
  match i with
  | 0 => fun j => p ((Rect.unit (s := S1280x2048) ![0, 0] S1280x512.size inb_S1280x2048_S1280x512_0_0).emb j)
  | 1 => fun j => p ((Rect.unit (s := S1280x2048) ![0, 512] S1280x512.size inb_S1280x2048_S1280x512_0_512).emb j)
  | 2 => fun j => p ((Rect.unit (s := S1280x2048) ![0, 1024] S1280x512.size inb_S1280x2048_S1280x512_0_1024).emb j)
  | 3 => fun j => p ((Rect.unit (s := S1280x2048) ![0, 1536] S1280x512.size inb_S1280x2048_S1280x512_0_1536).emb j)

/-- The own side's part of the result, by groups of 512 tokens, -/
def oaV (c : Dev nD) (i : Fin 4) : Vec F S512x1024 .bf16 := k0_pay20 (cols i (plV m c)) (ylF m c)
/-- and with the other side's added. -/
def oV (c : Dev nD) (i : Fin 4) : Vec F S512x1024 .bf16 := k0_pay25 (cols i (psV m c)) (yrF m c) (oaV m c i)
/-- The result. -/
def outV (c : Dev nD) : Vec F S2048x1024 .bf16 := glue (R := 2048) rfl (oV m c)

end Cert.MoeK

end
-- ==== Proof.Windows.lean ====
/-
  The kernel's one region as the pipeline sees it: what each window's buffer holds before and after the body, and what the windows' arrays hold at
  the end.
-/
module

public import proofs.«01_k».proof.Proof.Slabs
public import Idealize.ShloMosaic.Lib.Pipeline.Value

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the region leaves in the result's array. -/
def outs : Outs (F := F) := fun _ r c => if h : r = main_v89 then (by subst h; exact outV m c) else V5 m c r

/-- What the region's buffers hold: the arrays at what the host code left, the staged blocks after the body, and `A0` before, `A1` after the body. -/
def datOf (A0 A1 : sProp 𝕄) (c : Dev nD) : Pipeline.Dat τ (Elt F) Unit ℕ UU ℕ cfg0 c where
  A w := V5 m c (Proc.devRef .tc (Pipeline.arrRef spec0 w))
  after w _ := match w with
    | ⟨0, _⟩ => xV m c
    | ⟨1, _⟩ => plV m c
    | ⟨2, _⟩ => psV m c
    | ⟨3, _⟩ => outV m c
    | ⟨_ + 4, h⟩ => absurd h (Nat.not_lt.2 (Nat.le_add_left _ _))
  Φ t := if t.val = 0 then A0 else A1
  q _ := fullShare
  owed t := if t.val = 0 then owe c 0 else 0

section
variable (c : Dev nD)

theorem phi_first (A0 A1 : sProp 𝕄) : (datOf m A0 A1 c).Φ t0_0.castSucc = A0 := by
  show (if (t0_0.castSucc : Fin (grid0.N + 1)).val = 0 then A0 else A1) = A0; exact if_pos rfl
theorem phi_last (A0 A1 : sProp 𝕄) : (datOf m A0 A1 c).Φ t0_0.succ = A1 := by
  show (if (t0_0.succ : Fin (grid0.N + 1)).val = 0 then A0 else A1) = A1; exact if_neg (by decide)
theorem owed_first (A0 A1 : sProp 𝕄) : (datOf m A0 A1 c).owed t0_0.castSucc = owe c 0 := by
  show (if (t0_0.castSucc : Fin (grid0.N + 1)).val = 0 then owe c 0 else 0) = owe c 0; exact if_pos rfl
theorem owed_last (A0 A1 : sProp 𝕄) : (datOf m A0 A1 c).owed t0_0.succ = 0 := by
  show (if (t0_0.succ : Fin (grid0.N + 1)).val = 0 then owe c 0 else 0) = 0; exact if_neg (by decide)

/-- The region's only point stages each array whole. -/
theorem index_zero : ∀ (t : Fin cfg0.N) (w : Fin 4) (a : Fin (cfg0.win w).shape.rank), (cfg0.win w).index t a = 0 :=
  (by decide +kernel : ∀ (t : Fin grid0.N) (w : Fin 4) (a : Fin (win0 w).shape.rank), (win0 w).index t a = 0)

theorem before0 (A0 A1 : sProp 𝕄) (t : Fin cfg0.N) (d) : (datOf m A0 A1 c).before 0 t d = xV m c := by
  rw [(datOf m A0 A1 c).before_fetched 0 t (fetch0_0 t) d]
  funext j
  exact congrArg (V5 m c main_arg0) (funext fun a => Fin.ext ((cfg0.win 0).rect_emb_val_of_index_zero t a (index_zero t 0 a) j))
theorem before1 (A0 A1 : sProp 𝕄) (t : Fin cfg0.N) (d) : (datOf m A0 A1 c).before 1 t d = plV m c := by
  rw [(datOf m A0 A1 c).before_fetched 1 t (fetch0_1 t) d]
  funext j
  exact congrArg (V5 m c main_v65) (funext fun a => Fin.ext ((cfg0.win 1).rect_emb_val_of_index_zero t a (index_zero t 1 a) j))
theorem before2 (A0 A1 : sProp 𝕄) (t : Fin cfg0.N) (d) : (datOf m A0 A1 c).before 2 t d = psV m c := by
  rw [(datOf m A0 A1 c).before_fetched 2 t (fetch0_2 t) d]
  funext j
  exact congrArg (V5 m c main_v88) (funext fun a => Fin.ext ((cfg0.win 2).rect_emb_val_of_index_zero t a (index_zero t 2 a) j))

theorem V6_res : V6 m (outs m) c (Proc.devRef .tc main_v89) = outV m c := by
  show Function.update (V5 m c) _ _ _ = _
  rw [Function.update_self]; unfold outs; rw [dif_pos rfl]
theorem V6_ne (b : DevRef τ sig) (hb : b ≠ Proc.devRef .tc main_v89) : V6 m (outs m) c b = V5 m c b := by
  show Function.update (V5 m c) _ _ _ = _
  rw [Function.update_of_ne hb]

/-- What the windows' arrays hold at the end: the inputs as they were, the result's the result. -/
theorem arr_end (A0 A1 : sProp 𝕄) (w : Fin 4) : (datOf m A0 A1 c).arrAt w cfg0.N = V6 m (outs m) c (Proc.devRef .tc (Pipeline.arrRef spec0 w)) := by
  match w with
  | ⟨0, _⟩ => exact ((datOf m A0 A1 c).arrAt_in 0 rfl _).trans (V6_ne m c (Proc.devRef .tc main_arg0) (by decide)).symm
  | ⟨1, _⟩ => exact ((datOf m A0 A1 c).arrAt_in 1 rfl _).trans (V6_ne m c (Proc.devRef .tc main_v65) (by decide)).symm
  | ⟨2, _⟩ => exact ((datOf m A0 A1 c).arrAt_in 2 rfl _).trans (V6_ne m c (Proc.devRef .tc main_v88) (by decide)).symm
  | ⟨3, _⟩ =>
    refine Eq.trans ?_ (V6_res m c).symm
    refine (datOf m A0 A1 c).arrAt_eq_of_cover 3 (outV m c) (fun t _ => ?_) (fun i => ⟨t0_0, flush0_3 _, ?_⟩)
    · funext j
      exact congrArg (outV m c) (funext fun a => Fin.ext ((cfg0.win 3).rect_emb_val_of_index_zero t a (index_zero t 3 a) j).symm)
    · exact Finset.mem_map.mpr ⟨i, Finset.mem_univ _, funext fun a => Fin.ext ((cfg0.win 3).rect_emb_val_of_index_zero t0_0 a (index_zero t0_0 3 a) i)⟩
end

end Cert.MoeK

end
-- ==== Proof.BodyKit.lean ====
/-
  What the kernel's body needs beside its steps: blocks at whatever they hold, halves of a block, the barrier's payments put together, and the
  equal forms of the values the body stores.
-/
module

public import proofs.«01_k».proof.Proof.Slabs

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem any_elim {s : Shape} {e : EltTy} {sp : Space} (M : Memref sig .tc sp s e) :
    (anyTc c M : sProp 𝕄) ⊢ iprop(∃ X, ownsTc c M fullShare X) := .rfl
theorem any_intro {s : Shape} {e : EltTy} {sp : Space} (M : Memref sig .tc sp s e) (X : s.Idx → Elt F e) :
    (ownsTc c M fullShare X : sProp 𝕄) ⊢ anyTc c M := by
  unfold anyTc; iintro H; iexists X; iexact H

/-- A stretch that ends hands over. -/
theorem ret_run {α : Type} (a : α) (Kt : α → sProp 𝕄) : (Kt a : sProp 𝕄) ⊢ wpc c (.ret a) Kt := by
  unfold wpc; rw [wp_ret]; iintro H; imodintro; iexact H

/-- A block's ownership in two halves, -/
theorem halves {s : Shape} {e : EltTy} {sp : Space} (M : Memref sig .tc sp s e) (X : s.Idx → Elt F e) :
    (ownsTc c M fullShare X : sProp 𝕄) ⊢ iprop(ownsTc c M fullShare.left X ∗ ownsTc c M fullShare.right X) := by
  unfold ownsTc owns
  iintro ⟨%f, %hf, H⟩
  ihave H' := (pointsTo_share (PosShare.mem_left_op_right fullShare)).1 $$ H
  icases H' with ⟨H1, H2⟩
  isplitl [H1]
  · iexists f; isplitr
    · ipureintro; exact hf
    iexact H1
  · iexists f; isplitr
    · ipureintro; exact hf
    iexact H2
/-- and put together again. -/
theorem unhalves {s : Shape} {e : EltTy} {sp : Space} (M : Memref sig .tc sp s e) (X : s.Idx → Elt F e) :
    (iprop(ownsTc c M fullShare.left X ∗ ownsTc c M fullShare.right X) : sProp 𝕄) ⊢ ownsTc c M fullShare X := by
  unfold ownsTc owns
  iintro ⟨⟨%f, %hf, H1⟩, ⟨%g, %hg, H2⟩⟩
  ihave %h := pointsTo_agree $$ [H1 H2]
  · isplitl [H1]
    · iexact H1
    · iexact H2
  ihave H2' := (Entails.of_eq (pointsTo_congr (fun i hi => ((h i (Finset.mem_inter.mpr ⟨hi, hi⟩)).1).symm))) $$ H2
  iexists f; isplitr
  · ipureintro; exact hf
  iapply (pointsTo_share (PosShare.mem_left_op_right fullShare)).2
  isplitl [H1]
  · iexact H1
  · iexact H2'

/-! ## The barrier's payments -/

theorem barGive0 : (iprop(anyTc c xr0 ∗ anyTc c xr1 ∗ anyTc c yr0 ∗ anyTc c yr1 ∗ rch c 3 0 ∗ rch c 4 0 ∗ rch c 7 0 ∗ rch c 8 0) : sProp 𝕄) ⊢ barPay (xp c) 0 := by
  show _ ⊢ iprop(anyTc (xp (xp c)) xr0 ∗ anyTc (xp (xp c)) xr1 ∗ anyTc (xp (xp c)) yr0 ∗ anyTc (xp (xp c)) yr1
      ∗ reached ER (kcell (xp (xp c)) 3) 0 ∗ reached ER (kcell (xp (xp c)) 4) 0 ∗ reached ER (kcell (xp (xp c)) 7) 0 ∗ reached ER (kcell (xp (xp c)) 8) 0)
  rw [xp_xp]
theorem barGive1 : (iprop(anyTc c yl2 ∗ anyTc c yl3 ∗ rch c 15 0 ∗ rch c 16 0) : sProp 𝕄) ⊢ barPay (zp c) 1 := by
  show _ ⊢ iprop(anyTc (zp (zp c)) yl2 ∗ anyTc (zp (zp c)) yl3 ∗ reached ER (kcell (zp (zp c)) 15) 0 ∗ reached ER (kcell (zp (zp c)) 16) 0)
  rw [zp_zp]
theorem barGive2 : (iprop(anyTc c yr2 ∗ anyTc c yr3 ∗ rch c 11 0 ∗ rch c 12 0) : sProp 𝕄) ⊢ barPay (dg c) 2 := by
  show _ ⊢ iprop(anyTc (dg (dg c)) yr2 ∗ anyTc (dg (dg c)) yr3 ∗ reached ER (kcell (dg (dg c)) 11) 0 ∗ reached ER (kcell (dg (dg c)) 12) 0)
  rw [dg_dg]
theorem barTake0 : (barPay c 0 : sProp 𝕄) ⊢ iprop(anyTc (xp c) xr0 ∗ anyTc (xp c) xr1 ∗ anyTc (xp c) yr0 ∗ anyTc (xp c) yr1 ∗ rch (xp c) 3 0 ∗ rch (xp c) 4 0 ∗ rch (xp c) 7 0 ∗ rch (xp c) 8 0) := .rfl
theorem barTake1 : (barPay c 1 : sProp 𝕄) ⊢ iprop(anyTc (zp c) yl2 ∗ anyTc (zp c) yl3 ∗ rch (zp c) 15 0 ∗ rch (zp c) 16 0) := .rfl
theorem barTake2 : (barPay c 2 : sProp 𝕄) ⊢ iprop(anyTc (dg c) yr2 ∗ anyTc (dg c) yr3 ∗ rch (dg c) 11 0 ∗ rch (dg c) 12 0) := .rfl

/-! ## What partners receive -/

theorem give3 : cpPay m (xp c) 0 3 = ownsTc (xp c) xr0 fullShare (xsV m c 0) := by
  show (ownsTc (xp c) xr0 fullShare (xsV m (xp (xp c)) 0) : sProp 𝕄) = _; rw [xp_xp]
theorem give4 : cpPay m (xp c) 0 4 = ownsTc (xp c) xr1 fullShare (xsV m c 1) := by
  show (ownsTc (xp c) xr1 fullShare (xsV m (xp (xp c)) 1) : sProp 𝕄) = _; rw [xp_xp]
theorem give7 : cpPay m (xp c) 0 7 = ownsTc (xp c) yr0 fullShare (ybV m c 0) := by
  show (ownsTc (xp c) yr0 fullShare (ybV m (xp (xp c)) 0) : sProp 𝕄) = _; rw [xp_xp]
theorem give8 : cpPay m (xp c) 0 8 = ownsTc (xp c) yr1 fullShare (ybV m c 1) := by
  show (ownsTc (xp c) yr1 fullShare (ybV m (xp (xp c)) 1) : sProp 𝕄) = _; rw [xp_xp]
theorem give11 : cpPay m (dg c) 0 11 = ownsTc (dg c) yr2 fullShare (ybV m c 0) := by
  show (ownsTc (dg c) yr2 fullShare (ybV m (dg (dg c)) 0) : sProp 𝕄) = _; rw [dg_dg]
theorem give12 : cpPay m (dg c) 0 12 = ownsTc (dg c) yr3 fullShare (ybV m c 1) := by
  show (ownsTc (dg c) yr3 fullShare (ybV m (dg (dg c)) 1) : sProp 𝕄) = _; rw [dg_dg]
theorem give15 : cpPay m (zp c) 0 15 = ownsTc (zp c) yl2 fullShare (ylV m c 0) := by
  show (ownsTc (zp c) yl2 fullShare (ylV m (zp (zp c)) 0) : sProp 𝕄) = _; rw [zp_zp]
theorem give16 : cpPay m (zp c) 0 16 = ownsTc (zp c) yl3 fullShare (ylV m c 1) := by
  show (ownsTc (zp c) yl3 fullShare (ylV m (zp (zp c)) 1) : sProp 𝕄) = _; rw [zp_zp]

/-! ## Equal forms of what is stored -/

theorem xb_part0 : k0_pay2 (fun j => xV m c (p0.emb j)) = fun j => xbV m c (p0.emb j) := by
  unfold k0_pay2; simp only [shapeCast_self]; rfl
theorem xb_part1 : k0_pay3 (fun j => xV m c (p1.emb j)) = fun j => xbV m c (p1.emb j) := by
  unfold k0_pay3; simp only [shapeCast_self]; rfl
theorem xb_part2 : k0_pay4 (fun j => xV m c (p2.emb j)) = fun j => xbV m c (p2.emb j) := by
  unfold k0_pay4; simp only [shapeCast_self]; rfl
theorem xb_part3 : k0_pay5 (fun j => xV m c (p3.emb j)) = fun j => xbV m c (p3.emb j) := by
  unfold k0_pay5; simp only [shapeCast_self]; rfl

theorem xs_part0 : k0_pay6 (fun j => psV m c ((Rect.unit (s := S1280x2048) ![0, 0] S320x2048.size inb_S1280x2048_S320x2048_0_0).emb j)) (xbV m c) = xsV m c 0 := rfl
theorem xs_part1 : k0_pay8 (k0_pay7 (fun j => psV m c ((Rect.unit (s := S1280x2048) ![320, 0] S320x2048.size inb_S1280x2048_S320x2048_320_0).emb j)) (xbV m c)) = xsV m c 1 := rfl
theorem a_part0 : k0_pay9 (w1f m c 0) = aV m c 0 := rfl
theorem a_part1 : k0_pay14 (w1f m c 1) = aV m c 1 := rfl
theorem b_part0 : k0_pay11 (k0_pay10 (w2f m c 0)) = bV m c 0 := rfl
theorem b_part1 : k0_pay15 (w2f m c 1) = bV m c 1 := rfl
theorem yl_part0 : k0_pay12 (fun j => plV m c ((Rect.unit (s := S1280x2048) ![0, 0] S320x2048.size inb_S1280x2048_S320x2048_0_0).emb j)) (xbV m c) (aV m c 0) (bV m c 0) = ylV m c 0 := rfl
theorem yl_part1 : k0_pay18 (k0_pay16 (fun j => plV m c ((Rect.unit (s := S1280x2048) ![320, 0] S320x2048.size inb_S1280x2048_S320x2048_320_0).emb j)) (xbV m c) (aV m c 1)) (k0_pay17 (F := F)) (bV m c 1) = ylV m c 1 := rfl
theorem yb_part0 : k0_pay13 (xsV m (xp c) 0) (aV m c 0) (constant S320x2048 .f32 0x00000000#32) (bV m c 0) = ybV m c 0 := rfl
theorem yb_part1 : k0_pay19 (xsV m (xp c) 1) (aV m c 1) (bV m c 1) = ybV m c 1 := rfl
theorem oa_part0 : k0_pay20 (fun j => plV m c ((Rect.unit (s := S1280x2048) ![0, 0] S1280x512.size inb_S1280x2048_S1280x512_0_0).emb j)) (ylF m c) = oaV m c 0 := rfl
theorem oa_part1 : k0_pay21 (fun j => plV m c ((Rect.unit (s := S1280x2048) ![0, 512] S1280x512.size inb_S1280x2048_S1280x512_0_512).emb j)) (ylF m c) = oaV m c 1 := rfl
theorem oa_part2 : k0_pay23 (k0_pay22 (fun j => plV m c ((Rect.unit (s := S1280x2048) ![0, 1024] S1280x512.size inb_S1280x2048_S1280x512_0_1024).emb j))) (ylF m c) = oaV m c 2 := rfl
theorem oa_part3 : k0_pay24 (fun j => plV m c ((Rect.unit (s := S1280x2048) ![0, 1536] S1280x512.size inb_S1280x2048_S1280x512_0_1536).emb j)) (ylF m c) = oaV m c 3 := rfl
theorem o_part0 : k0_pay25 (fun j => psV m c ((Rect.unit (s := S1280x2048) ![0, 0] S1280x512.size inb_S1280x2048_S1280x512_0_0).emb j)) (yrF m c) (oaV m c 0) = oV m c 0 := rfl
theorem o_part1 : k0_pay27 (k0_pay26 (fun j => psV m c ((Rect.unit (s := S1280x2048) ![0, 512] S1280x512.size inb_S1280x2048_S1280x512_0_512).emb j))) (yrF m c) (oaV m c 1) = oV m c 1 := rfl
theorem o_part2 : k0_pay28 (fun j => psV m c ((Rect.unit (s := S1280x2048) ![0, 1024] S1280x512.size inb_S1280x2048_S1280x512_0_1024).emb j)) (yrF m c) (oaV m c 2) = oV m c 2 := rfl
theorem o_part3 : k0_pay1 (k0_pay29 (oaV m c 3)) (k0_pay30 (fun j => psV m c ((Rect.unit (s := S1280x2048) ![0, 1536] S1280x512.size inb_S1280x2048_S1280x512_0_1536).emb j)) (yrF m c)) = oV m c 3 := rfl

end Cert.MoeK

end
-- ==== Proof.BodyA.lean ====
/-
  The body's first three stretches: the tokens rounded, the meeting at the barrier, the first rows selected and sent.
-/
module

public import proofs.«01_k».proof.Proof.BodyKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

set_option maxHeartbeats 4000000 in
/-- The first stretch of the body. -/
theorem part1_run  (Kt : _ → sProp 𝕄) :
    (iprop(Inv m K ∗ levAts L lv ∗ ownsTc c bX fullShare (xV m c) ∗ anyTc c (bXb.slice p0 (fun _ => rfl)) ∗ anyTc c (bXb.slice p1 (fun _ => rfl)) ∗ anyTc c (bXb.slice p2 (fun _ => rfl))) : sProp 𝕄)
      ⊢ iprop(((ownsTc c bX fullShare (xV m c) ∗ ownsTc c (bXb.slice p0 (fun _ => rfl)) fullShare (fun j => xbV m c (p0.emb j)) ∗ ownsTc c (bXb.slice p1 (fun _ => rfl)) fullShare (fun j => xbV m c (p1.emb j)) ∗ ownsTc c (bXb.slice p2 (fun _ => rfl)) fullShare (fun j => xbV m c (p2.emb j))) -∗ Kt ⟨c, Scalar.remsi (Scalar.divsi (Dev.word c) 4#32) 2#32, Scalar.remsi (Scalar.divsi (Dev.word c) 2#32) 2#32, Scalar.remsi (Scalar.divsi (Dev.word c) 1#32) 2#32, Scalar.subi 1#32 (Scalar.remsi (Scalar.divsi (Dev.word c) 4#32) 2#32), Scalar.subi 1#32 (Scalar.remsi (Scalar.divsi (Dev.word c) 1#32) 2#32), Scalar.subi 1#32 (Scalar.remsi (Scalar.divsi (Dev.word c) 4#32) 2#32), Scalar.subi 1#32 (Scalar.remsi (Scalar.divsi (Dev.word c) 1#32) 2#32), fun j => xV m c (p3.emb j)⟩) -∗ wpc c (k0_part1 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 ) Kt) := by
  rw [k0_part1_eq_skeleton]
  simp only [k0_part1_skel, Prog.bind_lift, Prog.bind_op, Prog.bind_ret, Prog.pure_eq_ret, semSignalWord, semWaitWord, wp_deviceId]
  iintro ⟨#HI, #Hlev, Hx, Hxb0, Hxb1, Hxb2⟩ Hk
  iapply (load_part (F := F) c) $$ Hx; iintro Hx
  ihave Hxb0 := (any_elim c (bXb.slice p0 (fun _ => rfl))) $$ Hxb0
  icases Hxb0 with ⟨%YHxb0, Hxb0⟩
  iapply (load_slab (F := F) c) $$ Hxb0; iintro Hxb0
  iapply (store_slab (F := F) c) $$ Hxb0; iintro Hxb0
  ihave Hxb0 := (Entails.of_eq (congrArg (ownsTc c (bXb.slice p0 (fun _ => rfl)) fullShare) (xb_part0 m c))) $$ Hxb0
  iapply (load_part (F := F) c) $$ Hx; iintro Hx
  ihave Hxb1 := (any_elim c (bXb.slice p1 (fun _ => rfl))) $$ Hxb1
  icases Hxb1 with ⟨%YHxb1, Hxb1⟩
  iapply (load_slab (F := F) c) $$ Hxb1; iintro Hxb1
  iapply (store_slab (F := F) c) $$ Hxb1; iintro Hxb1
  ihave Hxb1 := (Entails.of_eq (congrArg (ownsTc c (bXb.slice p1 (fun _ => rfl)) fullShare) (xb_part1 m c))) $$ Hxb1
  iapply (load_part (F := F) c) $$ Hx; iintro Hx
  ihave Hxb2 := (any_elim c (bXb.slice p2 (fun _ => rfl))) $$ Hxb2
  icases Hxb2 with ⟨%YHxb2, Hxb2⟩
  iapply (load_slab (F := F) c) $$ Hxb2; iintro Hxb2
  iapply (store_slab (F := F) c) $$ Hxb2; iintro Hxb2
  ihave Hxb2 := (Entails.of_eq (congrArg (ownsTc c (bXb.slice p2 (fun _ => rfl)) fullShare) (xb_part2 m c))) $$ Hxb2
  iapply (load_part (F := F) c) $$ Hx; iintro Hx
  iapply (ret_run c ⟨c, Scalar.remsi (Scalar.divsi (Dev.word c) 4#32) 2#32, Scalar.remsi (Scalar.divsi (Dev.word c) 2#32) 2#32, Scalar.remsi (Scalar.divsi (Dev.word c) 1#32) 2#32, Scalar.subi 1#32 (Scalar.remsi (Scalar.divsi (Dev.word c) 4#32) 2#32), Scalar.subi 1#32 (Scalar.remsi (Scalar.divsi (Dev.word c) 1#32) 2#32), Scalar.subi 1#32 (Scalar.remsi (Scalar.divsi (Dev.word c) 4#32) 2#32), Scalar.subi 1#32 (Scalar.remsi (Scalar.divsi (Dev.word c) 1#32) 2#32), fun j => xV m c (p3.emb j)⟩ Kt)
  iapply Hk
  isplitl [Hx]; · iexact Hx
  isplitl [Hxb0]; · iexact Hxb0
  isplitl [Hxb1]; · iexact Hxb1
  iexact Hxb2

set_option maxHeartbeats 4000000 in
/-- The second stretch of the body. -/
theorem part2_run (v2 v5 v8 v9 v10 v11 v12 : BitVec 32) (Kt : _ → sProp 𝕄) :
    (iprop(Inv m K ∗ levAts L lv ∗ rch c 3 0 ∗ rch c 4 0 ∗ rch c 7 0 ∗ rch c 8 0 ∗ rch (xp c) 0 0 ∗ rch c 15 0 ∗ rch c 16 0 ∗ rch (zp c) 0 0 ∗ rch c 11 0 ∗ rch c 12 0 ∗ rch (dg c) 0 0 ∗ rch c 17 0 ∗ anyTc c (bXb.slice p3 (fun _ => rfl)) ∗ ownsTc c (bXb.slice p0 (fun _ => rfl)) fullShare (fun j => xbV m c (p0.emb j)) ∗ ownsTc c (bXb.slice p1 (fun _ => rfl)) fullShare (fun j => xbV m c (p1.emb j)) ∗ ownsTc c (bXb.slice p2 (fun _ => rfl)) fullShare (fun j => xbV m c (p2.emb j)) ∗ anyTc c xr0 ∗ anyTc c xr1 ∗ anyTc c yr0 ∗ anyTc c yr1 ∗ owing c (owe c 0) ∗ tok (xp c) 0 0 0 ∗ anyTc c yl2 ∗ anyTc c yl3 ∗ tok (zp c) 0 0 1 ∗ anyTc c yr2 ∗ anyTc c yr3 ∗ tok (dg c) 0 0 2 ∗ cred (tallyAt (kcell c 0) () 3) ∗ pos c 0 0 ∗ w1P m c 0 ∗ anyTc c bS1 ∗ tok c 17 0 0) : sProp 𝕄)
      ⊢ iprop(((rch (xp c) 3 0 ∗ rch (xp c) 4 0 ∗ rch (xp c) 7 0 ∗ rch (xp c) 8 0 ∗ rch (zp c) 15 0 ∗ rch (zp c) 16 0 ∗ rch (dg c) 11 0 ∗ rch (dg c) 12 0 ∗ owing c (owe c 3) ∗ pos c 0 1 ∗ ownsTc c bXb fullShare (xbV m c) ∗ anyTc (xp c) xr0 ∗ anyTc (xp c) xr1 ∗ anyTc (xp c) yr0 ∗ anyTc (xp c) yr1 ∗ anyTc (zp c) yl2 ∗ anyTc (zp c) yl3 ∗ anyTc (dg c) yr2 ∗ anyTc (dg c) yr3 ∗ crd c 17) -∗ Kt ⟨⟩) -∗ wpc c (k0_part2 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v2 v5 v8 v9 v10 v11 v12 (fun j => xV m c (p3.emb j))) Kt) := by
  rw [k0_part2_eq_skeleton]
  simp only [k0_part2_skel, Prog.bind_lift, Prog.bind_op, Prog.bind_ret, Prog.pure_eq_ret, semSignalWord, semWaitWord, wp_deviceId]
  iintro ⟨#HI, #Hlev, #Hr3, #Hr4, #Hr7, #Hr8, #Hr0xp, #Hr15, #Hr16, #Hr0zp, #Hr11, #Hr12, #Hr0dg, #Hr17, Hxb3, Hxb0, Hxb1, Hxb2, Hxr0, Hxr1, Hyr0, Hyr1, HO, Ht0xp, Hyl2, Hyl3, Ht0zp, Hyr2, Hyr3, Ht0dg, Hc0, Hp0, Hw10, HS1, Ht17_0⟩ Hk
  ihave Hxb3 := (any_elim c (bXb.slice p3 (fun _ => rfl))) $$ Hxb3
  icases Hxb3 with ⟨%YHxb3, Hxb3⟩
  iapply (load_slab (F := F) c) $$ Hxb3; iintro Hxb3
  iapply (store_slab (F := F) c) $$ Hxb3; iintro Hxb3
  ihave Hxb3 := (Entails.of_eq (congrArg (ownsTc c (bXb.slice p3 (fun _ => rfl)) fullShare) (xb_part3 m c))) $$ Hxb3
  ihave HxbJ := (join5 c fullShare bXb (xbV m c)) $$ [Hxb0 Hxb1 Hxb2 Hxb3]
  · isplitl [Hxb0]; · iexact Hxb0
    isplitl [Hxb1]; · iexact Hxb1
    isplitl [Hxb2]; · iexact Hxb2
    iexact Hxb3
  irename HxbJ => Hxb
  ihave Hb := (barGive0 c) $$ [Hxr0 Hxr1 Hyr0 Hyr1]
  · isplitl [Hxr0]; · iexact Hxr0
    isplitl [Hxr1]; · iexact Hxr1
    isplitl [Hyr0]; · iexact Hyr0
    isplitl [Hyr1]; · iexact Hyr1
    isplitr; · iexact Hr3
    isplitr; · iexact Hr4
    isplitr; · iexact Hr7
    iexact Hr8
  iapply (signal_step m K c (xp c) (dev1_eq c) 0 0 rfl rfl) $$ [HO Ht0xp Hb]
  · isplitr; · iexact HI
    isplitl [HO]; · iexact HO
    isplitl [Ht0xp]; · iexact Ht0xp
    isplitl [Hb]; · iexact Hb
    iexact Hr0xp
  iintro HO
  ihave Hb := (barGive1 c) $$ [Hyl2 Hyl3]
  · isplitl [Hyl2]; · iexact Hyl2
    isplitl [Hyl3]; · iexact Hyl3
    isplitr; · iexact Hr15
    iexact Hr16
  iapply (signal_step m K c (zp c) (dev2_eq c) 1 1 rfl rfl) $$ [HO Ht0zp Hb]
  · isplitr; · iexact HI
    isplitl [HO]; · iexact HO
    isplitl [Ht0zp]; · iexact Ht0zp
    isplitl [Hb]; · iexact Hb
    iexact Hr0zp
  iintro HO
  ihave Hb := (barGive2 c) $$ [Hyr2 Hyr3]
  · isplitl [Hyr2]; · iexact Hyr2
    isplitl [Hyr3]; · iexact Hyr3
    isplitr; · iexact Hr11
    iexact Hr12
  iapply (signal_step m K c (dg c) (dev3_eq c) 2 2 rfl rfl) $$ [HO Ht0dg Hb]
  · isplitr; · iexact HI
    isplitl [HO]; · iexact HO
    isplitl [Ht0dg]; · iexact Ht0dg
    isplitl [Hb]; · iexact Hb
    iexact Hr0dg
  iintro HO
  iapply (barrier_step m K c 3 (by decide)) $$ [Hc0 HO Hp0]
  · isplitr; · iexact HI
    isplitr; · iexact Hlev
    isplitl [Hc0]; · iexact Hc0
    isplitl [HO]; · iexact HO
    iexact Hp0
  iintro ⟨HO, Hp0, Hb0, Hb1, Hb2⟩
  ihave Hb0 := (barTake0 c) $$ Hb0
  icases Hb0 with ⟨Hqxr0, Hqxr1, Hqyr0, Hqyr1, #Hr3xp, #Hr4xp, #Hr7xp, #Hr8xp⟩
  ihave Hb1 := (barTake1 c) $$ Hb1
  icases Hb1 with ⟨Hqyl2, Hqyl3, #Hr15zp, #Hr16zp⟩
  ihave Hb2 := (barTake2 c) $$ Hb2
  icases Hb2 with ⟨Hqyr2, Hqyr3, #Hr11dg, #Hr12dg⟩
  iapply (copy_step m K c 17 0 (by decide) rfl rfl (src := w1src c 0) (dst := bS1) (w1V m c) rfl rfl) $$ [Hw10 HS1 Ht17_0]
  · isplitr; · iexact HI
    isplitl [Hw10]; · iexact Hw10
    isplitl [HS1]; · iexact HS1
    isplitl [Ht17_0]; · iexact Ht17_0
    iexact Hr17
  iintro Hc17
  iapply (ret_run c ⟨⟩ Kt)
  iapply Hk
  isplitr; · iexact Hr3xp
  isplitr; · iexact Hr4xp
  isplitr; · iexact Hr7xp
  isplitr; · iexact Hr8xp
  isplitr; · iexact Hr15zp
  isplitr; · iexact Hr16zp
  isplitr; · iexact Hr11dg
  isplitr; · iexact Hr12dg
  isplitl [HO]; · iexact HO
  isplitl [Hp0]; · iexact Hp0
  isplitl [Hxb]; · iexact Hxb
  isplitl [Hqxr0]; · iexact Hqxr0
  isplitl [Hqxr1]; · iexact Hqxr1
  isplitl [Hqyr0]; · iexact Hqyr0
  isplitl [Hqyr1]; · iexact Hqyr1
  isplitl [Hqyl2]; · iexact Hqyl2
  isplitl [Hqyl3]; · iexact Hqyl3
  isplitl [Hqyr2]; · iexact Hqyr2
  isplitl [Hqyr3]; · iexact Hqyr3
  iexact Hc17

set_option maxHeartbeats 4000000 in
/-- The third stretch of the body. -/
theorem part3_run (v5 v8 v9 : BitVec 32) (Y1 : Vec F S320x1024 .bf16) (Kt : _ → sProp 𝕄) :
    (iprop(Inv m K ∗ levAts L lv ∗ rch c 18 0 ∗ rch c 1 0 ∗ rch (xp c) 3 0 ∗ w2P m c 0 ∗ anyTc c bS2 ∗ tok c 18 0 0 ∗ ownsTc c bPs fullShare (psV m c) ∗ ownsTc c bXb fullShare (xbV m c) ∗ anyTc c xs0 ∗ anyTc (xp c) xr0 ∗ owing c (owe c 3) ∗ tok c 1 0 0 ∗ tok (xp c) 3 0 0 ∗ ownsTc c xs1 fullShare (Y1)) : sProp 𝕄)
      ⊢ iprop(((ownsTc c bPs fullShare (psV m c) ∗ ownsTc c bXb fullShare (xbV m c) ∗ owing c (owe c 4) ∗ ownsTc c xs1 fullShare (Y1) ∗ crd c 18 ∗ crd c 1) -∗ Kt ⟨k0_pay7 (fun j => psV m c ((Rect.unit (s := S1280x2048) ![320, 0] S320x2048.size inb_S1280x2048_S320x2048_320_0).emb j)) (xbV m c), Y1⟩) -∗ wpc c (k0_part3 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v5 v8 v9) Kt) := by
  rw [k0_part3_eq_skeleton]
  simp only [k0_part3_skel, Prog.bind_lift, Prog.bind_op, Prog.bind_ret, Prog.pure_eq_ret, semSignalWord, semWaitWord, wp_deviceId]
  iintro ⟨#HI, #Hlev, #Hr18, #Hr1, #Hr3xp, Hw20, HS2, Ht18_0, Hps, Hxb, Hxs0, Hqxr0, HO, Ht1, Ht3xp, Hxs1⟩ Hk
  iapply (copy_step m K c 18 0 (by decide) rfl rfl (src := w2src c 0) (dst := bS2) (w2V m c) rfl rfl) $$ [Hw20 HS2 Ht18_0]
  · isplitr; · iexact HI
    isplitl [Hw20]; · iexact Hw20
    isplitl [HS2]; · iexact HS2
    isplitl [Ht18_0]; · iexact Ht18_0
    iexact Hr18
  iintro Hc18
  iapply (load_part (F := F) c) $$ Hps; iintro Hps
  iapply (load_all (F := F) c) $$ Hxb; iintro Hxb
  ihave Hxs0 := (any_elim c xs0) $$ Hxs0
  icases Hxs0 with ⟨%YHxs0, Hxs0⟩
  iapply (load_slab (F := F) c) $$ Hxs0; iintro Hxs0
  iapply (store_slab (F := F) c) $$ Hxs0; iintro Hxs0
  ihave Hxs0 := (Entails.of_eq (congrArg (ownsTc c xs0 fullShare) (xs_part0 m c))) $$ Hxs0
  iapply (send_step m K c (xp c) (dev4_eq c) 3 rfl 1 rfl rfl (by decide) rfl rfl (by decide) rfl rfl (src := xs0) (dst := xr0) (q := fullShare) (X := xsV m c 0) rfl rfl (give3 m c)) $$ [Hxs0 Hqxr0 HO Ht1 Ht3xp]
  · isplitr; · iexact HI
    isplitl [Hxs0]; · iexact Hxs0
    isplitl [Hqxr0]; · iexact Hqxr0
    isplitl [HO]; · iexact HO
    isplitl [Ht1]; · iexact Ht1
    isplitr; · iexact Hr1
    isplitl [Ht3xp]; · iexact Ht3xp
    iexact Hr3xp
  iintro ⟨Hc1, HO⟩
  iapply (load_part (F := F) c) $$ Hps; iintro Hps
  iapply (load_all (F := F) c) $$ Hxb; iintro Hxb
  iapply (load_slab (F := F) c) $$ Hxs1; iintro Hxs1
  iapply (ret_run c ⟨k0_pay7 (fun j => psV m c ((Rect.unit (s := S1280x2048) ![320, 0] S320x2048.size inb_S1280x2048_S320x2048_320_0).emb j)) (xbV m c), Y1⟩ Kt)
  iapply Hk
  isplitl [Hps]; · iexact Hps
  isplitl [Hxb]; · iexact Hxb
  isplitl [HO]; · iexact HO
  isplitl [Hxs1]; · iexact Hxs1
  isplitl [Hc18]; · iexact Hc18
  iexact Hc1

end Cert.MoeK

end
-- ==== Proof.BodyB.lean ====
/-
  The body's stretches four to six: the second rows sent, the first expert's weights in place, its results of the own side.
-/
module

public import proofs.«01_k».proof.Proof.BodyKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

set_option maxHeartbeats 4000000 in
/-- The fourth stretch of the body. -/
theorem part4_run (v5 v8 v9 : BitVec 32) (Y1 : Vec F S320x1024 .bf16) (Kt : _ → sProp 𝕄) :
    (iprop(Inv m K ∗ levAts L lv ∗ rch c 2 0 ∗ rch (xp c) 4 0 ∗ ownsTc c xs1 fullShare (Y1) ∗ anyTc (xp c) xr1 ∗ owing c (owe c 4) ∗ tok c 2 0 0 ∗ tok (xp c) 4 0 0 ∗ crd c 17 ∗ pos c 17 0 ∗ crd c 18 ∗ pos c 18 0 ∗ anyTc c bA) : sProp 𝕄)
      ⊢ iprop(((rch c 17 1 ∗ rch c 18 1 ∗ owing c (owe c 5) ∗ pos c 17 1 ∗ pos c 18 1 ∗ ownsTc c bA fullShare (aV m c 0) ∗ crd c 2 ∗ ownsTc c bS1 fullShare (w1f m c 0) ∗ w1P m c 0 ∗ ownsTc c bS2 fullShare (w2f m c 0) ∗ w2P m c 0) -∗ Kt (k0_pay10 (w2f m c 0))) -∗ wpc c (k0_part4 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v5 v8 v9 (k0_pay7 (fun j => psV m c ((Rect.unit (s := S1280x2048) ![320, 0] S320x2048.size inb_S1280x2048_S320x2048_320_0).emb j)) (xbV m c)) Y1) Kt) := by
  rw [k0_part4_eq_skeleton]
  simp only [k0_part4_skel, Prog.bind_lift, Prog.bind_op, Prog.bind_ret, Prog.pure_eq_ret, semSignalWord, semWaitWord, wp_deviceId]
  iintro ⟨#HI, #Hlev, #Hr2, #Hr4xp, Hxs1, Hqxr1, HO, Ht2, Ht4xp, Hc17, Hp17, Hc18, Hp18, HA⟩ Hk
  iapply (store_slab (F := F) c) $$ Hxs1; iintro Hxs1
  ihave Hxs1 := (Entails.of_eq (congrArg (ownsTc c xs1 fullShare) (xs_part1 m c))) $$ Hxs1
  iapply (send_step m K c (xp c) (dev5_eq c) 4 rfl 2 rfl rfl (by decide) rfl rfl (by decide) rfl rfl (src := xs1) (dst := xr1) (q := fullShare) (X := xsV m c 1) rfl rfl (give4 m c)) $$ [Hxs1 Hqxr1 HO Ht2 Ht4xp]
  · isplitr; · iexact HI
    isplitl [Hxs1]; · iexact Hxs1
    isplitl [Hqxr1]; · iexact Hqxr1
    isplitl [HO]; · iexact HO
    isplitl [Ht2]; · iexact Ht2
    isplitr; · iexact Hr2
    isplitl [Ht4xp]; · iexact Ht4xp
    iexact Hr4xp
  iintro ⟨Hc2, HO⟩
  iapply (wait_step m K c 17 0 5 (by decide) rfl (by decide) rfl (src := w1src c 0) (dst := bS1) rfl) $$ [Hc17 HO Hp17]
  · isplitr; · iexact HI
    isplitr; · iexact Hlev
    isplitl [Hc17]; · iexact Hc17
    isplitl [HO]; · iexact HO
    iexact Hp17
  iintro ⟨HO, Hp17, #Hr17_1, Hpay⟩
  ihave Hpay := (show cpPay m c 0 17 ⊢ (iprop(ownsTc c bS1 fullShare (w1f m c 0) ∗ w1P m c 0) : sProp 𝕄) from .rfl) $$ Hpay
  icases Hpay with ⟨HS1, Hw10⟩
  iapply (wait_step m K c 18 0 5 (by decide) rfl (by decide) rfl (src := w2src c 0) (dst := bS2) rfl) $$ [Hc18 HO Hp18]
  · isplitr; · iexact HI
    isplitr; · iexact Hlev
    isplitl [Hc18]; · iexact Hc18
    isplitl [HO]; · iexact HO
    iexact Hp18
  iintro ⟨HO, Hp18, #Hr18_1, Hpay⟩
  ihave Hpay := (show cpPay m c 0 18 ⊢ (iprop(ownsTc c bS2 fullShare (w2f m c 0) ∗ w2P m c 0) : sProp 𝕄) from .rfl) $$ Hpay
  icases Hpay with ⟨HS2, Hw20⟩
  iapply (load_all (F := F) c) $$ HS1; iintro HS1
  ihave HA := (any_elim c bA) $$ HA
  icases HA with ⟨%YHA, HA⟩
  iapply (load_all (F := F) c) $$ HA; iintro HA
  iapply (store_all (F := F) c) $$ HA; iintro HA
  ihave HA := (Entails.of_eq (congrArg (ownsTc c bA fullShare) (a_part0 m c))) $$ HA
  iapply (load_all (F := F) c) $$ HS2; iintro HS2
  iapply (ret_run c (k0_pay10 (w2f m c 0)) Kt)
  iapply Hk
  isplitr; · iexact Hr17_1
  isplitr; · iexact Hr18_1
  isplitl [HO]; · iexact HO
  isplitl [Hp17]; · iexact Hp17
  isplitl [Hp18]; · iexact Hp18
  isplitl [HA]; · iexact HA
  isplitl [Hc2]; · iexact Hc2
  isplitl [HS1]; · iexact HS1
  isplitl [Hw10]; · iexact Hw10
  isplitl [HS2]; · iexact HS2
  iexact Hw20

set_option maxHeartbeats 4000000 in
/-- The fifth stretch of the body. -/
theorem part5_run (v8 : BitVec 32) (Kt : _ → sProp 𝕄) :
    (iprop(Inv m K ∗ levAts L lv ∗ rch c 17 1 ∗ rch c 18 1 ∗ anyTc c bB ∗ w1P m c 1 ∗ ownsTc c bS1 fullShare (w1f m c 0) ∗ tok c 17 1 0 ∗ w2P m c 1 ∗ ownsTc c bS2 fullShare (w2f m c 0) ∗ tok c 18 1 0 ∗ ownsTc c bPl fullShare (plV m c) ∗ ownsTc c bXb fullShare (xbV m c) ∗ ownsTc c bA fullShare (aV m c 0) ∗ anyTc c yl0) : sProp 𝕄)
      ⊢ iprop(((ownsTc c bB fullShare (bV m c 0) ∗ ownsTc c bPl fullShare (plV m c) ∗ ownsTc c bXb fullShare (xbV m c) ∗ ownsTc c bA fullShare (aV m c 0) ∗ ownsTc c yl0 fullShare (ylV m c 0) ∗ crd c 17 ∗ crd c 18) -∗ Kt (4#32)) -∗ wpc c (k0_part5 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v8 (k0_pay10 (w2f m c 0))) Kt) := by
  rw [k0_part5_eq_skeleton]
  simp only [k0_part5_skel, Prog.bind_lift, Prog.bind_op, Prog.bind_ret, Prog.pure_eq_ret, semSignalWord, semWaitWord, wp_deviceId]
  iintro ⟨#HI, #Hlev, #Hr17_1, #Hr18_1, HB, Hw11, HS1, Ht17_1, Hw21, HS2, Ht18_1, Hpl, Hxb, HA, Hyl0⟩ Hk
  ihave HB := (any_elim c bB) $$ HB
  icases HB with ⟨%YHB, HB⟩
  iapply (load_all (F := F) c) $$ HB; iintro HB
  iapply (store_all (F := F) c) $$ HB; iintro HB
  ihave HB := (Entails.of_eq (congrArg (ownsTc c bB fullShare) (b_part0 m c))) $$ HB
  ihave HS1 := (any_intro c bS1 _) $$ HS1
  iapply (copy_step m K c 17 1 (by decide) rfl rfl (src := w1src c 1) (dst := bS1) (w1V m c) rfl rfl) $$ [Hw11 HS1 Ht17_1]
  · isplitr; · iexact HI
    isplitl [Hw11]; · iexact Hw11
    isplitl [HS1]; · iexact HS1
    isplitl [Ht17_1]; · iexact Ht17_1
    iexact Hr17_1
  iintro Hc17
  ihave HS2 := (any_intro c bS2 _) $$ HS2
  iapply (copy_step m K c 18 1 (by decide) rfl rfl (src := w2src c 1) (dst := bS2) (w2V m c) rfl rfl) $$ [Hw21 HS2 Ht18_1]
  · isplitr; · iexact HI
    isplitl [Hw21]; · iexact Hw21
    isplitl [HS2]; · iexact HS2
    isplitl [Ht18_1]; · iexact Ht18_1
    iexact Hr18_1
  iintro Hc18
  iapply (load_part (F := F) c) $$ Hpl; iintro Hpl
  iapply (load_all (F := F) c) $$ Hxb; iintro Hxb
  iapply (load_all (F := F) c) $$ HA; iintro HA
  iapply (load_all (F := F) c) $$ HB; iintro HB
  ihave Hyl0 := (any_elim c yl0) $$ Hyl0
  icases Hyl0 with ⟨%YHyl0, Hyl0⟩
  iapply (load_slab (F := F) c) $$ Hyl0; iintro Hyl0
  iapply (store_slab (F := F) c) $$ Hyl0; iintro Hyl0
  ihave Hyl0 := (Entails.of_eq (congrArg (ownsTc c yl0 fullShare) (yl_part0 m c))) $$ Hyl0
  iapply (ret_run c (4#32) Kt)
  iapply Hk
  isplitl [HB]; · iexact HB
  isplitl [Hpl]; · iexact Hpl
  isplitl [Hxb]; · iexact Hxb
  isplitl [HA]; · iexact HA
  isplitl [Hyl0]; · iexact Hyl0
  isplitl [Hc17]; · iexact Hc17
  iexact Hc18

set_option maxHeartbeats 4000000 in
/-- The sixth stretch of the body. -/
theorem part6_run (v2 v5 v8 v9 v10 w : BitVec 32) (Kt : _ → sProp 𝕄) :
    (iprop(Inv m K ∗ levAts L lv ∗ rch c 13 0 ∗ rch (zp c) 15 0 ∗ ownsTc c yl0 fullShare (ylV m c 0) ∗ anyTc (zp c) yl2 ∗ owing c (owe c 5) ∗ tok c 13 0 0 ∗ tok (zp c) 15 0 0 ∗ crd c 1 ∗ pos c 1 0 ∗ crd c 3 ∗ pos c 3 0 ∗ ownsTc c bA fullShare (aV m c 0)) : sProp 𝕄)
      ⊢ iprop(((owing c (owe c 6) ∗ pos c 1 1 ∗ pos c 3 1 ∗ ownsTc c bA fullShare (aV m c 0) ∗ crd c 13 ∗ ownsTc c xs0 fullShare (xsV m c 0) ∗ ownsTc c xr0 fullShare (xsV m (xp c) 0)) -∗ Kt ⟨xsV m (xp c) 0, aV m c 0, constant S320x2048 .f32 0x00000000#32⟩) -∗ wpc c (k0_part6 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v2 v5 v8 v9 v10 w) Kt) := by
  rw [k0_part6_eq_skeleton]
  simp only [k0_part6_skel, Prog.bind_lift, Prog.bind_op, Prog.bind_ret, Prog.pure_eq_ret, semSignalWord, semWaitWord, wp_deviceId]
  iintro ⟨#HI, #Hlev, #Hr13, #Hr15zp, Hyl0, Hqyl2, HO, Ht13, Ht15zp, Hc1, Hp1, Hc3, Hp3, HA⟩ Hk
  iapply (send_step m K c (zp c) (dev6_eq c) 5 rfl 13 rfl rfl (by decide) rfl rfl (by decide) rfl rfl (src := yl0) (dst := yl2) (q := fullShare) (X := ylV m c 0) rfl rfl (give15 m c)) $$ [Hyl0 Hqyl2 HO Ht13 Ht15zp]
  · isplitr; · iexact HI
    isplitl [Hyl0]; · iexact Hyl0
    isplitl [Hqyl2]; · iexact Hqyl2
    isplitl [HO]; · iexact HO
    isplitl [Ht13]; · iexact Ht13
    isplitr; · iexact Hr13
    isplitl [Ht15zp]; · iexact Ht15zp
    iexact Hr15zp
  iintro ⟨Hc13, HO⟩
  iapply (wait_step m K c 1 0 6 (by decide) rfl (by decide) rfl (src := xr0) (dst := xs0) rfl) $$ [Hc1 HO Hp1]
  · isplitr; · iexact HI
    isplitr; · iexact Hlev
    isplitl [Hc1]; · iexact Hc1
    isplitl [HO]; · iexact HO
    iexact Hp1
  iintro ⟨HO, Hp1, -, Hpay⟩
  ihave Hpay := (show cpPay m c 0 1 ⊢ (iprop(ownsTc c xs0 fullShare (xsV m c 0)) : sProp 𝕄) from .rfl) $$ Hpay
  irename Hpay => Hxs0
  iapply (wait_step m K c 3 0 6 (by decide) rfl (by decide) rfl (src := xs0) (dst := xr0) rfl) $$ [Hc3 HO Hp3]
  · isplitr; · iexact HI
    isplitr; · iexact Hlev
    isplitl [Hc3]; · iexact Hc3
    isplitl [HO]; · iexact HO
    iexact Hp3
  iintro ⟨HO, Hp3, -, Hpay⟩
  ihave Hpay := (show cpPay m c 0 3 ⊢ (iprop(ownsTc c xr0 fullShare (xsV m (xp c) 0)) : sProp 𝕄) from .rfl) $$ Hpay
  irename Hpay => Hxr0
  iapply (load_slab (F := F) c) $$ Hxr0; iintro Hxr0
  iapply (load_all (F := F) c) $$ HA; iintro HA
  iapply (ret_run c ⟨xsV m (xp c) 0, aV m c 0, constant S320x2048 .f32 0x00000000#32⟩ Kt)
  iapply Hk
  isplitl [HO]; · iexact HO
  isplitl [Hp1]; · iexact Hp1
  isplitl [Hp3]; · iexact Hp3
  isplitl [HA]; · iexact HA
  isplitl [Hc13]; · iexact Hc13
  isplitl [Hxs0]; · iexact Hxs0
  iexact Hxr0

end Cert.MoeK

end
-- ==== Proof.BodyC.lean ====
/-
  The body's stretches seven to nine: the first expert's results of the received rows, the second expert's weights, its results of the own side.
-/
module

public import proofs.«01_k».proof.Proof.BodyKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

set_option maxHeartbeats 4000000 in
/-- The seventh stretch of the body. -/
theorem part7_run (v5 v8 v9 v11 v12 : BitVec 32) (Kt : _ → sProp 𝕄) :
    (iprop(Inv m K ∗ levAts L lv ∗ rch c 5 0 ∗ rch (xp c) 7 0 ∗ ownsTc c bB fullShare (bV m c 0) ∗ anyTc c yb0 ∗ anyTc (xp c) yr0 ∗ owing c (owe c 6) ∗ tok c 5 0 0 ∗ tok (xp c) 7 0 0) : sProp 𝕄)
      ⊢ iprop(((ownsTc c bB fullShare (bV m c 0) ∗ owing c (owe c 7) ∗ ownsTc c yb0 fullShare.right (ybV m c 0) ∗ crd c 5) -∗ Kt ⟨⟩) -∗ wpc c (k0_part7 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v5 v8 v9 v11 v12 (xsV m (xp c) 0) (aV m c 0) (constant S320x2048 .f32 0x00000000#32)) Kt) := by
  rw [k0_part7_eq_skeleton]
  simp only [k0_part7_skel, Prog.bind_lift, Prog.bind_op, Prog.bind_ret, Prog.pure_eq_ret, semSignalWord, semWaitWord, wp_deviceId]
  iintro ⟨#HI, #Hlev, #Hr5, #Hr7xp, HB, Hyb0, Hqyr0, HO, Ht5, Ht7xp⟩ Hk
  iapply (load_all (F := F) c) $$ HB; iintro HB
  ihave Hyb0 := (any_elim c yb0) $$ Hyb0
  icases Hyb0 with ⟨%YHyb0, Hyb0⟩
  iapply (load_slab (F := F) c) $$ Hyb0; iintro Hyb0
  iapply (store_slab (F := F) c) $$ Hyb0; iintro Hyb0
  ihave Hyb0 := (Entails.of_eq (congrArg (ownsTc c yb0 fullShare) (yb_part0 m c))) $$ Hyb0
  ihave Hyb0H := (halves c yb0 (ybV m c 0)) $$ Hyb0
  icases Hyb0H with ⟨Hyb0l, Hyb0r⟩
  iapply (send_step m K c (xp c) (dev7_eq c) 6 rfl 5 rfl rfl (by decide) rfl rfl (by decide) rfl rfl (src := yb0) (dst := yr0) (q := fullShare.left) (X := ybV m c 0) rfl rfl (give7 m c)) $$ [Hyb0l Hqyr0 HO Ht5 Ht7xp]
  · isplitr; · iexact HI
    isplitl [Hyb0l]; · iexact Hyb0l
    isplitl [Hqyr0]; · iexact Hqyr0
    isplitl [HO]; · iexact HO
    isplitl [Ht5]; · iexact Ht5
    isplitr; · iexact Hr5
    isplitl [Ht7xp]; · iexact Ht7xp
    iexact Hr7xp
  iintro ⟨Hc5, HO⟩
  iapply (ret_run c ⟨⟩ Kt)
  iapply Hk
  isplitl [HB]; · iexact HB
  isplitl [HO]; · iexact HO
  isplitl [Hyb0r]; · iexact Hyb0r
  iexact Hc5

set_option maxHeartbeats 4000000 in
/-- The eighth stretch of the body. -/
theorem part8_run (v8 : BitVec 32) (Kt : _ → sProp 𝕄) :
    (iprop(Inv m K ∗ levAts L lv ∗ rch c 9 0 ∗ rch (dg c) 11 0 ∗ ownsTc c yb0 fullShare.right (ybV m c 0) ∗ anyTc (dg c) yr2 ∗ owing c (owe c 7) ∗ tok c 9 0 0 ∗ tok (dg c) 11 0 0 ∗ crd c 17 ∗ pos c 17 1 ∗ crd c 18 ∗ pos c 18 1 ∗ ownsTc c bA fullShare (aV m c 0) ∗ ownsTc c bB fullShare (bV m c 0) ∗ ownsTc c bPl fullShare (plV m c) ∗ ownsTc c bXb fullShare (xbV m c)) : sProp 𝕄)
      ⊢ iprop(((owing c (owe c 8) ∗ pos c 17 2 ∗ pos c 18 2 ∗ ownsTc c bA fullShare (aV m c 1) ∗ ownsTc c bB fullShare (bV m c 1) ∗ ownsTc c bPl fullShare (plV m c) ∗ ownsTc c bXb fullShare (xbV m c) ∗ crd c 9 ∗ ownsTc c bS1 fullShare (w1f m c 1) ∗ w1P m c 1 ∗ ownsTc c bS2 fullShare (w2f m c 1) ∗ w2P m c 1) -∗ Kt ⟨k0_pay16 (fun j => plV m c ((Rect.unit (s := S1280x2048) ![320, 0] S320x2048.size inb_S1280x2048_S320x2048_320_0).emb j)) (xbV m c) (aV m c 1), k0_pay17 (F := F)⟩) -∗ wpc c (k0_part8 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v8) Kt) := by
  rw [k0_part8_eq_skeleton]
  simp only [k0_part8_skel, Prog.bind_lift, Prog.bind_op, Prog.bind_ret, Prog.pure_eq_ret, semSignalWord, semWaitWord, wp_deviceId]
  iintro ⟨#HI, #Hlev, #Hr9, #Hr11dg, Hyb0r, Hqyr2, HO, Ht9, Ht11dg, Hc17, Hp17, Hc18, Hp18, HA, HB, Hpl, Hxb⟩ Hk
  iapply (send_step m K c (dg c) (dev8_eq c) 7 rfl 9 rfl rfl (by decide) rfl rfl (by decide) rfl rfl (src := yb0) (dst := yr2) (q := fullShare.right) (X := ybV m c 0) rfl rfl (give11 m c)) $$ [Hyb0r Hqyr2 HO Ht9 Ht11dg]
  · isplitr; · iexact HI
    isplitl [Hyb0r]; · iexact Hyb0r
    isplitl [Hqyr2]; · iexact Hqyr2
    isplitl [HO]; · iexact HO
    isplitl [Ht9]; · iexact Ht9
    isplitr; · iexact Hr9
    isplitl [Ht11dg]; · iexact Ht11dg
    iexact Hr11dg
  iintro ⟨Hc9, HO⟩
  iapply (wait_step m K c 17 1 8 (by decide) rfl (by decide) rfl (src := w1src c 1) (dst := bS1) rfl) $$ [Hc17 HO Hp17]
  · isplitr; · iexact HI
    isplitr; · iexact Hlev
    isplitl [Hc17]; · iexact Hc17
    isplitl [HO]; · iexact HO
    iexact Hp17
  iintro ⟨HO, Hp17, -, Hpay⟩
  ihave Hpay := (show cpPay m c 1 17 ⊢ (iprop(ownsTc c bS1 fullShare (w1f m c 1) ∗ w1P m c 1) : sProp 𝕄) from .rfl) $$ Hpay
  icases Hpay with ⟨HS1, Hw11⟩
  iapply (wait_step m K c 18 1 8 (by decide) rfl (by decide) rfl (src := w2src c 1) (dst := bS2) rfl) $$ [Hc18 HO Hp18]
  · isplitr; · iexact HI
    isplitr; · iexact Hlev
    isplitl [Hc18]; · iexact Hc18
    isplitl [HO]; · iexact HO
    iexact Hp18
  iintro ⟨HO, Hp18, -, Hpay⟩
  ihave Hpay := (show cpPay m c 1 18 ⊢ (iprop(ownsTc c bS2 fullShare (w2f m c 1) ∗ w2P m c 1) : sProp 𝕄) from .rfl) $$ Hpay
  icases Hpay with ⟨HS2, Hw21⟩
  iapply (load_all (F := F) c) $$ HS1; iintro HS1
  iapply (load_all (F := F) c) $$ HA; iintro HA
  iapply (store_all (F := F) c) $$ HA; iintro HA
  ihave HA := (Entails.of_eq (congrArg (ownsTc c bA fullShare) (a_part1 m c))) $$ HA
  iapply (load_all (F := F) c) $$ HS2; iintro HS2
  iapply (load_all (F := F) c) $$ HB; iintro HB
  iapply (store_all (F := F) c) $$ HB; iintro HB
  ihave HB := (Entails.of_eq (congrArg (ownsTc c bB fullShare) (b_part1 m c))) $$ HB
  iapply (load_part (F := F) c) $$ Hpl; iintro Hpl
  iapply (load_all (F := F) c) $$ Hxb; iintro Hxb
  iapply (load_all (F := F) c) $$ HA; iintro HA
  iapply (ret_run c ⟨k0_pay16 (fun j => plV m c ((Rect.unit (s := S1280x2048) ![320, 0] S320x2048.size inb_S1280x2048_S320x2048_320_0).emb j)) (xbV m c) (aV m c 1), k0_pay17 (F := F)⟩ Kt)
  iapply Hk
  isplitl [HO]; · iexact HO
  isplitl [Hp17]; · iexact Hp17
  isplitl [Hp18]; · iexact Hp18
  isplitl [HA]; · iexact HA
  isplitl [HB]; · iexact HB
  isplitl [Hpl]; · iexact Hpl
  isplitl [Hxb]; · iexact Hxb
  isplitl [Hc9]; · iexact Hc9
  isplitl [HS1]; · iexact HS1
  isplitl [Hw11]; · iexact Hw11
  isplitl [HS2]; · iexact HS2
  iexact Hw21

set_option maxHeartbeats 4000000 in
/-- The ninth stretch of the body. -/
theorem part9_run (v2 v5 v8 v9 v10 : BitVec 32) (Kt : _ → sProp 𝕄) :
    (iprop(Inv m K ∗ levAts L lv ∗ rch c 14 0 ∗ rch (zp c) 16 0 ∗ ownsTc c bB fullShare (bV m c 1) ∗ anyTc c yl1 ∗ anyTc (zp c) yl3 ∗ owing c (owe c 8) ∗ tok c 14 0 0 ∗ tok (zp c) 16 0 0 ∗ crd c 2 ∗ pos c 2 0) : sProp 𝕄)
      ⊢ iprop(((ownsTc c bB fullShare (bV m c 1) ∗ owing c (owe c 9) ∗ pos c 2 1 ∗ crd c 14 ∗ ownsTc c xs1 fullShare (xsV m c 1)) -∗ Kt ⟨Scalar.addi (Scalar.addi 0#32 (Scalar.muli v9 4#32)) (Scalar.muli v5 2#32), Scalar.muli v8 1#32⟩) -∗ wpc c (k0_part9 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v2 v5 v8 v9 v10 (k0_pay16 (fun j => plV m c ((Rect.unit (s := S1280x2048) ![320, 0] S320x2048.size inb_S1280x2048_S320x2048_320_0).emb j)) (xbV m c) (aV m c 1)) (k0_pay17 (F := F))) Kt) := by
  rw [k0_part9_eq_skeleton]
  simp only [k0_part9_skel, Prog.bind_lift, Prog.bind_op, Prog.bind_ret, Prog.pure_eq_ret, semSignalWord, semWaitWord, wp_deviceId]
  iintro ⟨#HI, #Hlev, #Hr14, #Hr16zp, HB, Hyl1, Hqyl3, HO, Ht14, Ht16zp, Hc2, Hp2⟩ Hk
  iapply (load_all (F := F) c) $$ HB; iintro HB
  ihave Hyl1 := (any_elim c yl1) $$ Hyl1
  icases Hyl1 with ⟨%YHyl1, Hyl1⟩
  iapply (load_slab (F := F) c) $$ Hyl1; iintro Hyl1
  iapply (store_slab (F := F) c) $$ Hyl1; iintro Hyl1
  ihave Hyl1 := (Entails.of_eq (congrArg (ownsTc c yl1 fullShare) (yl_part1 m c))) $$ Hyl1
  iapply (send_step m K c (zp c) (dev9_eq c) 8 rfl 14 rfl rfl (by decide) rfl rfl (by decide) rfl rfl (src := yl1) (dst := yl3) (q := fullShare) (X := ylV m c 1) rfl rfl (give16 m c)) $$ [Hyl1 Hqyl3 HO Ht14 Ht16zp]
  · isplitr; · iexact HI
    isplitl [Hyl1]; · iexact Hyl1
    isplitl [Hqyl3]; · iexact Hqyl3
    isplitl [HO]; · iexact HO
    isplitl [Ht14]; · iexact Ht14
    isplitr; · iexact Hr14
    isplitl [Ht16zp]; · iexact Ht16zp
    iexact Hr16zp
  iintro ⟨Hc14, HO⟩
  iapply (wait_step m K c 2 0 9 (by decide) rfl (by decide) rfl (src := xr1) (dst := xs1) rfl) $$ [Hc2 HO Hp2]
  · isplitr; · iexact HI
    isplitr; · iexact Hlev
    isplitl [Hc2]; · iexact Hc2
    isplitl [HO]; · iexact HO
    iexact Hp2
  iintro ⟨HO, Hp2, -, Hpay⟩
  ihave Hpay := (show cpPay m c 0 2 ⊢ (iprop(ownsTc c xs1 fullShare (xsV m c 1)) : sProp 𝕄) from .rfl) $$ Hpay
  irename Hpay => Hxs1
  iapply (ret_run c ⟨Scalar.addi (Scalar.addi 0#32 (Scalar.muli v9 4#32)) (Scalar.muli v5 2#32), Scalar.muli v8 1#32⟩ Kt)
  iapply Hk
  isplitl [HB]; · iexact HB
  isplitl [HO]; · iexact HO
  isplitl [Hp2]; · iexact Hp2
  isplitl [Hc14]; · iexact Hc14
  iexact Hxs1

end Cert.MoeK

end
-- ==== Proof.BodyD.lean ====
/-
  The body's stretches ten to twelve: the second expert's results of the received rows, and the own side's first results put back in the tokens' order.
-/
module

public import proofs.«01_k».proof.Proof.BodyKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

set_option maxHeartbeats 4000000 in
/-- The tenth stretch of the body. -/
theorem part10_run (v5 v8 v9 w w' : BitVec 32) (Kt : _ → sProp 𝕄) :
    (iprop(Inv m K ∗ levAts L lv ∗ rch c 6 0 ∗ rch (xp c) 8 0 ∗ crd c 4 ∗ owing c (owe c 9) ∗ pos c 4 0 ∗ ownsTc c bA fullShare (aV m c 1) ∗ ownsTc c bB fullShare (bV m c 1) ∗ anyTc c yb1 ∗ anyTc (xp c) yr1 ∗ tok c 6 0 0 ∗ tok (xp c) 8 0 0) : sProp 𝕄)
      ⊢ iprop(((owing c (owe c 10) ∗ pos c 4 1 ∗ ownsTc c bA fullShare (aV m c 1) ∗ ownsTc c bB fullShare (bV m c 1) ∗ ownsTc c xr1 fullShare (xsV m (xp c) 1) ∗ ownsTc c yb1 fullShare.right (ybV m c 1) ∗ crd c 6) -∗ Kt (4#32)) -∗ wpc c (k0_part10 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v5 v8 v9 w w') Kt) := by
  rw [k0_part10_eq_skeleton]
  simp only [k0_part10_skel, Prog.bind_lift, Prog.bind_op, Prog.bind_ret, Prog.pure_eq_ret, semSignalWord, semWaitWord, wp_deviceId]
  iintro ⟨#HI, #Hlev, #Hr6, #Hr8xp, Hc4, HO, Hp4, HA, HB, Hyb1, Hqyr1, Ht6, Ht8xp⟩ Hk
  iapply (wait_step m K c 4 0 9 (by decide) rfl (by decide) rfl (src := xs1) (dst := xr1) rfl) $$ [Hc4 HO Hp4]
  · isplitr; · iexact HI
    isplitr; · iexact Hlev
    isplitl [Hc4]; · iexact Hc4
    isplitl [HO]; · iexact HO
    iexact Hp4
  iintro ⟨HO, Hp4, -, Hpay⟩
  ihave Hpay := (show cpPay m c 0 4 ⊢ (iprop(ownsTc c xr1 fullShare (xsV m (xp c) 1)) : sProp 𝕄) from .rfl) $$ Hpay
  irename Hpay => Hxr1
  iapply (load_slab (F := F) c) $$ Hxr1; iintro Hxr1
  iapply (load_all (F := F) c) $$ HA; iintro HA
  iapply (load_all (F := F) c) $$ HB; iintro HB
  ihave Hyb1 := (any_elim c yb1) $$ Hyb1
  icases Hyb1 with ⟨%YHyb1, Hyb1⟩
  iapply (load_slab (F := F) c) $$ Hyb1; iintro Hyb1
  iapply (store_slab (F := F) c) $$ Hyb1; iintro Hyb1
  ihave Hyb1 := (Entails.of_eq (congrArg (ownsTc c yb1 fullShare) (yb_part1 m c))) $$ Hyb1
  ihave Hyb1H := (halves c yb1 (ybV m c 1)) $$ Hyb1
  icases Hyb1H with ⟨Hyb1l, Hyb1r⟩
  iapply (send_step m K c (xp c) (dev10_eq c) 9 rfl 6 rfl rfl (by decide) rfl rfl (by decide) rfl rfl (src := yb1) (dst := yr1) (q := fullShare.left) (X := ybV m c 1) rfl rfl (give8 m c)) $$ [Hyb1l Hqyr1 HO Ht6 Ht8xp]
  · isplitr; · iexact HI
    isplitl [Hyb1l]; · iexact Hyb1l
    isplitl [Hqyr1]; · iexact Hqyr1
    isplitl [HO]; · iexact HO
    isplitl [Ht6]; · iexact Ht6
    isplitr; · iexact Hr6
    isplitl [Ht8xp]; · iexact Ht8xp
    iexact Hr8xp
  iintro ⟨Hc6, HO⟩
  iapply (ret_run c (4#32) Kt)
  iapply Hk
  isplitl [HO]; · iexact HO
  isplitl [Hp4]; · iexact Hp4
  isplitl [HA]; · iexact HA
  isplitl [HB]; · iexact HB
  isplitl [Hxr1]; · iexact Hxr1
  isplitl [Hyb1r]; · iexact Hyb1r
  iexact Hc6

set_option maxHeartbeats 4000000 in
/-- The eleventh stretch of the body. -/
theorem part11_run (v2 v5 v10 v11 v12 w : BitVec 32) (Kt : _ → sProp 𝕄) :
    (iprop(Inv m K ∗ levAts L lv ∗ rch c 10 0 ∗ rch (dg c) 12 0 ∗ ownsTc c yb1 fullShare.right (ybV m c 1) ∗ anyTc (dg c) yr3 ∗ owing c (owe c 10) ∗ tok c 10 0 0 ∗ tok (dg c) 12 0 0 ∗ crd c 13 ∗ pos c 13 0 ∗ crd c 15 ∗ pos c 15 0) : sProp 𝕄)
      ⊢ iprop(((owing c (owe c 11) ∗ pos c 13 1 ∗ pos c 15 1 ∗ crd c 10 ∗ ownsTc c yl0 fullShare (ylV m c 0) ∗ ownsTc c yl2 fullShare (ylV m (zp c) 0)) -∗ Kt ⟨⟩) -∗ wpc c (k0_part11 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 c v2 v5 v10 v11 v12 w) Kt) := by
  rw [k0_part11_eq_skeleton]
  simp only [k0_part11_skel, Prog.bind_lift, Prog.bind_op, Prog.bind_ret, Prog.pure_eq_ret, semSignalWord, semWaitWord, wp_deviceId]
  iintro ⟨#HI, #Hlev, #Hr10, #Hr12dg, Hyb1r, Hqyr3, HO, Ht10, Ht12dg, Hc13, Hp13, Hc15, Hp15⟩ Hk
  iapply (send_step m K c (dg c) (dev11_eq c) 10 rfl 10 rfl rfl (by decide) rfl rfl (by decide) rfl rfl (src := yb1) (dst := yr3) (q := fullShare.right) (X := ybV m c 1) rfl rfl (give12 m c)) $$ [Hyb1r Hqyr3 HO Ht10 Ht12dg]
  · isplitr; · iexact HI
    isplitl [Hyb1r]; · iexact Hyb1r
    isplitl [Hqyr3]; · iexact Hqyr3
    isplitl [HO]; · iexact HO
    isplitl [Ht10]; · iexact Ht10
    isplitr; · iexact Hr10
    isplitl [Ht12dg]; · iexact Ht12dg
    iexact Hr12dg
  iintro ⟨Hc10, HO⟩
  iapply (wait_step m K c 13 0 11 (by decide) rfl (by decide) rfl (src := yl2) (dst := yl0) rfl) $$ [Hc13 HO Hp13]
  · isplitr; · iexact HI
    isplitr; · iexact Hlev
    isplitl [Hc13]; · iexact Hc13
    isplitl [HO]; · iexact HO
    iexact Hp13
  iintro ⟨HO, Hp13, -, Hpay⟩
  ihave Hpay := (show cpPay m c 0 13 ⊢ (iprop(ownsTc c yl0 fullShare (ylV m c 0)) : sProp 𝕄) from .rfl) $$ Hpay
  irename Hpay => Hyl0
  iapply (wait_step m K c 15 0 11 (by decide) rfl (by decide) rfl (src := yl0) (dst := yl2) rfl) $$ [Hc15 HO Hp15]
  · isplitr; · iexact HI
    isplitr; · iexact Hlev
    isplitl [Hc15]; · iexact Hc15
    isplitl [HO]; · iexact HO
    iexact Hp15
  iintro ⟨HO, Hp15, -, Hpay⟩
  ihave Hpay := (show cpPay m c 0 15 ⊢ (iprop(ownsTc c yl2 fullShare (ylV m (zp c) 0)) : sProp 𝕄) from .rfl) $$ Hpay
  irename Hpay => Hyl2
  iapply (ret_run c ⟨⟩ Kt)
  iapply Hk
  isplitl [HO]; · iexact HO
  isplitl [Hp13]; · iexact Hp13
  isplitl [Hp15]; · iexact Hp15
  isplitl [Hc10]; · iexact Hc10
  isplitl [Hyl0]; · iexact Hyl0
  iexact Hyl2

set_option maxHeartbeats 4000000 in
/-- The twelfth stretch of the body. -/
theorem part12_run (v2 v5 v10 : BitVec 32) (Kt : _ → sProp 𝕄) :
    (iprop(Inv m K ∗ levAts L lv ∗ crd c 14 ∗ owing c (owe c 11) ∗ pos c 14 0 ∗ crd c 16 ∗ pos c 16 0 ∗ ownsTc c yl0 fullShare (ylV m c 0) ∗ ownsTc c yl2 fullShare (ylV m (zp c) 0) ∗ ownsTc c bPl fullShare (plV m c) ∗ anyTc c (bOut.slice p0 (fun _ => rfl)) ∗ anyTc c (bOut.slice p1 (fun _ => rfl))) : sProp 𝕄)
      ⊢ iprop(((owing c (owe c 11) ∗ pos c 14 1 ∗ pos c 16 1 ∗ ownsTc c bPl fullShare (plV m c) ∗ ownsTc c (bOut.slice p0 (fun _ => rfl)) fullShare (oaV m c 0) ∗ ownsTc c (bOut.slice p1 (fun _ => rfl)) fullShare (oaV m c 1) ∗ ownsTc c bYl fullShare (ylF m c)) -∗ Kt (k0_pay22 (fun j => plV m c ((Rect.unit (s := S1280x2048) ![0, 1024] S1280x512.size inb_S1280x2048_S1280x512_0_1024).emb j)))) -∗ wpc c (k0_part12 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 v2 v5 v10) Kt) := by
  rw [k0_part12_eq_skeleton]
  simp only [k0_part12_skel, Prog.bind_lift, Prog.bind_op, Prog.bind_ret, Prog.pure_eq_ret, semSignalWord, semWaitWord, wp_deviceId]
  iintro ⟨#HI, #Hlev, Hc14, HO, Hp14, Hc16, Hp16, Hyl0, Hyl2, Hpl, Ho0, Ho1⟩ Hk
  iapply (wait_step m K c 14 0 11 (by decide) rfl (by decide) rfl (src := yl3) (dst := yl1) rfl) $$ [Hc14 HO Hp14]
  · isplitr; · iexact HI
    isplitr; · iexact Hlev
    isplitl [Hc14]; · iexact Hc14
    isplitl [HO]; · iexact HO
    iexact Hp14
  iintro ⟨HO, Hp14, -, Hpay⟩
  ihave Hpay := (show cpPay m c 0 14 ⊢ (iprop(ownsTc c yl1 fullShare (ylV m c 1)) : sProp 𝕄) from .rfl) $$ Hpay
  irename Hpay => Hyl1
  iapply (wait_step m K c 16 0 11 (by decide) rfl (by decide) rfl (src := yl1) (dst := yl3) rfl) $$ [Hc16 HO Hp16]
  · isplitr; · iexact HI
    isplitr; · iexact Hlev
    isplitl [Hc16]; · iexact Hc16
    isplitl [HO]; · iexact HO
    iexact Hp16
  iintro ⟨HO, Hp16, -, Hpay⟩
  ihave Hpay := (show cpPay m c 0 16 ⊢ (iprop(ownsTc c yl3 fullShare (ylV m (zp c) 1)) : sProp 𝕄) from .rfl) $$ Hpay
  irename Hpay => Hyl3
  ihave HylJ := (join4 c fullShare bYl (ylS m c)) $$ [Hyl0 Hyl1 Hyl2 Hyl3]
  · isplitl [Hyl0]; · iexact Hyl0
    isplitl [Hyl1]; · iexact Hyl1
    isplitl [Hyl2]; · iexact Hyl2
    iexact Hyl3
  irename HylJ => Hyl
  iapply (load_part (F := F) c) $$ Hpl; iintro Hpl
  iapply (load_all (F := F) c) $$ Hyl; iintro Hyl
  ihave Ho0 := (any_elim c (bOut.slice p0 (fun _ => rfl))) $$ Ho0
  icases Ho0 with ⟨%YHo0, Ho0⟩
  iapply (load_slab (F := F) c) $$ Ho0; iintro Ho0
  iapply (store_slab (F := F) c) $$ Ho0; iintro Ho0
  ihave Ho0 := (Entails.of_eq (congrArg (ownsTc c (bOut.slice p0 (fun _ => rfl)) fullShare) (oa_part0 m c))) $$ Ho0
  iapply (load_part (F := F) c) $$ Hpl; iintro Hpl
  iapply (load_all (F := F) c) $$ Hyl; iintro Hyl
  ihave Ho1 := (any_elim c (bOut.slice p1 (fun _ => rfl))) $$ Ho1
  icases Ho1 with ⟨%YHo1, Ho1⟩
  iapply (load_slab (F := F) c) $$ Ho1; iintro Ho1
  iapply (store_slab (F := F) c) $$ Ho1; iintro Ho1
  ihave Ho1 := (Entails.of_eq (congrArg (ownsTc c (bOut.slice p1 (fun _ => rfl)) fullShare) (oa_part1 m c))) $$ Ho1
  iapply (load_part (F := F) c) $$ Hpl; iintro Hpl
  iapply (ret_run c (k0_pay22 (fun j => plV m c ((Rect.unit (s := S1280x2048) ![0, 1024] S1280x512.size inb_S1280x2048_S1280x512_0_1024).emb j))) Kt)
  iapply Hk
  isplitl [HO]; · iexact HO
  isplitl [Hp14]; · iexact Hp14
  isplitl [Hp16]; · iexact Hp16
  isplitl [Hpl]; · iexact Hpl
  isplitl [Ho0]; · iexact Ho0
  isplitl [Ho1]; · iexact Ho1
  iexact Hyl

end Cert.MoeK

end
-- ==== Proof.BodyE.lean ====
/-
  The body's stretches thirteen to fifteen: the own side's other results, and the last receipts.
-/
module

public import proofs.«01_k».proof.Proof.BodyKit

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

set_option maxHeartbeats 4000000 in
/-- The thirteenth stretch of the body. -/
theorem part13_run (v5 v8 v9 : BitVec 32) (Kt : _ → sProp 𝕄) :
    (iprop(Inv m K ∗ levAts L lv ∗ ownsTc c bYl fullShare (ylF m c) ∗ anyTc c (bOut.slice p2 (fun _ => rfl)) ∗ ownsTc c bPl fullShare (plV m c) ∗ anyTc c (bOut.slice p3 (fun _ => rfl)) ∗ crd c 5 ∗ owing c (owe c 11) ∗ pos c 5 0 ∗ crd c 7 ∗ pos c 7 0) : sProp 𝕄)
      ⊢ iprop(((ownsTc c bYl fullShare (ylF m c) ∗ ownsTc c (bOut.slice p2 (fun _ => rfl)) fullShare (oaV m c 2) ∗ ownsTc c bPl fullShare (plV m c) ∗ ownsTc c (bOut.slice p3 (fun _ => rfl)) fullShare (oaV m c 3) ∗ owing c (owe c 11) ∗ pos c 5 1 ∗ pos c 7 1 ∗ ownsTc c yb0 fullShare.left (ybV m c 0) ∗ ownsTc c yr0 fullShare (ybV m (xp c) 0)) -∗ Kt ⟨⟩) -∗ wpc c (k0_part13 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 v5 v8 v9 (k0_pay22 (fun j => plV m c ((Rect.unit (s := S1280x2048) ![0, 1024] S1280x512.size inb_S1280x2048_S1280x512_0_1024).emb j)))) Kt) := by
  rw [k0_part13_eq_skeleton]
  simp only [k0_part13_skel, Prog.bind_lift, Prog.bind_op, Prog.bind_ret, Prog.pure_eq_ret, semSignalWord, semWaitWord, wp_deviceId]
  iintro ⟨#HI, #Hlev, Hyl, Ho2, Hpl, Ho3, Hc5, HO, Hp5, Hc7, Hp7⟩ Hk
  iapply (load_all (F := F) c) $$ Hyl; iintro Hyl
  ihave Ho2 := (any_elim c (bOut.slice p2 (fun _ => rfl))) $$ Ho2
  icases Ho2 with ⟨%YHo2, Ho2⟩
  iapply (load_slab (F := F) c) $$ Ho2; iintro Ho2
  iapply (store_slab (F := F) c) $$ Ho2; iintro Ho2
  ihave Ho2 := (Entails.of_eq (congrArg (ownsTc c (bOut.slice p2 (fun _ => rfl)) fullShare) (oa_part2 m c))) $$ Ho2
  iapply (load_part (F := F) c) $$ Hpl; iintro Hpl
  iapply (load_all (F := F) c) $$ Hyl; iintro Hyl
  ihave Ho3 := (any_elim c (bOut.slice p3 (fun _ => rfl))) $$ Ho3
  icases Ho3 with ⟨%YHo3, Ho3⟩
  iapply (load_slab (F := F) c) $$ Ho3; iintro Ho3
  iapply (store_slab (F := F) c) $$ Ho3; iintro Ho3
  ihave Ho3 := (Entails.of_eq (congrArg (ownsTc c (bOut.slice p3 (fun _ => rfl)) fullShare) (oa_part3 m c))) $$ Ho3
  iapply (wait_step m K c 5 0 11 (by decide) rfl (by decide) rfl (src := yr0) (dst := yb0) rfl) $$ [Hc5 HO Hp5]
  · isplitr; · iexact HI
    isplitr; · iexact Hlev
    isplitl [Hc5]; · iexact Hc5
    isplitl [HO]; · iexact HO
    iexact Hp5
  iintro ⟨HO, Hp5, -, Hpay⟩
  ihave Hpay := (show cpPay m c 0 5 ⊢ (iprop(ownsTc c yb0 fullShare.left (ybV m c 0)) : sProp 𝕄) from .rfl) $$ Hpay
  irename Hpay => Hyb0l
  iapply (wait_step m K c 7 0 11 (by decide) rfl (by decide) rfl (src := yb0) (dst := yr0) rfl) $$ [Hc7 HO Hp7]
  · isplitr; · iexact HI
    isplitr; · iexact Hlev
    isplitl [Hc7]; · iexact Hc7
    isplitl [HO]; · iexact HO
    iexact Hp7
  iintro ⟨HO, Hp7, -, Hpay⟩
  ihave Hpay := (show cpPay m c 0 7 ⊢ (iprop(ownsTc c yr0 fullShare (ybV m (xp c) 0)) : sProp 𝕄) from .rfl) $$ Hpay
  irename Hpay => Hyr0
  iapply (ret_run c ⟨⟩ Kt)
  iapply Hk
  isplitl [Hyl]; · iexact Hyl
  isplitl [Ho2]; · iexact Ho2
  isplitl [Hpl]; · iexact Hpl
  isplitl [Ho3]; · iexact Ho3
  isplitl [HO]; · iexact HO
  isplitl [Hp5]; · iexact Hp5
  isplitl [Hp7]; · iexact Hp7
  isplitl [Hyb0l]; · iexact Hyb0l
  iexact Hyr0

set_option maxHeartbeats 4000000 in
/-- The fourteenth stretch of the body. -/
theorem part14_run (v5 v8 v9 v11 v12 : BitVec 32) (Kt : _ → sProp 𝕄) :
    (iprop(Inv m K ∗ levAts L lv ∗ crd c 9 ∗ owing c (owe c 11) ∗ pos c 9 0 ∗ crd c 11 ∗ pos c 11 0 ∗ crd c 6 ∗ pos c 6 0) : sProp 𝕄)
      ⊢ iprop(((owing c (owe c 11) ∗ pos c 9 1 ∗ pos c 11 1 ∗ pos c 6 1 ∗ ownsTc c yb0 fullShare.right (ybV m c 0) ∗ ownsTc c yr2 fullShare (ybV m (dg c) 0) ∗ ownsTc c yb1 fullShare.left (ybV m c 1)) -∗ Kt ⟨⟩) -∗ wpc c (k0_part14 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 v5 v8 v9 v11 v12) Kt) := by
  rw [k0_part14_eq_skeleton]
  simp only [k0_part14_skel, Prog.bind_lift, Prog.bind_op, Prog.bind_ret, Prog.pure_eq_ret, semSignalWord, semWaitWord, wp_deviceId]
  iintro ⟨#HI, #Hlev, Hc9, HO, Hp9, Hc11, Hp11, Hc6, Hp6⟩ Hk
  iapply (wait_step m K c 9 0 11 (by decide) rfl (by decide) rfl (src := yr2) (dst := yb0) rfl) $$ [Hc9 HO Hp9]
  · isplitr; · iexact HI
    isplitr; · iexact Hlev
    isplitl [Hc9]; · iexact Hc9
    isplitl [HO]; · iexact HO
    iexact Hp9
  iintro ⟨HO, Hp9, -, Hpay⟩
  ihave Hpay := (show cpPay m c 0 9 ⊢ (iprop(ownsTc c yb0 fullShare.right (ybV m c 0)) : sProp 𝕄) from .rfl) $$ Hpay
  irename Hpay => Hyb0r
  iapply (wait_step m K c 11 0 11 (by decide) rfl (by decide) rfl (src := yb0) (dst := yr2) rfl) $$ [Hc11 HO Hp11]
  · isplitr; · iexact HI
    isplitr; · iexact Hlev
    isplitl [Hc11]; · iexact Hc11
    isplitl [HO]; · iexact HO
    iexact Hp11
  iintro ⟨HO, Hp11, -, Hpay⟩
  ihave Hpay := (show cpPay m c 0 11 ⊢ (iprop(ownsTc c yr2 fullShare (ybV m (dg c) 0)) : sProp 𝕄) from .rfl) $$ Hpay
  irename Hpay => Hyr2
  iapply (wait_step m K c 6 0 11 (by decide) rfl (by decide) rfl (src := yr1) (dst := yb1) rfl) $$ [Hc6 HO Hp6]
  · isplitr; · iexact HI
    isplitr; · iexact Hlev
    isplitl [Hc6]; · iexact Hc6
    isplitl [HO]; · iexact HO
    iexact Hp6
  iintro ⟨HO, Hp6, -, Hpay⟩
  ihave Hpay := (show cpPay m c 0 6 ⊢ (iprop(ownsTc c yb1 fullShare.left (ybV m c 1)) : sProp 𝕄) from .rfl) $$ Hpay
  irename Hpay => Hyb1l
  iapply (ret_run c ⟨⟩ Kt)
  iapply Hk
  isplitl [HO]; · iexact HO
  isplitl [Hp9]; · iexact Hp9
  isplitl [Hp11]; · iexact Hp11
  isplitl [Hp6]; · iexact Hp6
  isplitl [Hyb0r]; · iexact Hyb0r
  isplitl [Hyr2]; · iexact Hyr2
  iexact Hyb1l

set_option maxHeartbeats 4000000 in
/-- The fifteenth stretch of the body. -/
theorem part15_run (v5 v11 v12 : BitVec 32) (Kt : _ → sProp 𝕄) :
    (iprop(Inv m K ∗ levAts L lv ∗ crd c 8 ∗ owing c (owe c 11) ∗ pos c 8 0 ∗ crd c 10 ∗ pos c 10 0 ∗ crd c 12 ∗ pos c 12 0 ∗ ownsTc c yr0 fullShare (ybV m (xp c) 0) ∗ ownsTc c yr2 fullShare (ybV m (dg c) 0) ∗ ownsTc c bPs fullShare (psV m c) ∗ ownsTc c (bOut.slice p0 (fun _ => rfl)) fullShare (oaV m c 0)) : sProp 𝕄)
      ⊢ iprop(((owing c (owe c 11) ∗ pos c 8 1 ∗ pos c 10 1 ∗ pos c 12 1 ∗ ownsTc c bPs fullShare (psV m c) ∗ ownsTc c (bOut.slice p0 (fun _ => rfl)) fullShare (oV m c 0) ∗ ownsTc c yb1 fullShare.right (ybV m c 1) ∗ ownsTc c bYr fullShare (yrF m c)) -∗ Kt ⟨k0_pay26 (fun j => psV m c ((Rect.unit (s := S1280x2048) ![0, 512] S1280x512.size inb_S1280x2048_S1280x512_0_512).emb j)), yrF m c⟩) -∗ wpc c (k0_part15 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19 v5 v11 v12) Kt) := by
  rw [k0_part15_eq_skeleton]
  simp only [k0_part15_skel, Prog.bind_lift, Prog.bind_op, Prog.bind_ret, Prog.pure_eq_ret, semSignalWord, semWaitWord, wp_deviceId]
  iintro ⟨#HI, #Hlev, Hc8, HO, Hp8, Hc10, Hp10, Hc12, Hp12, Hyr0, Hyr2, Hps, Ho0⟩ Hk
  iapply (wait_step m K c 8 0 11 (by decide) rfl (by decide) rfl (src := yb1) (dst := yr1) rfl) $$ [Hc8 HO Hp8]
  · isplitr; · iexact HI
    isplitr; · iexact Hlev
    isplitl [Hc8]; · iexact Hc8
    isplitl [HO]; · iexact HO
    iexact Hp8
  iintro ⟨HO, Hp8, -, Hpay⟩
  ihave Hpay := (show cpPay m c 0 8 ⊢ (iprop(ownsTc c yr1 fullShare (ybV m (xp c) 1)) : sProp 𝕄) from .rfl) $$ Hpay
  irename Hpay => Hyr1
  iapply (wait_step m K c 10 0 11 (by decide) rfl (by decide) rfl (src := yr3) (dst := yb1) rfl) $$ [Hc10 HO Hp10]
  · isplitr; · iexact HI
    isplitr; · iexact Hlev
    isplitl [Hc10]; · iexact Hc10
    isplitl [HO]; · iexact HO
    iexact Hp10
  iintro ⟨HO, Hp10, -, Hpay⟩
  ihave Hpay := (show cpPay m c 0 10 ⊢ (iprop(ownsTc c yb1 fullShare.right (ybV m c 1)) : sProp 𝕄) from .rfl) $$ Hpay
  irename Hpay => Hyb1r
  iapply (wait_step m K c 12 0 11 (by decide) rfl (by decide) rfl (src := yb1) (dst := yr3) rfl) $$ [Hc12 HO Hp12]
  · isplitr; · iexact HI
    isplitr; · iexact Hlev
    isplitl [Hc12]; · iexact Hc12
    isplitl [HO]; · iexact HO
    iexact Hp12
  iintro ⟨HO, Hp12, -, Hpay⟩
  ihave Hpay := (show cpPay m c 0 12 ⊢ (iprop(ownsTc c yr3 fullShare (ybV m (dg c) 1)) : sProp 𝕄) from .rfl) $$ Hpay
  irename Hpay => Hyr3
  ihave HyrJ := (join4 c fullShare bYr (yrS m c)) $$ [Hyr0 Hyr1 Hyr2 Hyr3]
  · isplitl [Hyr0]; · iexact Hyr0
    isplitl [Hyr1]; · iexact Hyr1
    isplitl [Hyr2]; · iexact Hyr2
    iexact Hyr3
  irename HyrJ => Hyr
  iapply (load_part (F := F) c) $$ Hps; iintro Hps
  iapply (load_all (F := F) c) $$ Hyr; iintro Hyr
  iapply (load_slab (F := F) c) $$ Ho0; iintro Ho0
  iapply (load_slab (F := F) c) $$ Ho0; iintro Ho0
  iapply (store_slab (F := F) c) $$ Ho0; iintro Ho0
  ihave Ho0 := (Entails.of_eq (congrArg (ownsTc c (bOut.slice p0 (fun _ => rfl)) fullShare) (o_part0 m c))) $$ Ho0
  iapply (load_part (F := F) c) $$ Hps; iintro Hps
  iapply (load_all (F := F) c) $$ Hyr; iintro Hyr
  iapply (ret_run c ⟨k0_pay26 (fun j => psV m c ((Rect.unit (s := S1280x2048) ![0, 512] S1280x512.size inb_S1280x2048_S1280x512_0_512).emb j)), yrF m c⟩ Kt)
  iapply Hk
  isplitl [HO]; · iexact HO
  isplitl [Hp8]; · iexact Hp8
  isplitl [Hp10]; · iexact Hp10
  isplitl [Hp12]; · iexact Hp12
  isplitl [Hps]; · iexact Hps
  isplitl [Ho0]; · iexact Ho0
  isplitl [Hyb1r]; · iexact Hyb1r
  iexact Hyr

end Cert.MoeK

end
-- ==== Proof.Body.lean ====
/-
  The kernel's whole body.
-/
module

public import proofs.«01_k».proof.Proof.BodyA
public import proofs.«01_k».proof.Proof.BodyB
public import proofs.«01_k».proof.Proof.BodyC
public import proofs.«01_k».proof.Proof.BodyD
public import proofs.«01_k».proof.Proof.BodyE

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- A stretch and what follows it. -/
theorem bind_run {α β : Type} {p : Prog (TpuEff nD τ sig (Elt F) Λ₀ .tc) α} {k : α → Prog (TpuEff nD τ sig (Elt F) Λ₀ .tc) β} {Kt : β → sProp 𝕄} :
    (wpc c p (fun a => wpc c (k a) Kt) : sProp 𝕄) ⊢ wpc c (p >>= k) Kt := by
  unfold wpc; rw [wp_bind]

set_option maxHeartbeats 8000000 in
/-- All stretches, and the stores after them. -/
theorem part16_run (Kt : _ → sProp 𝕄) :
    (iprop(Inv m K ∗ levAts L lv ∗ rch (xp c) 0 0 ∗ rch (zp c) 0 0 ∗ rch (dg c) 0 0 ∗ rch c 1 0 ∗ rch c 2 0 ∗ rch c 3 0 ∗ rch c 4 0 ∗ rch c 5 0 ∗ rch c 6 0 ∗ rch c 7 0 ∗ rch c 8 0 ∗ rch c 9 0 ∗ rch c 10 0 ∗ rch c 11 0 ∗ rch c 12 0 ∗ rch c 13 0 ∗ rch c 14 0 ∗ rch c 15 0 ∗ rch c 16 0 ∗ rch c 17 0 ∗ rch c 18 0 ∗ owing c (owe c 0) ∗ ownsTc c bX fullShare (xV m c) ∗ ownsTc c bPl fullShare (plV m c) ∗ ownsTc c bPs fullShare (psV m c) ∗ anyTc c (bXb.slice p0 (fun _ => rfl)) ∗ anyTc c (bOut.slice p0 (fun _ => rfl)) ∗ anyTc c (bXb.slice p1 (fun _ => rfl)) ∗ anyTc c (bOut.slice p1 (fun _ => rfl)) ∗ anyTc c (bXb.slice p2 (fun _ => rfl)) ∗ anyTc c (bOut.slice p2 (fun _ => rfl)) ∗ anyTc c (bXb.slice p3 (fun _ => rfl)) ∗ anyTc c (bOut.slice p3 (fun _ => rfl)) ∗ anyTc c xs0 ∗ anyTc c xs1 ∗ anyTc c xr0 ∗ anyTc c xr1 ∗ anyTc c yb0 ∗ anyTc c yb1 ∗ anyTc c yl0 ∗ anyTc c yl1 ∗ anyTc c yl2 ∗ anyTc c yl3 ∗ anyTc c yr0 ∗ anyTc c yr1 ∗ anyTc c yr2 ∗ anyTc c yr3 ∗ anyTc c bA ∗ anyTc c bB ∗ anyTc c bS1 ∗ anyTc c bS2 ∗ w1P m c 0 ∗ w2P m c 0 ∗ w1P m c 1 ∗ w2P m c 1 ∗ tok (xp c) 0 0 0 ∗ tok (zp c) 0 0 1 ∗ tok (dg c) 0 0 2 ∗ tok (xp c) 3 0 0 ∗ crd c 3 ∗ tok (xp c) 4 0 0 ∗ crd c 4 ∗ tok (xp c) 7 0 0 ∗ crd c 7 ∗ tok (xp c) 8 0 0 ∗ crd c 8 ∗ tok (zp c) 15 0 0 ∗ crd c 15 ∗ tok (zp c) 16 0 0 ∗ crd c 16 ∗ tok (dg c) 11 0 0 ∗ crd c 11 ∗ tok (dg c) 12 0 0 ∗ crd c 12 ∗ tok c 1 0 0 ∗ tok c 2 0 0 ∗ tok c 5 0 0 ∗ tok c 6 0 0 ∗ tok c 9 0 0 ∗ tok c 10 0 0 ∗ tok c 13 0 0 ∗ tok c 14 0 0 ∗ tok c 17 0 0 ∗ tok c 17 1 0 ∗ tok c 18 0 0 ∗ tok c 18 1 0 ∗ cred (tallyAt (kcell c 0) () 3) ∗ pos c 0 0 ∗ pos c 1 0 ∗ pos c 2 0 ∗ pos c 3 0 ∗ pos c 4 0 ∗ pos c 5 0 ∗ pos c 6 0 ∗ pos c 7 0 ∗ pos c 8 0 ∗ pos c 9 0 ∗ pos c 10 0 ∗ pos c 11 0 ∗ pos c 12 0 ∗ pos c 13 0 ∗ pos c 14 0 ∗ pos c 15 0 ∗ pos c 16 0 ∗ pos c 17 0 ∗ pos c 18 0) : sProp 𝕄)
      ⊢ iprop(((ownsTc c bX fullShare (xV m c) ∗ pos c 0 1 ∗ w1P m c 0 ∗ w2P m c 0 ∗ pos c 1 1 ∗ pos c 3 1 ∗ ownsTc c xs0 fullShare (xsV m c 0) ∗ ownsTc c xr0 fullShare (xsV m (xp c) 0) ∗ pos c 17 2 ∗ pos c 18 2 ∗ ownsTc c bXb fullShare (xbV m c) ∗ ownsTc c bS1 fullShare (w1f m c 1) ∗ w1P m c 1 ∗ ownsTc c bS2 fullShare (w2f m c 1) ∗ w2P m c 1 ∗ pos c 2 1 ∗ ownsTc c xs1 fullShare (xsV m c 1) ∗ pos c 4 1 ∗ ownsTc c bA fullShare (aV m c 1) ∗ ownsTc c bB fullShare (bV m c 1) ∗ ownsTc c xr1 fullShare (xsV m (xp c) 1) ∗ pos c 13 1 ∗ pos c 15 1 ∗ pos c 14 1 ∗ pos c 16 1 ∗ ownsTc c (bOut.slice p1 (fun _ => rfl)) fullShare (oV m c 1) ∗ ownsTc c bYl fullShare (ylF m c) ∗ ownsTc c (bOut.slice p2 (fun _ => rfl)) fullShare (oV m c 2) ∗ ownsTc c bPl fullShare (plV m c) ∗ ownsTc c (bOut.slice p3 (fun _ => rfl)) fullShare (oaV m c 3) ∗ pos c 5 1 ∗ pos c 7 1 ∗ ownsTc c yb0 fullShare.left (ybV m c 0) ∗ pos c 9 1 ∗ pos c 11 1 ∗ pos c 6 1 ∗ ownsTc c yb0 fullShare.right (ybV m c 0) ∗ ownsTc c yb1 fullShare.left (ybV m c 1) ∗ owing c (owe c 11) ∗ pos c 8 1 ∗ pos c 10 1 ∗ pos c 12 1 ∗ ownsTc c bPs fullShare (psV m c) ∗ ownsTc c (bOut.slice p0 (fun _ => rfl)) fullShare (oV m c 0) ∗ ownsTc c yb1 fullShare.right (ybV m c 1) ∗ ownsTc c bYr fullShare (yrF m c)) -∗ Kt ⟨k0_pay29 (oaV m c 3), k0_pay30 (fun j => psV m c ((Rect.unit (s := S1280x2048) ![0, 1536] S1280x512.size inb_S1280x2048_S1280x512_0_1536).emb j)) (yrF m c)⟩) -∗ wpc c (k0_part16 (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19) Kt) := by
  rw [k0_part16_eq_skeleton]
  unfold k0_part16_skel
  iintro ⟨#HI, #Hlev, #Hr0xp, #Hr0zp, #Hr0dg, #Hr1, #Hr2, #Hr3, #Hr4, #Hr5, #Hr6, #Hr7, #Hr8, #Hr9, #Hr10, #Hr11, #Hr12, #Hr13, #Hr14, #Hr15, #Hr16, #Hr17, #Hr18, HO, Hx, Hpl, Hps, Hxb0, Ho0, Hxb1, Ho1, Hxb2, Ho2, Hxb3, Ho3, Hxs0, Hxs1, Hxr0, Hxr1, Hyb0, Hyb1, Hyl0, Hyl1, Hyl2, Hyl3, Hyr0, Hyr1, Hyr2, Hyr3, HA, HB, HS1, HS2, Hw10, Hw20, Hw11, Hw21, Ht0xp, Ht0zp, Ht0dg, Ht3xp, Hc3, Ht4xp, Hc4, Ht7xp, Hc7, Ht8xp, Hc8, Ht15zp, Hc15, Ht16zp, Hc16, Ht11dg, Hc11, Ht12dg, Hc12, Ht1, Ht2, Ht5, Ht6, Ht9, Ht10, Ht13, Ht14, Ht17_0, Ht17_1, Ht18_0, Ht18_1, Hc0, Hp0, Hp1, Hp2, Hp3, Hp4, Hp5, Hp6, Hp7, Hp8, Hp9, Hp10, Hp11, Hp12, Hp13, Hp14, Hp15, Hp16, Hp17, Hp18⟩ Hk
  iapply (bind_run c)
  iapply (part1_run m K c ) $$ [Hx Hxb0 Hxb1 Hxb2]
  · isplitr; · iexact HI
    isplitr; · iexact Hlev
    isplitl [Hx]; · iexact Hx
    isplitl [Hxb0]; · iexact Hxb0
    isplitl [Hxb1]; · iexact Hxb1
    iexact Hxb2
  iintro ⟨Hx, Hxb0, Hxb1, Hxb2⟩
  iapply (bind_run c)
  iapply (part2_run m K c _ _ _ _ _ _ _) $$ [Hxb3 Hxb0 Hxb1 Hxb2 Hxr0 Hxr1 Hyr0 Hyr1 HO Ht0xp Hyl2 Hyl3 Ht0zp Hyr2 Hyr3 Ht0dg Hc0 Hp0 Hw10 HS1 Ht17_0]
  · isplitr; · iexact HI
    isplitr; · iexact Hlev
    isplitr; · iexact Hr3
    isplitr; · iexact Hr4
    isplitr; · iexact Hr7
    isplitr; · iexact Hr8
    isplitr; · iexact Hr0xp
    isplitr; · iexact Hr15
    isplitr; · iexact Hr16
    isplitr; · iexact Hr0zp
    isplitr; · iexact Hr11
    isplitr; · iexact Hr12
    isplitr; · iexact Hr0dg
    isplitr; · iexact Hr17
    isplitl [Hxb3]; · iexact Hxb3
    isplitl [Hxb0]; · iexact Hxb0
    isplitl [Hxb1]; · iexact Hxb1
    isplitl [Hxb2]; · iexact Hxb2
    isplitl [Hxr0]; · iexact Hxr0
    isplitl [Hxr1]; · iexact Hxr1
    isplitl [Hyr0]; · iexact Hyr0
    isplitl [Hyr1]; · iexact Hyr1
    isplitl [HO]; · iexact HO
    isplitl [Ht0xp]; · iexact Ht0xp
    isplitl [Hyl2]; · iexact Hyl2
    isplitl [Hyl3]; · iexact Hyl3
    isplitl [Ht0zp]; · iexact Ht0zp
    isplitl [Hyr2]; · iexact Hyr2
    isplitl [Hyr3]; · iexact Hyr3
    isplitl [Ht0dg]; · iexact Ht0dg
    isplitl [Hc0]; · iexact Hc0
    isplitl [Hp0]; · iexact Hp0
    isplitl [Hw10]; · iexact Hw10
    isplitl [HS1]; · iexact HS1
    iexact Ht17_0
  iintro ⟨#Hr3xp, #Hr4xp, #Hr7xp, #Hr8xp, #Hr15zp, #Hr16zp, #Hr11dg, #Hr12dg, HO, Hp0, Hxb, Hqxr0, Hqxr1, Hqyr0, Hqyr1, Hqyl2, Hqyl3, Hqyr2, Hqyr3, Hc17⟩
  ihave Hxs1 := (any_elim c xs1) $$ Hxs1
  icases Hxs1 with ⟨%Y1, Hxs1⟩
  iapply (bind_run c)
  iapply (part3_run m K c _ _ _ Y1) $$ [Hw20 HS2 Ht18_0 Hps Hxb Hxs0 Hqxr0 HO Ht1 Ht3xp Hxs1]
  · isplitr; · iexact HI
    isplitr; · iexact Hlev
    isplitr; · iexact Hr18
    isplitr; · iexact Hr1
    isplitr; · iexact Hr3xp
    isplitl [Hw20]; · iexact Hw20
    isplitl [HS2]; · iexact HS2
    isplitl [Ht18_0]; · iexact Ht18_0
    isplitl [Hps]; · iexact Hps
    isplitl [Hxb]; · iexact Hxb
    isplitl [Hxs0]; · iexact Hxs0
    isplitl [Hqxr0]; · iexact Hqxr0
    isplitl [HO]; · iexact HO
    isplitl [Ht1]; · iexact Ht1
    isplitl [Ht3xp]; · iexact Ht3xp
    iexact Hxs1
  iintro ⟨Hps, Hxb, HO, Hxs1, Hc18, Hc1⟩
  iapply (bind_run c)
  iapply (part4_run m K c _ _ _ Y1) $$ [Hxs1 Hqxr1 HO Ht2 Ht4xp Hc17 Hp17 Hc18 Hp18 HA]
  · isplitr; · iexact HI
    isplitr; · iexact Hlev
    isplitr; · iexact Hr2
    isplitr; · iexact Hr4xp
    isplitl [Hxs1]; · iexact Hxs1
    isplitl [Hqxr1]; · iexact Hqxr1
    isplitl [HO]; · iexact HO
    isplitl [Ht2]; · iexact Ht2
    isplitl [Ht4xp]; · iexact Ht4xp
    isplitl [Hc17]; · iexact Hc17
    isplitl [Hp17]; · iexact Hp17
    isplitl [Hc18]; · iexact Hc18
    isplitl [Hp18]; · iexact Hp18
    iexact HA
  iintro ⟨#Hr17_1, #Hr18_1, HO, Hp17, Hp18, HA, Hc2, HS1, Hw10, HS2, Hw20⟩
  iapply (bind_run c)
  iapply (part5_run m K c _) $$ [HB Hw11 HS1 Ht17_1 Hw21 HS2 Ht18_1 Hpl Hxb HA Hyl0]
  · isplitr; · iexact HI
    isplitr; · iexact Hlev
    isplitr; · iexact Hr17_1
    isplitr; · iexact Hr18_1
    isplitl [HB]; · iexact HB
    isplitl [Hw11]; · iexact Hw11
    isplitl [HS1]; · iexact HS1
    isplitl [Ht17_1]; · iexact Ht17_1
    isplitl [Hw21]; · iexact Hw21
    isplitl [HS2]; · iexact HS2
    isplitl [Ht18_1]; · iexact Ht18_1
    isplitl [Hpl]; · iexact Hpl
    isplitl [Hxb]; · iexact Hxb
    isplitl [HA]; · iexact HA
    iexact Hyl0
  iintro ⟨HB, Hpl, Hxb, HA, Hyl0, Hc17, Hc18⟩
  iapply (bind_run c)
  iapply (part6_run m K c _ _ _ _ _ _) $$ [Hyl0 Hqyl2 HO Ht13 Ht15zp Hc1 Hp1 Hc3 Hp3 HA]
  · isplitr; · iexact HI
    isplitr; · iexact Hlev
    isplitr; · iexact Hr13
    isplitr; · iexact Hr15zp
    isplitl [Hyl0]; · iexact Hyl0
    isplitl [Hqyl2]; · iexact Hqyl2
    isplitl [HO]; · iexact HO
    isplitl [Ht13]; · iexact Ht13
    isplitl [Ht15zp]; · iexact Ht15zp
    isplitl [Hc1]; · iexact Hc1
    isplitl [Hp1]; · iexact Hp1
    isplitl [Hc3]; · iexact Hc3
    isplitl [Hp3]; · iexact Hp3
    iexact HA
  iintro ⟨HO, Hp1, Hp3, HA, Hc13, Hxs0, Hxr0⟩
  iapply (bind_run c)
  iapply (part7_run m K c _ _ _ _ _) $$ [HB Hyb0 Hqyr0 HO Ht5 Ht7xp]
  · isplitr; · iexact HI
    isplitr; · iexact Hlev
    isplitr; · iexact Hr5
    isplitr; · iexact Hr7xp
    isplitl [HB]; · iexact HB
    isplitl [Hyb0]; · iexact Hyb0
    isplitl [Hqyr0]; · iexact Hqyr0
    isplitl [HO]; · iexact HO
    isplitl [Ht5]; · iexact Ht5
    iexact Ht7xp
  iintro ⟨HB, HO, Hyb0r, Hc5⟩
  iapply (bind_run c)
  iapply (part8_run m K c _) $$ [Hyb0r Hqyr2 HO Ht9 Ht11dg Hc17 Hp17 Hc18 Hp18 HA HB Hpl Hxb]
  · isplitr; · iexact HI
    isplitr; · iexact Hlev
    isplitr; · iexact Hr9
    isplitr; · iexact Hr11dg
    isplitl [Hyb0r]; · iexact Hyb0r
    isplitl [Hqyr2]; · iexact Hqyr2
    isplitl [HO]; · iexact HO
    isplitl [Ht9]; · iexact Ht9
    isplitl [Ht11dg]; · iexact Ht11dg
    isplitl [Hc17]; · iexact Hc17
    isplitl [Hp17]; · iexact Hp17
    isplitl [Hc18]; · iexact Hc18
    isplitl [Hp18]; · iexact Hp18
    isplitl [HA]; · iexact HA
    isplitl [HB]; · iexact HB
    isplitl [Hpl]; · iexact Hpl
    iexact Hxb
  iintro ⟨HO, Hp17, Hp18, HA, HB, Hpl, Hxb, Hc9, HS1, Hw11, HS2, Hw21⟩
  iapply (bind_run c)
  iapply (part9_run m K c _ _ _ _ _) $$ [HB Hyl1 Hqyl3 HO Ht14 Ht16zp Hc2 Hp2]
  · isplitr; · iexact HI
    isplitr; · iexact Hlev
    isplitr; · iexact Hr14
    isplitr; · iexact Hr16zp
    isplitl [HB]; · iexact HB
    isplitl [Hyl1]; · iexact Hyl1
    isplitl [Hqyl3]; · iexact Hqyl3
    isplitl [HO]; · iexact HO
    isplitl [Ht14]; · iexact Ht14
    isplitl [Ht16zp]; · iexact Ht16zp
    isplitl [Hc2]; · iexact Hc2
    iexact Hp2
  iintro ⟨HB, HO, Hp2, Hc14, Hxs1⟩
  iapply (bind_run c)
  iapply (part10_run m K c _ _ _ _ _) $$ [Hc4 HO Hp4 HA HB Hyb1 Hqyr1 Ht6 Ht8xp]
  · isplitr; · iexact HI
    isplitr; · iexact Hlev
    isplitr; · iexact Hr6
    isplitr; · iexact Hr8xp
    isplitl [Hc4]; · iexact Hc4
    isplitl [HO]; · iexact HO
    isplitl [Hp4]; · iexact Hp4
    isplitl [HA]; · iexact HA
    isplitl [HB]; · iexact HB
    isplitl [Hyb1]; · iexact Hyb1
    isplitl [Hqyr1]; · iexact Hqyr1
    isplitl [Ht6]; · iexact Ht6
    iexact Ht8xp
  iintro ⟨HO, Hp4, HA, HB, Hxr1, Hyb1r, Hc6⟩
  iapply (bind_run c)
  iapply (part11_run m K c _ _ _ _ _ _) $$ [Hyb1r Hqyr3 HO Ht10 Ht12dg Hc13 Hp13 Hc15 Hp15]
  · isplitr; · iexact HI
    isplitr; · iexact Hlev
    isplitr; · iexact Hr10
    isplitr; · iexact Hr12dg
    isplitl [Hyb1r]; · iexact Hyb1r
    isplitl [Hqyr3]; · iexact Hqyr3
    isplitl [HO]; · iexact HO
    isplitl [Ht10]; · iexact Ht10
    isplitl [Ht12dg]; · iexact Ht12dg
    isplitl [Hc13]; · iexact Hc13
    isplitl [Hp13]; · iexact Hp13
    isplitl [Hc15]; · iexact Hc15
    iexact Hp15
  iintro ⟨HO, Hp13, Hp15, Hc10, Hyl0, Hyl2⟩
  iapply (bind_run c)
  iapply (part12_run m K c _ _ _) $$ [Hc14 HO Hp14 Hc16 Hp16 Hyl0 Hyl2 Hpl Ho0 Ho1]
  · isplitr; · iexact HI
    isplitr; · iexact Hlev
    isplitl [Hc14]; · iexact Hc14
    isplitl [HO]; · iexact HO
    isplitl [Hp14]; · iexact Hp14
    isplitl [Hc16]; · iexact Hc16
    isplitl [Hp16]; · iexact Hp16
    isplitl [Hyl0]; · iexact Hyl0
    isplitl [Hyl2]; · iexact Hyl2
    isplitl [Hpl]; · iexact Hpl
    isplitl [Ho0]; · iexact Ho0
    iexact Ho1
  iintro ⟨HO, Hp14, Hp16, Hpl, Ho0, Ho1, Hyl⟩
  iapply (bind_run c)
  iapply (part13_run m K c _ _ _) $$ [Hyl Ho2 Hpl Ho3 Hc5 HO Hp5 Hc7 Hp7]
  · isplitr; · iexact HI
    isplitr; · iexact Hlev
    isplitl [Hyl]; · iexact Hyl
    isplitl [Ho2]; · iexact Ho2
    isplitl [Hpl]; · iexact Hpl
    isplitl [Ho3]; · iexact Ho3
    isplitl [Hc5]; · iexact Hc5
    isplitl [HO]; · iexact HO
    isplitl [Hp5]; · iexact Hp5
    isplitl [Hc7]; · iexact Hc7
    iexact Hp7
  iintro ⟨Hyl, Ho2, Hpl, Ho3, HO, Hp5, Hp7, Hyb0l, Hyr0⟩
  iapply (bind_run c)
  iapply (part14_run m K c _ _ _ _ _) $$ [Hc9 HO Hp9 Hc11 Hp11 Hc6 Hp6]
  · isplitr; · iexact HI
    isplitr; · iexact Hlev
    isplitl [Hc9]; · iexact Hc9
    isplitl [HO]; · iexact HO
    isplitl [Hp9]; · iexact Hp9
    isplitl [Hc11]; · iexact Hc11
    isplitl [Hp11]; · iexact Hp11
    isplitl [Hc6]; · iexact Hc6
    iexact Hp6
  iintro ⟨HO, Hp9, Hp11, Hp6, Hyb0r, Hyr2, Hyb1l⟩
  iapply (bind_run c)
  iapply (part15_run m K c _ _ _) $$ [Hc8 HO Hp8 Hc10 Hp10 Hc12 Hp12 Hyr0 Hyr2 Hps Ho0]
  · isplitr; · iexact HI
    isplitr; · iexact Hlev
    isplitl [Hc8]; · iexact Hc8
    isplitl [HO]; · iexact HO
    isplitl [Hp8]; · iexact Hp8
    isplitl [Hc10]; · iexact Hc10
    isplitl [Hp10]; · iexact Hp10
    isplitl [Hc12]; · iexact Hc12
    isplitl [Hp12]; · iexact Hp12
    isplitl [Hyr0]; · iexact Hyr0
    isplitl [Hyr2]; · iexact Hyr2
    isplitl [Hps]; · iexact Hps
    iexact Ho0
  iintro ⟨HO, Hp8, Hp10, Hp12, Hps, Ho0, Hyb1r, Hyr⟩
  simp only [Prog.bind_lift, Prog.bind_op, Prog.bind_ret, Prog.pure_eq_ret]
  iapply (load_slab (F := F) c) $$ Ho1; iintro Ho1
  iapply (load_slab (F := F) c) $$ Ho1; iintro Ho1
  iapply (store_slab (F := F) c) $$ Ho1; iintro Ho1
  ihave Ho1 := (Entails.of_eq (congrArg (ownsTc c (bOut.slice p1 (fun _ => rfl)) fullShare) (o_part1 m c))) $$ Ho1
  iapply (load_part (F := F) c) $$ Hps; iintro Hps
  iapply (load_all (F := F) c) $$ Hyr; iintro Hyr
  iapply (load_slab (F := F) c) $$ Ho2; iintro Ho2
  iapply (load_slab (F := F) c) $$ Ho2; iintro Ho2
  iapply (store_slab (F := F) c) $$ Ho2; iintro Ho2
  ihave Ho2 := (Entails.of_eq (congrArg (ownsTc c (bOut.slice p2 (fun _ => rfl)) fullShare) (o_part2 m c))) $$ Ho2
  iapply (load_part (F := F) c) $$ Hps; iintro Hps
  iapply (load_all (F := F) c) $$ Hyr; iintro Hyr
  iapply (load_slab (F := F) c) $$ Ho3; iintro Ho3
  iapply (ret_run c ⟨k0_pay29 (oaV m c 3), k0_pay30 (fun j => psV m c ((Rect.unit (s := S1280x2048) ![0, 1536] S1280x512.size inb_S1280x2048_S1280x512_0_1536).emb j)) (yrF m c)⟩ Kt)
  iapply Hk
  isplitl [Hx]; · iexact Hx
  isplitl [Hp0]; · iexact Hp0
  isplitl [Hw10]; · iexact Hw10
  isplitl [Hw20]; · iexact Hw20
  isplitl [Hp1]; · iexact Hp1
  isplitl [Hp3]; · iexact Hp3
  isplitl [Hxs0]; · iexact Hxs0
  isplitl [Hxr0]; · iexact Hxr0
  isplitl [Hp17]; · iexact Hp17
  isplitl [Hp18]; · iexact Hp18
  isplitl [Hxb]; · iexact Hxb
  isplitl [HS1]; · iexact HS1
  isplitl [Hw11]; · iexact Hw11
  isplitl [HS2]; · iexact HS2
  isplitl [Hw21]; · iexact Hw21
  isplitl [Hp2]; · iexact Hp2
  isplitl [Hxs1]; · iexact Hxs1
  isplitl [Hp4]; · iexact Hp4
  isplitl [HA]; · iexact HA
  isplitl [HB]; · iexact HB
  isplitl [Hxr1]; · iexact Hxr1
  isplitl [Hp13]; · iexact Hp13
  isplitl [Hp15]; · iexact Hp15
  isplitl [Hp14]; · iexact Hp14
  isplitl [Hp16]; · iexact Hp16
  isplitl [Ho1]; · iexact Ho1
  isplitl [Hyl]; · iexact Hyl
  isplitl [Ho2]; · iexact Ho2
  isplitl [Hpl]; · iexact Hpl
  isplitl [Ho3]; · iexact Ho3
  isplitl [Hp5]; · iexact Hp5
  isplitl [Hp7]; · iexact Hp7
  isplitl [Hyb0l]; · iexact Hyb0l
  isplitl [Hp9]; · iexact Hp9
  isplitl [Hp11]; · iexact Hp11
  isplitl [Hp6]; · iexact Hp6
  isplitl [Hyb0r]; · iexact Hyb0r
  isplitl [Hyb1l]; · iexact Hyb1l
  isplitl [HO]; · iexact HO
  isplitl [Hp8]; · iexact Hp8
  isplitl [Hp10]; · iexact Hp10
  isplitl [Hp12]; · iexact Hp12
  isplitl [Hps]; · iexact Hps
  isplitl [Ho0]; · iexact Ho0
  isplitl [Hyb1r]; · iexact Hyb1r
  iexact Hyr

set_option maxHeartbeats 8000000 in
/-- The whole body: the result stands in its staging block, and all that was lent is back. -/
theorem body_run (Kt : _ → sProp 𝕄) :
    (iprop(Inv m K ∗ levAts L lv ∗ rch (xp c) 0 0 ∗ rch (zp c) 0 0 ∗ rch (dg c) 0 0 ∗ rch c 1 0 ∗ rch c 2 0 ∗ rch c 3 0 ∗ rch c 4 0 ∗ rch c 5 0 ∗ rch c 6 0 ∗ rch c 7 0 ∗ rch c 8 0 ∗ rch c 9 0 ∗ rch c 10 0 ∗ rch c 11 0 ∗ rch c 12 0 ∗ rch c 13 0 ∗ rch c 14 0 ∗ rch c 15 0 ∗ rch c 16 0 ∗ rch c 17 0 ∗ rch c 18 0 ∗ owing c (owe c 0) ∗ ownsTc c bX fullShare (xV m c) ∗ ownsTc c bPl fullShare (plV m c) ∗ ownsTc c bPs fullShare (psV m c) ∗ anyTc c (bXb.slice p0 (fun _ => rfl)) ∗ anyTc c (bOut.slice p0 (fun _ => rfl)) ∗ anyTc c (bXb.slice p1 (fun _ => rfl)) ∗ anyTc c (bOut.slice p1 (fun _ => rfl)) ∗ anyTc c (bXb.slice p2 (fun _ => rfl)) ∗ anyTc c (bOut.slice p2 (fun _ => rfl)) ∗ anyTc c (bXb.slice p3 (fun _ => rfl)) ∗ anyTc c (bOut.slice p3 (fun _ => rfl)) ∗ anyTc c xs0 ∗ anyTc c xs1 ∗ anyTc c xr0 ∗ anyTc c xr1 ∗ anyTc c yb0 ∗ anyTc c yb1 ∗ anyTc c yl0 ∗ anyTc c yl1 ∗ anyTc c yl2 ∗ anyTc c yl3 ∗ anyTc c yr0 ∗ anyTc c yr1 ∗ anyTc c yr2 ∗ anyTc c yr3 ∗ anyTc c bA ∗ anyTc c bB ∗ anyTc c bS1 ∗ anyTc c bS2 ∗ w1P m c 0 ∗ w2P m c 0 ∗ w1P m c 1 ∗ w2P m c 1 ∗ tok (xp c) 0 0 0 ∗ tok (zp c) 0 0 1 ∗ tok (dg c) 0 0 2 ∗ tok (xp c) 3 0 0 ∗ crd c 3 ∗ tok (xp c) 4 0 0 ∗ crd c 4 ∗ tok (xp c) 7 0 0 ∗ crd c 7 ∗ tok (xp c) 8 0 0 ∗ crd c 8 ∗ tok (zp c) 15 0 0 ∗ crd c 15 ∗ tok (zp c) 16 0 0 ∗ crd c 16 ∗ tok (dg c) 11 0 0 ∗ crd c 11 ∗ tok (dg c) 12 0 0 ∗ crd c 12 ∗ tok c 1 0 0 ∗ tok c 2 0 0 ∗ tok c 5 0 0 ∗ tok c 6 0 0 ∗ tok c 9 0 0 ∗ tok c 10 0 0 ∗ tok c 13 0 0 ∗ tok c 14 0 0 ∗ tok c 17 0 0 ∗ tok c 17 1 0 ∗ tok c 18 0 0 ∗ tok c 18 1 0 ∗ cred (tallyAt (kcell c 0) () 3) ∗ pos c 0 0 ∗ pos c 1 0 ∗ pos c 2 0 ∗ pos c 3 0 ∗ pos c 4 0 ∗ pos c 5 0 ∗ pos c 6 0 ∗ pos c 7 0 ∗ pos c 8 0 ∗ pos c 9 0 ∗ pos c 10 0 ∗ pos c 11 0 ∗ pos c 12 0 ∗ pos c 13 0 ∗ pos c 14 0 ∗ pos c 15 0 ∗ pos c 16 0 ∗ pos c 17 0 ∗ pos c 18 0) : sProp 𝕄)
      ⊢ iprop(((owing c (owe c 11) ∗ ownsTc c bX fullShare (xV m c) ∗ ownsTc c bPl fullShare (plV m c) ∗ ownsTc c bPs fullShare (psV m c) ∗ ownsTc c bOut fullShare (outV m c) ∗ anyTc c bXb ∗ anyTc c bXs ∗ anyTc c bXr ∗ anyTc c bYb ∗ anyTc c bYl ∗ anyTc c bYr ∗ anyTc c bA ∗ anyTc c bB ∗ anyTc c bS1 ∗ anyTc c bS2 ∗ w1P m c 0 ∗ w1P m c 1 ∗ w2P m c 0 ∗ w2P m c 1 ∗ pos c 0 1 ∗ pos c 1 1 ∗ pos c 2 1 ∗ pos c 3 1 ∗ pos c 4 1 ∗ pos c 5 1 ∗ pos c 6 1 ∗ pos c 7 1 ∗ pos c 8 1 ∗ pos c 9 1 ∗ pos c 10 1 ∗ pos c 11 1 ∗ pos c 12 1 ∗ pos c 13 1 ∗ pos c 14 1 ∗ pos c 15 1 ∗ pos c 16 1 ∗ pos c 17 2 ∗ pos c 18 2) -∗ Kt ⟨⟩) -∗ wpc c (cc0_body (F := F) bX (hstage0_0 0) bPl (hstage0_1 0) bPs (hstage0_2 0) bW1 (Memref.isWhole_whole _) bW2 (Memref.isWhole_whole _) bOut (hstage0_3 0) bXb (Memref.isWhole_whole _) bXs (Memref.isWhole_whole _) bXr (Memref.isWhole_whole _) bYb (Memref.isWhole_whole _) bYl (Memref.isWhole_whole _) bYr (Memref.isWhole_whole _) bA (Memref.isWhole_whole _) bB (Memref.isWhole_whole _) bS1 (Memref.isWhole_whole _) bS2 (Memref.isWhole_whole _) cc0_scratch10 cc0_scratch11 cc0_scratch12 cc0_scratch13 cc0_scratch14 cc0_scratch15 cc0_scratch16 cc0_scratch17 cc0_scratch18 cc0_scratch19) Kt) := by
  rw [cc0_body_eq_skeleton]
  unfold cc0_body_skel
  iintro ⟨#HI, #Hlev, #Hr0xp, #Hr0zp, #Hr0dg, #Hr1, #Hr2, #Hr3, #Hr4, #Hr5, #Hr6, #Hr7, #Hr8, #Hr9, #Hr10, #Hr11, #Hr12, #Hr13, #Hr14, #Hr15, #Hr16, #Hr17, #Hr18, HO, Hx, Hpl, Hps, Hxb0, Ho0, Hxb1, Ho1, Hxb2, Ho2, Hxb3, Ho3, Hxs0, Hxs1, Hxr0, Hxr1, Hyb0, Hyb1, Hyl0, Hyl1, Hyl2, Hyl3, Hyr0, Hyr1, Hyr2, Hyr3, HA, HB, HS1, HS2, Hw10, Hw20, Hw11, Hw21, Ht0xp, Ht0zp, Ht0dg, Ht3xp, Hc3, Ht4xp, Hc4, Ht7xp, Hc7, Ht8xp, Hc8, Ht15zp, Hc15, Ht16zp, Hc16, Ht11dg, Hc11, Ht12dg, Hc12, Ht1, Ht2, Ht5, Ht6, Ht9, Ht10, Ht13, Ht14, Ht17_0, Ht17_1, Ht18_0, Ht18_1, Hc0, Hp0, Hp1, Hp2, Hp3, Hp4, Hp5, Hp6, Hp7, Hp8, Hp9, Hp10, Hp11, Hp12, Hp13, Hp14, Hp15, Hp16, Hp17, Hp18⟩ Hk
  iapply (bind_run c)
  iapply (part16_run m K c) $$ [HO Hx Hpl Hps Hxb0 Ho0 Hxb1 Ho1 Hxb2 Ho2 Hxb3 Ho3 Hxs0 Hxs1 Hxr0 Hxr1 Hyb0 Hyb1 Hyl0 Hyl1 Hyl2 Hyl3 Hyr0 Hyr1 Hyr2 Hyr3 HA HB HS1 HS2 Hw10 Hw20 Hw11 Hw21 Ht0xp Ht0zp Ht0dg Ht3xp Hc3 Ht4xp Hc4 Ht7xp Hc7 Ht8xp Hc8 Ht15zp Hc15 Ht16zp Hc16 Ht11dg Hc11 Ht12dg Hc12 Ht1 Ht2 Ht5 Ht6 Ht9 Ht10 Ht13 Ht14 Ht17_0 Ht17_1 Ht18_0 Ht18_1 Hc0 Hp0 Hp1 Hp2 Hp3 Hp4 Hp5 Hp6 Hp7 Hp8 Hp9 Hp10 Hp11 Hp12 Hp13 Hp14 Hp15 Hp16 Hp17 Hp18]
  · isplitr; · iexact HI
    isplitr; · iexact Hlev
    isplitr; · iexact Hr0xp
    isplitr; · iexact Hr0zp
    isplitr; · iexact Hr0dg
    isplitr; · iexact Hr1
    isplitr; · iexact Hr2
    isplitr; · iexact Hr3
    isplitr; · iexact Hr4
    isplitr; · iexact Hr5
    isplitr; · iexact Hr6
    isplitr; · iexact Hr7
    isplitr; · iexact Hr8
    isplitr; · iexact Hr9
    isplitr; · iexact Hr10
    isplitr; · iexact Hr11
    isplitr; · iexact Hr12
    isplitr; · iexact Hr13
    isplitr; · iexact Hr14
    isplitr; · iexact Hr15
    isplitr; · iexact Hr16
    isplitr; · iexact Hr17
    isplitr; · iexact Hr18
    isplitl [HO]; · iexact HO
    isplitl [Hx]; · iexact Hx
    isplitl [Hpl]; · iexact Hpl
    isplitl [Hps]; · iexact Hps
    isplitl [Hxb0]; · iexact Hxb0
    isplitl [Ho0]; · iexact Ho0
    isplitl [Hxb1]; · iexact Hxb1
    isplitl [Ho1]; · iexact Ho1
    isplitl [Hxb2]; · iexact Hxb2
    isplitl [Ho2]; · iexact Ho2
    isplitl [Hxb3]; · iexact Hxb3
    isplitl [Ho3]; · iexact Ho3
    isplitl [Hxs0]; · iexact Hxs0
    isplitl [Hxs1]; · iexact Hxs1
    isplitl [Hxr0]; · iexact Hxr0
    isplitl [Hxr1]; · iexact Hxr1
    isplitl [Hyb0]; · iexact Hyb0
    isplitl [Hyb1]; · iexact Hyb1
    isplitl [Hyl0]; · iexact Hyl0
    isplitl [Hyl1]; · iexact Hyl1
    isplitl [Hyl2]; · iexact Hyl2
    isplitl [Hyl3]; · iexact Hyl3
    isplitl [Hyr0]; · iexact Hyr0
    isplitl [Hyr1]; · iexact Hyr1
    isplitl [Hyr2]; · iexact Hyr2
    isplitl [Hyr3]; · iexact Hyr3
    isplitl [HA]; · iexact HA
    isplitl [HB]; · iexact HB
    isplitl [HS1]; · iexact HS1
    isplitl [HS2]; · iexact HS2
    isplitl [Hw10]; · iexact Hw10
    isplitl [Hw20]; · iexact Hw20
    isplitl [Hw11]; · iexact Hw11
    isplitl [Hw21]; · iexact Hw21
    isplitl [Ht0xp]; · iexact Ht0xp
    isplitl [Ht0zp]; · iexact Ht0zp
    isplitl [Ht0dg]; · iexact Ht0dg
    isplitl [Ht3xp]; · iexact Ht3xp
    isplitl [Hc3]; · iexact Hc3
    isplitl [Ht4xp]; · iexact Ht4xp
    isplitl [Hc4]; · iexact Hc4
    isplitl [Ht7xp]; · iexact Ht7xp
    isplitl [Hc7]; · iexact Hc7
    isplitl [Ht8xp]; · iexact Ht8xp
    isplitl [Hc8]; · iexact Hc8
    isplitl [Ht15zp]; · iexact Ht15zp
    isplitl [Hc15]; · iexact Hc15
    isplitl [Ht16zp]; · iexact Ht16zp
    isplitl [Hc16]; · iexact Hc16
    isplitl [Ht11dg]; · iexact Ht11dg
    isplitl [Hc11]; · iexact Hc11
    isplitl [Ht12dg]; · iexact Ht12dg
    isplitl [Hc12]; · iexact Hc12
    isplitl [Ht1]; · iexact Ht1
    isplitl [Ht2]; · iexact Ht2
    isplitl [Ht5]; · iexact Ht5
    isplitl [Ht6]; · iexact Ht6
    isplitl [Ht9]; · iexact Ht9
    isplitl [Ht10]; · iexact Ht10
    isplitl [Ht13]; · iexact Ht13
    isplitl [Ht14]; · iexact Ht14
    isplitl [Ht17_0]; · iexact Ht17_0
    isplitl [Ht17_1]; · iexact Ht17_1
    isplitl [Ht18_0]; · iexact Ht18_0
    isplitl [Ht18_1]; · iexact Ht18_1
    isplitl [Hc0]; · iexact Hc0
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    iexact Hp18
  iintro ⟨Hx, Hp0, Hw10, Hw20, Hp1, Hp3, Hxs0, Hxr0, Hp17, Hp18, Hxb, HS1, Hw11, HS2, Hw21, Hp2, Hxs1, Hp4, HA, HB, Hxr1, Hp13, Hp15, Hp14, Hp16, Ho1, Hyl, Ho2, Hpl, Ho3, Hp5, Hp7, Hyb0l, Hp9, Hp11, Hp6, Hyb0r, Hyb1l, HO, Hp8, Hp10, Hp12, Hps, Ho0, Hyb1r, Hyr⟩
  simp only [Prog.bind_lift, Prog.bind_op, Prog.bind_ret, Prog.pure_eq_ret]
  iapply (load_slab (F := F) c) $$ Ho3; iintro Ho3
  iapply (store_slab (F := F) c) $$ Ho3; iintro Ho3
  ihave Ho3 := (Entails.of_eq (congrArg (ownsTc c (bOut.slice p3 (fun _ => rfl)) fullShare) (o_part3 m c))) $$ Ho3
  ihave HoJ := (join5g c fullShare bOut (oV m c)) $$ [Ho0 Ho1 Ho2 Ho3]
  · isplitl [Ho0]; · iexact Ho0
    isplitl [Ho1]; · iexact Ho1
    isplitl [Ho2]; · iexact Ho2
    iexact Ho3
  irename HoJ => Ho
  ihave HxsJ := (join2 c fullShare bXs (xsV m c)) $$ [Hxs0 Hxs1]
  · isplitl [Hxs0]; · iexact Hxs0
    iexact Hxs1
  irename HxsJ => Hxs
  ihave HxrJ := (join2 c fullShare bXr (xsV m (xp c))) $$ [Hxr0 Hxr1]
  · isplitl [Hxr0]; · iexact Hxr0
    iexact Hxr1
  irename HxrJ => Hxr
  ihave Hyb0J := (unhalves c yb0 (ybV m c 0)) $$ [Hyb0l Hyb0r]
  · isplitl [Hyb0l]; · iexact Hyb0l
    iexact Hyb0r
  irename Hyb0J => Hyb0
  ihave Hyb1J := (unhalves c yb1 (ybV m c 1)) $$ [Hyb1l Hyb1r]
  · isplitl [Hyb1l]; · iexact Hyb1l
    iexact Hyb1r
  irename Hyb1J => Hyb1
  ihave HybJ := (join2 c fullShare bYb (ybV m c)) $$ [Hyb0 Hyb1]
  · isplitl [Hyb0]; · iexact Hyb0
    iexact Hyb1
  irename HybJ => Hyb
  ihave Hxb := (any_intro c bXb _) $$ Hxb
  ihave Hxs := (any_intro c bXs _) $$ Hxs
  ihave Hxr := (any_intro c bXr _) $$ Hxr
  ihave Hyb := (any_intro c bYb _) $$ Hyb
  ihave Hyl := (any_intro c bYl _) $$ Hyl
  ihave Hyr := (any_intro c bYr _) $$ Hyr
  ihave HA := (any_intro c bA _) $$ HA
  ihave HB := (any_intro c bB _) $$ HB
  ihave HS1 := (any_intro c bS1 _) $$ HS1
  ihave HS2 := (any_intro c bS2 _) $$ HS2
  iapply (ret_run c ⟨⟩ Kt)
  iapply Hk
  isplitl [HO]; · iexact HO
  isplitl [Hx]; · iexact Hx
  isplitl [Hpl]; · iexact Hpl
  isplitl [Hps]; · iexact Hps
  isplitl [Ho]; · iexact Ho
  isplitl [Hxb]; · iexact Hxb
  isplitl [Hxs]; · iexact Hxs
  isplitl [Hxr]; · iexact Hxr
  isplitl [Hyb]; · iexact Hyb
  isplitl [Hyl]; · iexact Hyl
  isplitl [Hyr]; · iexact Hyr
  isplitl [HA]; · iexact HA
  isplitl [HB]; · iexact HB
  isplitl [HS1]; · iexact HS1
  isplitl [HS2]; · iexact HS2
  isplitl [Hw10]; · iexact Hw10
  isplitl [Hw11]; · iexact Hw11
  isplitl [Hw20]; · iexact Hw20
  isplitl [Hw21]; · iexact Hw21
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  isplitl [Hp14]; · iexact Hp14
  isplitl [Hp15]; · iexact Hp15
  isplitl [Hp16]; · iexact Hp16
  isplitl [Hp17]; · iexact Hp17
  iexact Hp18

end Cert.MoeK

end
-- ==== Proof.Own.lean ====
/-
  The region's buffers as the body wants them, and the device's share of the exchange's bookkeeping.
-/
module

public import proofs.«01_k».proof.Proof.Windows
public import proofs.«01_k».proof.Proof.Body

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers the body addresses itself -/

theorem any_whole (c : Dev nD) (b : Ref sig .tc) :
    (anyTc c (Memref.whole b) : sProp 𝕄) = iprop(∃ f : Buf (Elt F) ((c : Thread nD τ).loc b), ((c : Thread nD τ).loc b) ↦{fullShare} f) := by
  unfold anyTc ownsTc
  simp only [owns_whole]

/-- The buffers no window stages: one of any contents each. -/
theorem scratch_eq (c : Dev nD) : (Pipeline.scopedRest (Val := Elt F) (Ix := Unit) (Name := ℕ) (U := UU) (Lvl := ℕ) spec0 c : sProp 𝕄)
    = iprop(anyTc c bXb ∗ anyTc c bXs ∗ anyTc c bXr ∗ anyTc c bYb ∗ anyTc c bYl ∗ anyTc c bYr ∗ anyTc c bA ∗ anyTc c bB ∗ anyTc c bS1 ∗ anyTc c bS2) := by
  rw [scopedRest0_eq]
  simp only [bXb, bXs, bXr, bYb, bYl, bYr, bA, bB, bS1, bS2, any_whole]

section
variable (c : Dev nD)
/-- A buffer of any contents, slab by slab: 640 rows, -/
theorem any2 {sp : Space} {e : EltTy} (M : Memref sig .tc sp S640x1024 e) :
    (anyTc c M : sProp 𝕄) ⊢ iprop(anyTc c (M.slice r0 (fun _ => rfl)) ∗ anyTc c (M.slice r1 (fun _ => rfl))) := by
  iintro H
  ihave H := (any_elim c M) $$ H
  icases H with ⟨%X, H⟩
  ihave H := (split2 c fullShare M X) $$ H
  icases H with ⟨Ha, Hb⟩
  isplitl [Ha]; · iapply (any_intro c _ _) $$ Ha
  iapply (any_intro c _ _) $$ Hb
/-- 1280 rows, -/
theorem any4 {sp : Space} {e : EltTy} (M : Memref sig .tc sp S1280x1024 e) :
    (anyTc c M : sProp 𝕄) ⊢ iprop(anyTc c (M.slice q0 (fun _ => rfl)) ∗ anyTc c (M.slice q1 (fun _ => rfl))
      ∗ anyTc c (M.slice q2 (fun _ => rfl)) ∗ anyTc c (M.slice q3 (fun _ => rfl))) := by
  iintro H
  ihave H := (any_elim c M) $$ H
  icases H with ⟨%X, H⟩
  ihave H := (split4 c fullShare M X) $$ H
  icases H with ⟨Ha, Hb, Hc, Hd⟩
  isplitl [Ha]; · iapply (any_intro c _ _) $$ Ha
  isplitl [Hb]; · iapply (any_intro c _ _) $$ Hb
  isplitl [Hc]; · iapply (any_intro c _ _) $$ Hc
  iapply (any_intro c _ _) $$ Hd
/-- 2048 rows. -/
theorem any5 {sp : Space} {e : EltTy} (M : Memref sig .tc sp S2048x1024 e) :
    (anyTc c M : sProp 𝕄) ⊢ iprop(anyTc c (M.slice p0 (fun _ => rfl)) ∗ anyTc c (M.slice p1 (fun _ => rfl))
      ∗ anyTc c (M.slice p2 (fun _ => rfl)) ∗ anyTc c (M.slice p3 (fun _ => rfl))) := by
  iintro H
  ihave H := (any_elim c M) $$ H
  icases H with ⟨%X, H⟩
  ihave H := (split5 c fullShare M X) $$ H
  icases H with ⟨Ha, Hb, Hc, Hd⟩
  isplitl [Ha]; · iapply (any_intro c _ _) $$ Ha
  isplitl [Hb]; · iapply (any_intro c _ _) $$ Hb
  isplitl [Hc]; · iapply (any_intro c _ _) $$ Hc
  iapply (any_intro c _ _) $$ Hd
end

/-! ## The weights -/

/-- The two arrays of weights. -/
abbrev wRefs : Finset (DevRef τ sig) := {Proc.devRef .tc main_arg2, Proc.devRef .tc main_arg3}

theorem off1_ne : ∀ c : Dev nD, k0_off1 c (BitVec.ofNat 32 0) 0 ≠ k0_off1 c (BitVec.ofNat 32 1) 0 := by decide +kernel
theorem off2_ne : ∀ c : Dev nD, k0_off2 c (BitVec.ofNat 32 0) 0 ≠ k0_off2 c (BitVec.ofNat 32 1) 0 := by decide +kernel

/-- An entry of an expert's first weights lies in the expert's slice, -/
theorem w1_mem (c : Dev nD) (j : Fin 2) (i : S4x1024x2048.Idx) (h : i ∈ (w1src c j).view.set) : (i 0).val = k0_off1 c (BitVec.ofNat 32 j.val) 0 := by
  have h' : i ∈ (bW1.slice (Rect.unit (s := S4x1024x2048) (k0_off1 c (BitVec.ofNat 32 j.val)) S1x1024x2048.size (k0_off1_inb c j)) (fun _ => rfl)).view.set := by
    exact (View.set_reshape _ _) ▸ h
  obtain ⟨y, -, rfl⟩ := Finset.mem_map.mp h'
  have hy := (y 0).isLt
  refine (ValueKit.rect_emb_unit_val (s := S4x1024x2048) (k0_off1 c (BitVec.ofNat 32 j.val)) S1x1024x2048.size (k0_off1_inb c j) y 0).trans ?_
  have : (y 0).val = 0 := Nat.lt_one_iff.mp hy
  omega
/-- and of its second weights. -/
theorem w2_mem (c : Dev nD) (j : Fin 2) (i : S4x2048x1024.Idx) (h : i ∈ (w2src c j).view.set) : (i 0).val = k0_off2 c (BitVec.ofNat 32 j.val) 0 := by
  have h' : i ∈ (bW2.slice (Rect.unit (s := S4x2048x1024) (k0_off2 c (BitVec.ofNat 32 j.val)) S1x2048x1024.size (k0_off2_inb c j)) (fun _ => rfl)).view.set := by
    exact (View.set_reshape _ _) ▸ h
  obtain ⟨y, -, rfl⟩ := Finset.mem_map.mp h'
  have hy := (y 0).isLt
  refine (ValueKit.rect_emb_unit_val (s := S4x2048x1024) (k0_off2 c (BitVec.ofNat 32 j.val)) S1x2048x1024.size (k0_off2_inb c j) y 0).trans ?_
  have : (y 0).val = 0 := Nat.lt_one_iff.mp hy
  omega

/-- What is left of the first weights beside the two experts', -/
def w1R (c : Dev nD) : sProp 𝕄 :=
  (w1src c 0).view.loc (c : Thread nD τ) ↦[(Finset.univ \ (w1src c 0).view.set) \ (w1src c 1).view.set]{fullShare} w1V m c
/-- and of the second. -/
def w2R (c : Dev nD) : sProp 𝕄 :=
  (w2src c 0).view.loc (c : Thread nD τ) ↦[(Finset.univ \ (w2src c 0).view.set) \ (w2src c 1).view.set]{fullShare} w2V m c

theorem w1_split (c : Dev nD) : (((c : Thread nD τ).loc main_arg2 ↦{fullShare} w1V m c) : sProp 𝕄) ⊣⊢ iprop(w1P m c 0 ∗ w1P m c 1 ∗ w1R m c) := by
  refine (pointsTo_split_subset (Finset.subset_univ (w1src c 0).view.set)).trans (sep_congr .rfl ?_)
  refine pointsTo_split_subset fun i hi => Finset.mem_sdiff.mpr ⟨Finset.mem_univ _, fun h0 => ?_⟩
  exact off1_ne c ((w1_mem c 0 i h0).symm.trans (w1_mem c 1 i hi))
theorem w2_split (c : Dev nD) : (((c : Thread nD τ).loc main_arg3 ↦{fullShare} w2V m c) : sProp 𝕄) ⊣⊢ iprop(w2P m c 0 ∗ w2P m c 1 ∗ w2R m c) := by
  refine (pointsTo_split_subset (Finset.subset_univ (w2src c 0).view.set)).trans (sep_congr .rfl ?_)
  refine pointsTo_split_subset fun i hi => Finset.mem_sdiff.mpr ⟨Finset.mem_univ _, fun h0 => ?_⟩
  exact off2_ne c ((w2_mem c 0 i h0).symm.trans (w2_mem c 1 i hi))

theorem held_weights (c : Dev nD) : (StableHlo.held (c.tc : Thread nD τ) wRefs (V5 m c) : sProp 𝕄)
    = iprop(((c : Thread nD τ).loc main_arg2 ↦{fullShare} w1V m c) ∗ ((c : Thread nD τ).loc main_arg3 ↦{fullShare} w2V m c)) := by
  unfold StableHlo.held wRefs
  rw [bigSep_insert (by decide), bigSep_singleton]; rfl

/-- The weights' arrays, the experts' parts apart, -/
theorem weights_open (c : Dev nD) : (StableHlo.held (c.tc : Thread nD τ) wRefs (V5 m c) : sProp 𝕄)
    ⊢ iprop((w1P m c 0 ∗ w1P m c 1 ∗ w1R m c) ∗ (w2P m c 0 ∗ w2P m c 1 ∗ w2R m c)) := by
  rw [held_weights]; exact BIClass.sep_mono (w1_split m c).1 (w2_split m c).1
/-- and together again. -/
theorem weights_close (c : Dev nD) : (iprop((w1P m c 0 ∗ w1P m c 1 ∗ w1R m c) ∗ (w2P m c 0 ∗ w2P m c 1 ∗ w2R m c)) : sProp 𝕄)
    ⊢ StableHlo.held (c.tc : Thread nD τ) wRefs (V5 m c) := by
  rw [held_weights]; exact BIClass.sep_mono (w1_split m c).2 (w2_split m c).2

/-! ## The exchange's bookkeeping, by device -/

/-- The kernel's own semaphores. -/
abbrev osemR : Fin 18 → SemLoc sig := fun k => osem k.succ

/-- A device's partner: itself, across `x`, across `z`, across both. -/
def who : ℕ → Dev nD → Dev nD
  | 0 => fun c => c
  | 1 => xp
  | 2 => zp
  | _ => dg

/-- The 23 payments a device makes: the partner whose cell it pays, the cell, the round and the duty. -/
def payT : ℕ → ℕ × Fin 19 × ℕ × Fin 3
  | 0 => (1, 0, 0, 0)
  | 1 => (2, 0, 0, 1)
  | 2 => (3, 0, 0, 2)
  | 3 => (1, 3, 0, 0)
  | 4 => (1, 4, 0, 0)
  | 5 => (1, 7, 0, 0)
  | 6 => (1, 8, 0, 0)
  | 7 => (2, 15, 0, 0)
  | 8 => (2, 16, 0, 0)
  | 9 => (3, 11, 0, 0)
  | 10 => (3, 12, 0, 0)
  | 11 => (0, 1, 0, 0)
  | 12 => (0, 2, 0, 0)
  | 13 => (0, 5, 0, 0)
  | 14 => (0, 6, 0, 0)
  | 15 => (0, 9, 0, 0)
  | 16 => (0, 10, 0, 0)
  | 17 => (0, 13, 0, 0)
  | 18 => (0, 14, 0, 0)
  | 19 => (0, 17, 0, 0)
  | 20 => (0, 17, 1, 0)
  | 21 => (0, 18, 0, 0)
  | _ => (0, 18, 1, 0)

/-- The rights to a device's payments, -/
def payToks (c : Dev nD) : sProp 𝕄 :=
  bigSep Finset.univ fun j : Fin 23 => tok (who (payT j.val).1 c) (payT j.val).2.1 (payT j.val).2.2.1 (payT j.val).2.2.2
theorem payToks_eq (c : Dev nD) : (payToks c : sProp 𝕄) = iprop(tok (xp c) 0 0 0 ∗ tok (zp c) 0 0 1 ∗ tok (dg c) 0 0 2 ∗ tok (xp c) 3 0 0 ∗ tok (xp c) 4 0 0 ∗ tok (xp c) 7 0 0 ∗ tok (xp c) 8 0 0 ∗ tok (zp c) 15 0 0 ∗ tok (zp c) 16 0 0 ∗ tok (dg c) 11 0 0 ∗ tok (dg c) 12 0 0 ∗ tok c 1 0 0 ∗ tok c 2 0 0 ∗ tok c 5 0 0 ∗ tok c 6 0 0 ∗ tok c 9 0 0 ∗ tok c 10 0 0 ∗ tok c 13 0 0 ∗ tok c 14 0 0 ∗ tok c 17 0 0 ∗ tok c 17 1 0 ∗ tok c 18 0 0 ∗ tok c 18 1 0) :=
  bigSep_univ_eq_bigSepL [0, 1, 2, 3, 4, 5, 6, 7, 8, 9, 10, 11, 12, 13, 14, 15, 16, 17, 18, 19, 20, 21, 22] (by decide) (by decide) _
/-- and to its waits. -/
def crds (c : Dev nD) : sProp 𝕄 := iprop(crd c 3 ∗ crd c 4 ∗ crd c 7 ∗ crd c 8 ∗ crd c 15 ∗ crd c 16 ∗ crd c 11 ∗ crd c 12 ∗ cred (tallyAt (kcell c 0) () 3))

/-- Its own cells not yet opened, -/
def shut (c : Dev nD) : sProp 𝕄 := bigSep Finset.univ fun k : Fin 18 => openTok ER (kcell c k.succ)
/-- and opened. -/
def opened (c : Dev nD) : sProp 𝕄 := bigSep Finset.univ fun k : Fin 18 => iprop(pos c k.succ 0 ∗ rch c k.succ 0)
theorem opened_eq (c : Dev nD) : (opened c : sProp 𝕄) = iprop((pos c 1 0 ∗ rch c 1 0) ∗ (pos c 2 0 ∗ rch c 2 0) ∗ (pos c 3 0 ∗ rch c 3 0) ∗ (pos c 4 0 ∗ rch c 4 0) ∗ (pos c 5 0 ∗ rch c 5 0) ∗ (pos c 6 0 ∗ rch c 6 0) ∗ (pos c 7 0 ∗ rch c 7 0) ∗ (pos c 8 0 ∗ rch c 8 0) ∗ (pos c 9 0 ∗ rch c 9 0) ∗ (pos c 10 0 ∗ rch c 10 0) ∗ (pos c 11 0 ∗ rch c 11 0) ∗ (pos c 12 0 ∗ rch c 12 0) ∗ (pos c 13 0 ∗ rch c 13 0) ∗ (pos c 14 0 ∗ rch c 14 0) ∗ (pos c 15 0 ∗ rch c 15 0) ∗ (pos c 16 0 ∗ rch c 16 0) ∗ (pos c 17 0 ∗ rch c 17 0) ∗ (pos c 18 0 ∗ rch c 18 0)) :=
  bigSep_univ_eq_bigSepL [0, 1, 2, 3, 4, 5, 6, 7, 8, 9, 10, 11, 12, 13, 14, 15, 16, 17] (by decide) (by decide) _

/-- Where the device stands after its last wait. -/
def fin : Fin 19 → ℕ := fun k => if k.val < 17 then 1 else 2
def stood (c : Dev nD) : sProp 𝕄 := bigSep Finset.univ fun k : Fin 19 => pos c k (fin k)
theorem stood_eq (c : Dev nD) : (stood c : sProp 𝕄) = iprop(pos c 0 1 ∗ pos c 1 1 ∗ pos c 2 1 ∗ pos c 3 1 ∗ pos c 4 1 ∗ pos c 5 1 ∗ pos c 6 1 ∗ pos c 7 1 ∗ pos c 8 1 ∗ pos c 9 1 ∗ pos c 10 1 ∗ pos c 11 1 ∗ pos c 12 1 ∗ pos c 13 1 ∗ pos c 14 1 ∗ pos c 15 1 ∗ pos c 16 1 ∗ pos c 17 2 ∗ pos c 18 2) :=
  bigSep_univ_eq_bigSepL [0, 1, 2, 3, 4, 5, 6, 7, 8, 9, 10, 11, 12, 13, 14, 15, 16, 17, 18] (by decide) (by decide) _

/-- All counters of a device's cells: the barrier's, and the kernel's own. -/
theorem zeros_eq (c : Dev nD) : (bigSep Finset.univ (fun k : Fin 19 => semVal (kcell c k) 0) : sProp 𝕄)
    = iprop(semVal (kcell c 0) 0 ∗ Pipeline.ownSems0 osemR c) := by
  unfold Pipeline.ownSems0
  rw [bigSep_univ_eq_bigSepL [0, 1, 2, 3, 4, 5, 6, 7, 8, 9, 10, 11, 12, 13, 14, 15, 16, 17, 18] (by decide) (by decide), bigSep_univ_eq_bigSepL [0, 1, 2, 3, 4, 5, 6, 7, 8, 9, 10, 11, 12, 13, 14, 15, 16, 17] (by decide) (by decide)]
  rfl

/-- The invariants of one device's cells. -/
theorem inv_dev (K : GSem nD τ sig → ℕ) (c : Dev nD) :
    (Inv m K : sProp 𝕄) ⊢ bigSep Finset.univ fun k : Fin 19 => cellInv ER (Rd m) (K (kcell c k)) (kcell c k) := by
  unfold Inv
  rw [bigSep_univ_prod, bigSep_erase (Finset.mem_univ c)]
  refine (show iprop((bigSep Finset.univ fun k : Fin 19 => cellInv ER (Rd m) (K (kcell c k)) (kcell c k)) ∗ _) ⊢ _ from ?_)
  iintro ⟨H, -⟩; iexact H
/-- The same of the kernel's own cells. -/
theorem inv_own (K : GSem nD τ sig → ℕ) (c : Dev nD) :
    (Inv m K : sProp 𝕄) ⊢ bigSep Finset.univ fun k : Fin 18 => cellInv ER (Rd m) (K (kcell c k.succ)) (kcell c k.succ) := by
  refine (inv_dev m K c).trans ?_
  rw [bigSep_univ_eq_bigSepL [0, 1, 2, 3, 4, 5, 6, 7, 8, 9, 10, 11, 12, 13, 14, 15, 16, 17, 18] (by decide) (by decide), bigSep_univ_eq_bigSepL [0, 1, 2, 3, 4, 5, 6, 7, 8, 9, 10, 11, 12, 13, 14, 15, 16, 17] (by decide) (by decide)]
  refine (show iprop(cellInv ER (Rd m) (K (kcell c 0)) (kcell c 0) ∗ (bigSepL [1, 2, 3, 4, 5, 6, 7, 8, 9, 10, 11, 12, 13, 14, 15, 16, 17, 18] fun k : Fin 19 => cellInv ER (Rd m) (K (kcell c k)) (kcell c k))) ⊢ _ from ?_)
  iintro ⟨-, H⟩; iexact H

/-- The kernel's own cells are opened, -/
theorem open_own (K : GSem nD τ sig → ℕ) (c : Dev nD) : iprop(Inv m K ∗ shut c ∗ Pipeline.ownSems0 osemR c) ⊢ (|={Set.univ}=> opened c : sProp 𝕄) := by
  unfold shut Pipeline.ownSems0
  iintro ⟨HI, Hs, H0⟩
  iapply (Rounds.cells_open ER (Rd m) Finset.univ (fun k : Fin 18 => kcell c k.succ) (fun k => K (kcell c k.succ)) (fun k _ => Set.mem_univ _))
  isplitr [H0]
  · rw [bigSep_sep']
    isplitl [HI]; · iapply (inv_own m K c) $$ HI
    iexact Hs
  iexact H0
/-- and all its cells closed again. -/
theorem close_all (K : GSem nD τ sig → ℕ) (c : Dev nD) : iprop(Inv m K ∗ stood c) ⊢ (|={Set.univ}=> iprop(semVal (kcell c 0) 0 ∗ Pipeline.ownSems0 osemR c) : sProp 𝕄) := by
  rw [← zeros_eq]
  refine BIBase.Entails.trans ?_ (Rounds.cells_close ER (Rd m) Finset.univ (fun k : Fin 19 => kcell c k) (fun k => K (kcell c k)) (fun k _ => Set.mem_univ _)
    (fun k _ => id) fin (fun k _ r hr => ?_))
  · rw [bigSep_sep']
    exact BIClass.sep_mono (inv_dev m K c) .rfl
  · unfold fin at hr
    split at hr
    · exact duties_later m c k ‹_› r hr
    · exact duties_late m r hr _

/-- What the launch hands a device for the exchange, -/
def Tk (c : Dev nD) : sProp 𝕄 :=
  iprop(∃ K, Inv m K ∗ rch (xp c) 0 0 ∗ rch (zp c) 0 0 ∗ rch (dg c) 0 0 ∗ pos c 0 0 ∗ shut c ∗ payToks c ∗ crds c)
/-- what enters the region, -/
def Xk (c : Dev nD) : sProp 𝕄 :=
  iprop(∃ K, Inv m K ∗ levAts L lv ∗ rch (xp c) 0 0 ∗ rch (zp c) 0 0 ∗ rch (dg c) 0 0 ∗ pos c 0 0 ∗ opened c ∗ payToks c ∗ crds c)
/-- and what leaves it. -/
def Yk (c : Dev nD) : sProp 𝕄 := semVal (kcell c 0) 0

theorem enter (c : Dev nD) : iprop(Tk m c ∗ Pipeline.ownSems0 osemR c ∗ levAts L lv) ⊢ (|={Set.univ}=> Xk m c : sProp 𝕄) := by
  unfold Tk Xk
  iintro ⟨⟨%K, #HI, #Hx, #Hz, #Hd, Hp, Hs, Ht, Hc⟩, H0, #Hl⟩
  imod (open_own m K c) $$ [Hs H0] with Ho
  · isplitr; · iexact HI
    isplitl [Hs] <;> iassumption
  imodintro
  iexists K
  isplitr; · iexact HI
  isplitr; · iexact Hl
  isplitr; · iexact Hx
  isplitr; · iexact Hz
  isplitr; · iexact Hd
  isplitl [Hp]; · iexact Hp
  isplitl [Ho]; · iexact Ho
  isplitl [Ht] <;> iassumption

end Cert.MoeK

end
-- ==== Proof.Region.lean ====
/-
  The kernel's region: its body's obligation, and its record among the program's segments.
-/
module

public import proofs.«01_k».proof.Proof.Own

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the body starts from beside its windows, -/
def A0 (c : Dev nD) : sProp 𝕄 :=
  iprop(Xk m c ∗ Pipeline.scopedRest (Val := Elt F) (Ix := Unit) (Name := ℕ) (U := UU) (Lvl := ℕ) spec0 c ∗ StableHlo.held (c.tc : Thread nD τ) wRefs (V5 m c) ∗ ∃ r, prngReg c r)
/-- and what it ends with. -/
def A1 (c : Dev nD) : sProp 𝕄 :=
  iprop(Yk c ∗ Pipeline.ownSems0 osemR c ∗ Pipeline.scopedRest (Val := Elt F) (Ix := Unit) (Name := ℕ) (U := UU) (Lvl := ℕ) spec0 c ∗ StableHlo.held (c.tc : Thread nD τ) wRefs (V5 m c) ∗ ∃ r, prngReg c r)

theorem A0_eq (c : Dev nD) : (A0 m c : sProp 𝕄) = iprop((∃ K, Inv m K ∗ levAts L lv ∗ rch (xp c) 0 0 ∗ rch (zp c) 0 0 ∗ rch (dg c) 0 0 ∗ pos c 0 0 ∗ ((pos c 1 0 ∗ rch c 1 0) ∗ (pos c 2 0 ∗ rch c 2 0) ∗ (pos c 3 0 ∗ rch c 3 0) ∗ (pos c 4 0 ∗ rch c 4 0) ∗ (pos c 5 0 ∗ rch c 5 0) ∗ (pos c 6 0 ∗ rch c 6 0) ∗ (pos c 7 0 ∗ rch c 7 0) ∗ (pos c 8 0 ∗ rch c 8 0) ∗ (pos c 9 0 ∗ rch c 9 0) ∗ (pos c 10 0 ∗ rch c 10 0) ∗ (pos c 11 0 ∗ rch c 11 0) ∗ (pos c 12 0 ∗ rch c 12 0) ∗ (pos c 13 0 ∗ rch c 13 0) ∗ (pos c 14 0 ∗ rch c 14 0) ∗ (pos c 15 0 ∗ rch c 15 0) ∗ (pos c 16 0 ∗ rch c 16 0) ∗ (pos c 17 0 ∗ rch c 17 0) ∗ (pos c 18 0 ∗ rch c 18 0)) ∗ (tok (xp c) 0 0 0 ∗ tok (zp c) 0 0 1 ∗ tok (dg c) 0 0 2 ∗ tok (xp c) 3 0 0 ∗ tok (xp c) 4 0 0 ∗ tok (xp c) 7 0 0 ∗ tok (xp c) 8 0 0 ∗ tok (zp c) 15 0 0 ∗ tok (zp c) 16 0 0 ∗ tok (dg c) 11 0 0 ∗ tok (dg c) 12 0 0 ∗ tok c 1 0 0 ∗ tok c 2 0 0 ∗ tok c 5 0 0 ∗ tok c 6 0 0 ∗ tok c 9 0 0 ∗ tok c 10 0 0 ∗ tok c 13 0 0 ∗ tok c 14 0 0 ∗ tok c 17 0 0 ∗ tok c 17 1 0 ∗ tok c 18 0 0 ∗ tok c 18 1 0) ∗ crd c 3 ∗ crd c 4 ∗ crd c 7 ∗ crd c 8 ∗ crd c 15 ∗ crd c 16 ∗ crd c 11 ∗ crd c 12 ∗ cred (tallyAt (kcell c 0) () 3))
    ∗ (anyTc c bXb ∗ anyTc c bXs ∗ anyTc c bXr ∗ anyTc c bYb ∗ anyTc c bYl ∗ anyTc c bYr ∗ anyTc c bA ∗ anyTc c bB ∗ anyTc c bS1 ∗ anyTc c bS2)
    ∗ StableHlo.held (c.tc : Thread nD τ) wRefs (V5 m c) ∗ ∃ r, prngReg c r) := by
  unfold A0 Xk crds
  rw [payToks_eq, opened_eq, scratch_eq]

/-- The region's buffers, device by device. -/
def pdats : (p : Fin 1) → (c : Dev nD) → Pipeline.Dat τ (Elt F) Unit ℕ UU ℕ (cfgs p) c
  | ⟨0, _⟩ => fun c => datOf m (A0 m c) (A1 m c) c
  | ⟨_ + 1, h⟩ => absurd h (Nat.not_lt.2 (Nat.le_add_left _ _))

theorem owing_elim (c : Dev nD) : ((datOf m (A0 m c) (A1 m c) c).owesAt () t0_0.castSucc : sProp 𝕄) ⊢ owing c (owe c 0) := by
  unfold Pipeline.Dat.owesAt Pipeline.owesWithin owing; rw [owed_first]
  iintro ⟨%W, -, HO⟩; iexists W; iexact HO
theorem owing_intro (c : Dev nD) : (owing c 0 : sProp 𝕄) ⊢ (datOf m (A0 m c) (A1 m c) c).owesAt () t0_0.succ := by
  unfold Pipeline.Dat.owesAt Pipeline.owesWithin Pipeline.Dat.bound owing; rw [owed_last]
  iintro ⟨%W, HO⟩; iexists W; isplitr; · ipureintro; exact fun _ _ => Or.inl trivial
  iexact HO

/-- An update after a program's run. -/
theorem fupd_after (c : Dev nD) {α : Type} (p : Prog (TpuEff nD τ sig (Elt F) Λ₀ .tc) α) (Q : α → sProp 𝕄) :
    (wpc c p (fun a => iprop(|={Set.univ}=> Q a)) : sProp 𝕄) ⊢ wpc c p Q := by
  unfold wpc; exact wp_fupd _ _ _ p Q

set_option maxHeartbeats 8000000 in
/-- The body's obligation: its run, between what the windows stage. -/
theorem body_ok (c : Dev nD) : Pipeline.BodyObligation (datOf m (A0 m c) (A1 m c) c) defs₀ 𝒱₀ () Set.univ := fun t => by
  obtain rfl := fin_N0 t
  rw [bigSep_W0, bigSep_W0]
  rw [phi_first, phi_last]
  iintro ⟨HA0, HO, Hw0, Hw1, Hw2, Hw3⟩
  ihave HA0 := (Entails.of_eq (A0_eq m c)) $$ HA0
  icases HA0 with ⟨⟨%K, HX⟩, ⟨Hxb, Hxs, Hxr, Hyb, Hyl, Hyr, HA, HB, HS1, HS2⟩, HW, HP⟩
  ihave HO := (owing_elim m c) $$ HO
  icases HX with ⟨#HI, #Hlev, #Hr0xp, #Hr0zp, #Hr0dg, Hp0, ⟨⟨Hp1, #Hr1⟩, ⟨Hp2, #Hr2⟩, ⟨Hp3, #Hr3⟩, ⟨Hp4, #Hr4⟩, ⟨Hp5, #Hr5⟩, ⟨Hp6, #Hr6⟩, ⟨Hp7, #Hr7⟩, ⟨Hp8, #Hr8⟩, ⟨Hp9, #Hr9⟩, ⟨Hp10, #Hr10⟩, ⟨Hp11, #Hr11⟩, ⟨Hp12, #Hr12⟩, ⟨Hp13, #Hr13⟩, ⟨Hp14, #Hr14⟩, ⟨Hp15, #Hr15⟩, ⟨Hp16, #Hr16⟩, ⟨Hp17, #Hr17⟩, ⟨Hp18, #Hr18⟩⟩, ⟨Ht0xp, Ht0zp, Ht0dg, Ht3xp, Ht4xp, Ht7xp, Ht8xp, Ht15zp, Ht16zp, Ht11dg, Ht12dg, Ht1, Ht2, Ht5, Ht6, Ht9, Ht10, Ht13, Ht14, Ht17_0, Ht17_1, Ht18_0, Ht18_1⟩, Hc3, Hc4, Hc7, Hc8, Hc15, Hc16, Hc11, Hc12, Hc0⟩
  icases Hw0 with ⟨%_, Hx⟩
  icases Hw1 with ⟨%_, Hpl⟩
  icases Hw2 with ⟨%_, Hps⟩
  icases Hw3 with ⟨%_, Ho⟩
  rw [before0, before1, before2]
  ihave Ho := (any_intro c bOut _) $$ Ho
  ihave Ho := (any5 c bOut) $$ Ho
  icases Ho with ⟨Ho0, Ho1, Ho2, Ho3⟩
  ihave Hxb := (any5 c bXb) $$ Hxb
  icases Hxb with ⟨Hxb0, Hxb1, Hxb2, Hxb3⟩
  ihave Hxs := (any2 c bXs) $$ Hxs
  icases Hxs with ⟨Hxs0, Hxs1⟩
  ihave Hxr := (any2 c bXr) $$ Hxr
  icases Hxr with ⟨Hxr0, Hxr1⟩
  ihave Hyb := (any2 c bYb) $$ Hyb
  icases Hyb with ⟨Hyb0, Hyb1⟩
  ihave Hyl := (any4 c bYl) $$ Hyl
  icases Hyl with ⟨Hyl0, Hyl1, Hyl2, Hyl3⟩
  ihave Hyr := (any4 c bYr) $$ Hyr
  icases Hyr with ⟨Hyr0, Hyr1, Hyr2, Hyr3⟩
  ihave HW := (weights_open m c) $$ HW
  icases HW with ⟨⟨Hw10, Hw11, Hw1R⟩, Hw20, Hw21, Hw2R⟩
  iapply (fupd_after c _ _)
  iapply (body_run m K c _) $$ [HO Hx Hpl Hps Hxb0 Ho0 Hxb1 Ho1 Hxb2 Ho2 Hxb3 Ho3 Hxs0 Hxs1 Hxr0 Hxr1 Hyb0 Hyb1 Hyl0 Hyl1 Hyl2 Hyl3 Hyr0 Hyr1 Hyr2 Hyr3 HA HB HS1 HS2 Hw10 Hw20 Hw11 Hw21 Ht0xp Ht0zp Ht0dg Ht3xp Hc3 Ht4xp Hc4 Ht7xp Hc7 Ht8xp Hc8 Ht15zp Hc15 Ht16zp Hc16 Ht11dg Hc11 Ht12dg Hc12 Ht1 Ht2 Ht5 Ht6 Ht9 Ht10 Ht13 Ht14 Ht17_0 Ht17_1 Ht18_0 Ht18_1 Hc0 Hp0 Hp1 Hp2 Hp3 Hp4 Hp5 Hp6 Hp7 Hp8 Hp9 Hp10 Hp11 Hp12 Hp13 Hp14 Hp15 Hp16 Hp17 Hp18]
  · isplitr; · iexact HI
    isplitr; · iexact Hlev
    isplitr; · iexact Hr0xp
    isplitr; · iexact Hr0zp
    isplitr; · iexact Hr0dg
    isplitr; · iexact Hr1
    isplitr; · iexact Hr2
    isplitr; · iexact Hr3
    isplitr; · iexact Hr4
    isplitr; · iexact Hr5
    isplitr; · iexact Hr6
    isplitr; · iexact Hr7
    isplitr; · iexact Hr8
    isplitr; · iexact Hr9
    isplitr; · iexact Hr10
    isplitr; · iexact Hr11
    isplitr; · iexact Hr12
    isplitr; · iexact Hr13
    isplitr; · iexact Hr14
    isplitr; · iexact Hr15
    isplitr; · iexact Hr16
    isplitr; · iexact Hr17
    isplitr; · iexact Hr18
    isplitl [HO]; · iexact HO
    isplitl [Hx]; · iexact Hx
    isplitl [Hpl]; · iexact Hpl
    isplitl [Hps]; · iexact Hps
    isplitl [Hxb0]; · iexact Hxb0
    isplitl [Ho0]; · iexact Ho0
    isplitl [Hxb1]; · iexact Hxb1
    isplitl [Ho1]; · iexact Ho1
    isplitl [Hxb2]; · iexact Hxb2
    isplitl [Ho2]; · iexact Ho2
    isplitl [Hxb3]; · iexact Hxb3
    isplitl [Ho3]; · iexact Ho3
    isplitl [Hxs0]; · iexact Hxs0
    isplitl [Hxs1]; · iexact Hxs1
    isplitl [Hxr0]; · iexact Hxr0
    isplitl [Hxr1]; · iexact Hxr1
    isplitl [Hyb0]; · iexact Hyb0
    isplitl [Hyb1]; · iexact Hyb1
    isplitl [Hyl0]; · iexact Hyl0
    isplitl [Hyl1]; · iexact Hyl1
    isplitl [Hyl2]; · iexact Hyl2
    isplitl [Hyl3]; · iexact Hyl3
    isplitl [Hyr0]; · iexact Hyr0
    isplitl [Hyr1]; · iexact Hyr1
    isplitl [Hyr2]; · iexact Hyr2
    isplitl [Hyr3]; · iexact Hyr3
    isplitl [HA]; · iexact HA
    isplitl [HB]; · iexact HB
    isplitl [HS1]; · iexact HS1
    isplitl [HS2]; · iexact HS2
    isplitl [Hw10]; · iexact Hw10
    isplitl [Hw20]; · iexact Hw20
    isplitl [Hw11]; · iexact Hw11
    isplitl [Hw21]; · iexact Hw21
    isplitl [Ht0xp]; · iexact Ht0xp
    isplitl [Ht0zp]; · iexact Ht0zp
    isplitl [Ht0dg]; · iexact Ht0dg
    isplitl [Ht3xp]; · iexact Ht3xp
    isplitl [Hc3]; · iexact Hc3
    isplitl [Ht4xp]; · iexact Ht4xp
    isplitl [Hc4]; · iexact Hc4
    isplitl [Ht7xp]; · iexact Ht7xp
    isplitl [Hc7]; · iexact Hc7
    isplitl [Ht8xp]; · iexact Ht8xp
    isplitl [Hc8]; · iexact Hc8
    isplitl [Ht15zp]; · iexact Ht15zp
    isplitl [Hc15]; · iexact Hc15
    isplitl [Ht16zp]; · iexact Ht16zp
    isplitl [Hc16]; · iexact Hc16
    isplitl [Ht11dg]; · iexact Ht11dg
    isplitl [Hc11]; · iexact Hc11
    isplitl [Ht12dg]; · iexact Ht12dg
    isplitl [Hc12]; · iexact Hc12
    isplitl [Ht1]; · iexact Ht1
    isplitl [Ht2]; · iexact Ht2
    isplitl [Ht5]; · iexact Ht5
    isplitl [Ht6]; · iexact Ht6
    isplitl [Ht9]; · iexact Ht9
    isplitl [Ht10]; · iexact Ht10
    isplitl [Ht13]; · iexact Ht13
    isplitl [Ht14]; · iexact Ht14
    isplitl [Ht17_0]; · iexact Ht17_0
    isplitl [Ht17_1]; · iexact Ht17_1
    isplitl [Ht18_0]; · iexact Ht18_0
    isplitl [Ht18_1]; · iexact Ht18_1
    isplitl [Hc0]; · iexact Hc0
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    iexact Hp18
  iintro ⟨HO, Hx, Hpl, Hps, Ho, Hxb, Hxs, Hxr, Hyb, Hyl, Hyr, HA, HB, HS1, HS2, Hw10, Hw11, Hw20, Hw21, Hp0, Hp1, Hp2, Hp3, Hp4, Hp5, Hp6, Hp7, Hp8, Hp9, Hp10, Hp11, Hp12, Hp13, Hp14, Hp15, Hp16, Hp17, Hp18⟩
  imod (close_all m K c) $$ [Hp0 Hp1 Hp2 Hp3 Hp4 Hp5 Hp6 Hp7 Hp8 Hp9 Hp10 Hp11 Hp12 Hp13 Hp14 Hp15 Hp16 Hp17 Hp18] with ⟨Hb0, Hos⟩
  · isplitr; · iexact HI
    rw [stood_eq]
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    isplitl [Hp13]; · iexact Hp13
    isplitl [Hp14]; · iexact Hp14
    isplitl [Hp15]; · iexact Hp15
    isplitl [Hp16]; · iexact Hp16
    isplitl [Hp17]; · iexact Hp17
    iexact Hp18
  imodintro
  rw [owe_end]
  isplitr [HO Hx Hpl Hps Ho]
  · unfold A1 Yk; rw [scratch_eq]
    isplitl [Hb0]; · iexact Hb0
    isplitl [Hos]; · iexact Hos
    isplitr [HP Hw10 Hw11 Hw1R Hw20 Hw21 Hw2R]
    · isplitl [Hxb]; · iexact Hxb
      isplitl [Hxs]; · iexact Hxs
      isplitl [Hxr]; · iexact Hxr
      isplitl [Hyb]; · iexact Hyb
      isplitl [Hyl]; · iexact Hyl
      isplitl [Hyr]; · iexact Hyr
      isplitl [HA]; · iexact HA
      isplitl [HB]; · iexact HB
      isplitl [HS1]; · iexact HS1
      iexact HS2
    isplitr [HP]
    · iapply (weights_close m c)
      isplitl [Hw10 Hw11 Hw1R]
      · isplitl [Hw10]; · iexact Hw10
        isplitl [Hw11] <;> iassumption
      isplitl [Hw20]; · iexact Hw20
      isplitl [Hw21] <;> iassumption
    iexact HP
  isplitl [HO]; · iapply (owing_intro m c) $$ HO
  isplitl [Hx]; · iexact Hx
  isplitl [Hpl]; · iexact Hpl
  isplitl [Hps]; · iexact Hps
  iexact Ho

/-! ## The record -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the device that the region does not stage. -/
abbrev restRefs : Finset (DevRef τ sig) := Pipeline.ucRefs τ sig \ Pipeline.arrRefs (τ := τ) spec0

/-- What a device owes is above the bottom. -/
theorem kd_pos : ∀ i : Fin 11, 0 < lvk (kd i) := by decide
theorem owed_cut (c : Dev nD) (t : Fin (cfg0.N + 1)) (g : GSem nD τ sig) (i : Unit) (h : 0 < (datOf m (A0 m c) (A1 m c) c).owed t g i) :
    i ∈ L g ∧ (0 : ℕ) < lv g i := by
  have e : (datOf m (A0 m c) (A1 m c) c).owed t = if t.val = 0 then owe c 0 else 0 := rfl
  rw [e] at h
  split at h
  · obtain ⟨i', -, rfl⟩ := owe_pos c 0 g i h
    exact ⟨by rw [L_tc]; exact Finset.mem_singleton_self _, by rw [lv_kcell]; exact kd_pos i'⟩
  · exact absurd h (Nat.lt_irrefl 0)

theorem share_full (c : Dev nD) (w : Fin 4) : (datOf m (A0 m c) (A1 m c) c).share w = fullShare := by
  unfold Pipeline.Dat.share; split <;> rfl

/-- A staging wait is at the bottom. -/
theorem stage_level : ∀ (w : Fin 4) (s : Fin (cfg0.win w).nbuf), (kOf (.dma ((cfg0.win w).sem s))).elim 0 lvk = 0 :=
  (by decide +kernel : ∀ (w : Fin 4) (s : Fin (win0 w).nbuf), (kOf (.dma ((win0 w).sem s))).elim 0 lvk = 0)

set_option backward.isDefEq.respectTransparency.types false in
/-- The region among the program's segments. -/
def reg : Pipeline.RegionSeg (pcfgs (F := F)) adm (pdats m) () defs₀ 𝒱₀ L lv 0 :=
  Pipeline.RegionSeg.ofTalk (pcfgs (F := F)) adm (pdats m) () defs₀ 𝒱₀ L lv 0 osemR (by decide : Pipeline.OwnSemFacts spec0 osemR)
    wRefs restRefs (by decide) kit0 rfl (fun c => (body_ok m c).loose)
    (fun _ => 0) (fun c => owe c 0) (fun c => (owed_first m c _ _).trans (zero_add _).symm) (fun c => owed_last m c _ _) (fun _ => rfl) (share_full m)
    (V5 m) (V6 m (outs m)) (fun c b hb => V6_ne m c b (fun e => by subst e; exact absurd hb (by decide)))
    (Tk m) Yk (Xk m) Yk (enter m)
    (fun c => by
      refine BIBase.Entails.trans ?_ (Entails.of_eq (phi_first m c (A0 m c) (A1 m c)).symm)
      unfold A0
      iintro ⟨Hs, Hp, Hh, HX⟩
      isplitl [HX]; · iexact HX
      isplitl [Hs]; · iexact Hs
      isplitl [Hh] <;> iassumption)
    (fun c => by
      refine (Entails.of_eq (phi_last m c (A0 m c) (A1 m c))).trans ?_
      unfold A1
      rw [StableHlo.held_congr (c.tc : Thread nD τ) (S := wRefs) (V := V6 m (outs m) c) (V' := V5 m c) (fun b hb => V6_ne m c b (fun e => by subst e; exact absurd hb (by decide)))]
      iintro ⟨HY, Ho, Hs, Hh, Hp⟩
      isplitl [Hs]; · iexact Hs
      isplitl [Hp]; · iexact Hp
      isplitl [Hh]; · iexact Hh
      isplitl [Ho] <;> iassumption)
    (fun c => by iintro H; imodintro; iexact H)
    (fun _ => 0)
    ⟨fun c w s => by rw [L_tc]; exact Finset.mem_singleton_self _, fun c w s => (stage_level w s).le, fun c t g i h => owed_cut m c t g i h⟩
    (fun _ => iprop(emp))
    (fun _ _ => rfl) (fun c w => arr_end m c _ _ w)

end Cert.MoeK

end
-- ==== Proof.Start.lean ====
/-
  The launch: every cell's invariant allocated, and everything dealt to the device that uses it.
-/
module

public import proofs.«01_k».proof.Proof.Region
public import Idealize.ShloMosaic.Lib.Quiescent

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the payments -/

theorem osem_inj : Function.Injective osem := fun a b h => by
  have := congrArg kOf h
  rw [kOf_osem, kOf_osem] at this
  exact Option.some.inj this
theorem kcell_inj {c d : Dev nD} {k l : Fin 19} (h : kcell c k = kcell d l) : c = d ∧ k = l :=
  ⟨congrArg (fun g : GSem nD τ sig => g.1.1) h, osem_inj (congrArg Prod.snd h)⟩

def barEmb : Dev nD ↪ GSem nD τ sig := ⟨fun c => kcell c 0, fun _ _ h => (kcell_inj h).1⟩
def ownEmb : Dev nD × Fin 18 ↪ GSem nD τ sig :=
  ⟨fun p => kcell p.1 p.2.succ, fun _ _ h => Prod.ext (kcell_inj h).1 (Fin.succ_injective _ (kcell_inj h).2)⟩
/-- The barrier's cells, -/
abbrev barCells : Finset (GSem nD τ sig) := Finset.univ.map barEmb
/-- and the kernel's own. -/
abbrev ownCells : Finset (GSem nD τ sig) := Finset.univ.map ownEmb

theorem cells_disjoint : Disjoint (barCells : Finset (GSem nD τ sig)) ownCells := by
  rw [Finset.disjoint_left]
  intro g h₁ h₂
  obtain ⟨c, -, rfl⟩ := Finset.mem_map.mp h₁
  obtain ⟨p, -, h⟩ := Finset.mem_map.mp h₂
  exact absurd (kcell_inj h).2 (Fin.succ_ne_zero _)

theorem payT_inj : Function.Injective (fun j : Fin 23 => (payT j.val).2) := by decide
/-- All payments: the cell, the round and the duty, by the cell's device. -/
def dues : Finset (GSem nD τ sig × ℕ × Fin 3) :=
  Finset.univ.map ⟨fun p : Dev nD × Fin 23 => (kcell p.1 (payT p.2.val).2.1, (payT p.2.val).2.2.1, (payT p.2.val).2.2.2), fun a b h =>
    have hk := kcell_inj (congrArg Prod.fst h)
    Prod.ext hk.1 (payT_inj (show (payT a.2.val).2 = (payT b.2.val).2 from Prod.ext hk.2 (congrArg (fun x : GSem nD τ sig × ℕ × Fin 3 => x.2) h)))⟩

/-- A partner's partner is the device. -/
def whoEquiv (i : ℕ) : Dev nD ≃ Dev nD where
  toFun := who i
  invFun := who i
  left_inv c := by match i with | 0 => rfl | 1 => exact xp_xp c | 2 => exact zp_zp c | _ + 3 => exact dg_dg c
  right_inv c := by match i with | 0 => rfl | 1 => exact xp_xp c | 2 => exact zp_zp c | _ + 3 => exact dg_dg c

theorem bigSep_swap {A B : Type} [Fintype A] [Fintype B] [DecidableEq A] [DecidableEq B] (Φ : A → B → sProp 𝕄) :
    bigSep Finset.univ (fun a => bigSep Finset.univ (fun b => Φ a b)) = bigSep Finset.univ (fun b => bigSep Finset.univ (fun a => Φ a b)) := by
  rw [← bigSep_univ_prod (fun p : A × B => Φ p.1 p.2), bigSep_univ_equiv (Equiv.prodComm B A), bigSep_univ_prod]
  rfl

/-- The payments' rights, each handed to the device that pays. -/
theorem dues_dealt : (bigSep dues (fun x => dutyTok ER x.1 x.2.1 x.2.2) : sProp 𝕄) = bigSep Finset.univ payToks := by
  unfold dues
  rw [bigSep_map, bigSep_univ_prod]
  refine (bigSep_swap (fun (c : Dev nD) (j : Fin 23) => (tok c (payT j.val).2.1 (payT j.val).2.2.1 (payT j.val).2.2.2 : sProp 𝕄))).trans ?_
  refine Eq.trans ?_ (bigSep_swap (fun (j : Fin 23) (c : Dev nD) => (tok (who (payT j.val).1 c) (payT j.val).2.1 (payT j.val).2.2.1 (payT j.val).2.2.2 : sProp 𝕄)))
  exact bigSep_congr fun j _ => bigSep_univ_equiv (whoEquiv (payT j.val).1) (fun c => (tok c (payT j.val).2.1 (payT j.val).2.2.1 (payT j.val).2.2.2 : sProp 𝕄))

/-! ## The credits -/

/-- What all devices together owe a cell of kind `k`. -/
def total (k : Fin 19) : ℕ := ∑ i : Fin 11, if k = kd i then amt (kd i) else 0

theorem dst_dst (c : Dev nD) (i : Fin 11) : dst (dst c i) i = c := by
  match i with
  | 0 => exact xp_xp c
  | 1 => exact zp_zp c
  | 2 => exact dg_dg c
  | 3 => exact xp_xp c
  | 4 => exact xp_xp c
  | 5 => exact zp_zp c
  | 6 => exact xp_xp c
  | 7 => exact dg_dg c
  | 8 => exact zp_zp c
  | 9 => exact xp_xp c
  | 10 => exact dg_dg c

theorem owed_total (c : Dev nD) (k : Fin 19) : ∑ d : Dev nD, owe d 0 (kcell c k) () = total k := by
  simp only [owe_apply]
  rw [Finset.sum_comm]
  refine Finset.sum_congr rfl fun i _ => ?_
  rw [Finset.sum_eq_single (dst c i)]
  · by_cases h : k = kd i
    · rw [if_pos h, if_pos ⟨Nat.zero_le _, by rw [dst_dst, h]⟩]
    · rw [if_neg h, if_neg (fun h' => h (kcell_inj h'.2).2)]
  · intro d _ hd
    rw [if_neg]
    intro h
    exact hd (by rw [(kcell_inj h.2).1, dst_dst])
  · intro h; exact absurd (Finset.mem_univ _) h

theorem credit_eq (c : Dev nD) (k : Fin 19) :
    tallyOn (kcell c k) (launchCredit (Pipeline.owing fun d => owe d 0) 0 (kcell c k)) = (tallyAt (kcell c k) () (total k) : CellTallies nD τ sig Unit) := by
  unfold tallyAt; refine congrArg _ (Finsupp.ext fun u => ?_); cases u
  rw [Pipeline.launchCredit_owing, Finsupp.single_eq_same, owed_total]

theorem totals : total 0 = 3 ∧ ∀ k : Fin 19, k = 3 ∨ k = 4 ∨ k = 7 ∨ k = 8 ∨ k = 15 ∨ k = 16 ∨ k = 11 ∨ k = 12 → total k = amt k := by decide +kernel

theorem crd_total (c : Dev nD) (k : Fin 19) (h : k = 3 ∨ k = 4 ∨ k = 7 ∨ k = 8 ∨ k = 15 ∨ k = 16 ∨ k = 11 ∨ k = 12) :
    (crd c k : sProp 𝕄) = cred (tallyAt (kcell c k) () (total k)) := by rw [totals.2 k h]

/-- The credits a device waits with. -/
theorem crds_dealt (c : Dev nD) : (Pipeline.launchCred (fun d => owe d 0) c : sProp 𝕄) ⊢ crds c := by
  have h1 : (Pipeline.launchCred (fun d => owe d 0) c : sProp 𝕄) ⊢ bigSep Finset.univ (fun k : Fin 19 => cred (tallyAt (kcell c k) () (total k))) := by
    unfold Pipeline.launchCred
    rw [BI.bigSep_sdiff_split (s := Finset.univ) (t := Finset.univ.map ⟨osem, osem_inj⟩) (Finset.subset_univ _), bigSep_map]
    refine (show iprop((bigSep Finset.univ fun k : Fin 19 => cred (tallyOn (kcell c k) (launchCredit (Pipeline.owing fun d => owe d 0) 0 (kcell c k)))) ∗ _) ⊢ _ from ?_)
    simp only [credit_eq]
    iintro ⟨H, -⟩; iexact H
  refine h1.trans ?_
  unfold crds
  rw [crd_total c 3 (by decide), crd_total c 4 (by decide), crd_total c 7 (by decide), crd_total c 8 (by decide), crd_total c 15 (by decide),
    crd_total c 16 (by decide), crd_total c 11 (by decide), crd_total c 12 (by decide)]
  rw [show (cred (tallyAt (kcell c 0) () 3) : sProp 𝕄) = cred (tallyAt (kcell c 0) () (total 0)) from by rw [totals.1]]
  refine (Entails.of_eq (show (bigSep Finset.univ (fun k : Fin 19 => cred (tallyAt (kcell c k) () (total k))) : sProp 𝕄) = iprop(cred (tallyAt (kcell c 0) () (total 0)) ∗ cred (tallyAt (kcell c 1) () (total 1)) ∗ cred (tallyAt (kcell c 2) () (total 2)) ∗ cred (tallyAt (kcell c 3) () (total 3)) ∗ cred (tallyAt (kcell c 4) () (total 4)) ∗ cred (tallyAt (kcell c 5) () (total 5)) ∗ cred (tallyAt (kcell c 6) () (total 6)) ∗ cred (tallyAt (kcell c 7) () (total 7)) ∗ cred (tallyAt (kcell c 8) () (total 8)) ∗ cred (tallyAt (kcell c 9) () (total 9)) ∗ cred (tallyAt (kcell c 10) () (total 10)) ∗ cred (tallyAt (kcell c 11) () (total 11)) ∗ cred (tallyAt (kcell c 12) () (total 12)) ∗ cred (tallyAt (kcell c 13) () (total 13)) ∗ cred (tallyAt (kcell c 14) () (total 14)) ∗ cred (tallyAt (kcell c 15) () (total 15)) ∗ cred (tallyAt (kcell c 16) () (total 16)) ∗ cred (tallyAt (kcell c 17) () (total 17)) ∗ cred (tallyAt (kcell c 18) () (total 18))) from
    bigSep_univ_eq_bigSepL [0, 1, 2, 3, 4, 5, 6, 7, 8, 9, 10, 11, 12, 13, 14, 15, 16, 17, 18] (by decide) (by decide) _)).trans ?_
  iintro ⟨H0, -, -, H3, H4, -, -, H7, H8, -, -, H11, H12, -, -, H15, H16, -, -⟩
  isplitl [H3]; · iexact H3
  isplitl [H4]; · iexact H4
  isplitl [H7]; · iexact H7
  isplitl [H8]; · iexact H8
  isplitl [H15]; · iexact H15
  isplitl [H16]; · iexact H16
  isplitl [H11]; · iexact H11
  isplitl [H12]; · iexact H12
  iexact H0

/-! ## Everything dealt -/

/-- The launch's contents: the staging's, and the exchange's. -/
def u₀ : UU :=
  (initOf (Pipeline.cells (Pipeline.pin (pcfgs (F := F)) adm) cellOf_inj) (Pipeline.launchToks (Pipeline.pin (pcfgs (F := F)) adm) cellOf_inj),
    launchOf barCells ownCells dues)

/-- The exchange's contents, kept on the first device until they are dealt. -/
def G (c : Dev nD) : sProp 𝕄 := if c = 0 then BI.own (ER (launchOf barCells ownCells dues)) else iprop(emp)
theorem G_all : (bigSep Finset.univ G : sProp 𝕄) = BI.own (ER (launchOf barCells ownCells dues)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult. -/
def records (K : GSem nD τ sig → ℕ) : sProp 𝕄 :=
  iprop(Inv m K ∗ bigSep Finset.univ (fun c : Dev nD => rch c 0 0))
instance records_persistent (K : GSem nD τ sig → ℕ) : BI.Persistent (records m K) := by unfold records; infer_instance

theorem rch_at (c : Dev nD) : (bigSep Finset.univ (fun c : Dev nD => rch c 0 0) : sProp 𝕄) ⊢ rch c 0 0 := bigSep_elim (Finset.mem_univ c)

/-- The invariants, cell by cell. -/
theorem inv_intro (K : GSem nD τ sig → ℕ) : (bigSep (barCells ∪ ownCells) (fun g => cellInv ER (Rd m) (K g) g) : sProp 𝕄) ⊢ Inv m K := by
  rw [bigSep_union cells_disjoint, bigSep_map, bigSep_map]
  unfold Inv
  rw [bigSep_univ_prod, bigSep_univ_prod]
  refine Entails.of_eq ((bigSep_sep' _ _ _).symm.trans (bigSep_congr fun c _ => ?_))
  rw [bigSep_univ_eq_bigSepL [0, 1, 2, 3, 4, 5, 6, 7, 8, 9, 10, 11, 12, 13, 14, 15, 16, 17] (by decide) (by decide), bigSep_univ_eq_bigSepL [0, 1, 2, 3, 4, 5, 6, 7, 8, 9, 10, 11, 12, 13, 14, 15, 16, 17, 18] (by decide) (by decide)]
  rfl

/-- What stays with a device. -/
def mine (c : Dev nD) : sProp 𝕄 := iprop(pos c 0 0 ∗ shut c ∗ payToks c)

/-- What rides along beside the device's buffers: before the region, -/
def E0 (c : Dev nD) : sProp 𝕄 := iprop(Tk m c ∗ (∃ r, prngReg c r) ∗ owing c (owe c 0))
/-- and after it. -/
def E1 (c : Dev nD) : sProp 𝕄 := iprop(semVal (kcell c 0) 0 ∗ owing c 0)

theorem E0_intro (K : GSem nD τ sig → ℕ) (c : Dev nD) :
    iprop(records m K ∗ (mine c ∗ (crds c ∗ (∃ r, prngReg c r) ∗ owing c (owe c 0)))) ⊢ (E0 m c : sProp 𝕄) := by
  unfold records mine E0 Tk
  iintro ⟨⟨#HI, #HR⟩, ⟨Hp, Hs, Ht⟩, Hc, Hr, HO⟩
  isplitr [Hr HO]
  · iexists K
    isplitr; · iexact HI
    isplitr; · iapply (rch_at (xp c)); iexact HR
    isplitr; · iapply (rch_at (zp c)); iexact HR
    isplitr; · iapply (rch_at (dg c)); iexact HR
    isplitl [Hp]; · iexact Hp
    isplitl [Hs]; · iexact Hs
    isplitl [Ht] <;> iassumption
  isplitl [Hr] <;> iassumption

theorem sems_eq (c : Dev nD) : (unscopedSems0 c : sProp 𝕄) = semVal (kcell c 0) 0 := by
  unfold unscopedSems0
  rw [show (Finset.univ.filter fun sm : SemLoc sig => ¬ sm.isScoped .tc) = {osem 0} from by decide, BI.bigSep_singleton]

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := bigSep_with_persistent fun c _ => h c

/-- The launch makes what rides along, on every device at once. -/
theorem start_all (ρ : Dev nD → PrngReg) :
    iprop((bigSep Finset.univ fun c : Dev nD => iprop(unscopedSems0 c ∗ owes (c : Thread nD τ) (owe c 0) ∅ ∗ Pipeline.launchCred (fun d => owe d 0) c ∗ prngReg c (ρ c) ∗ G c)) ∗ levAts L lv)
      ⊢ (|={Set.univ}=> bigSep Finset.univ (E0 m) : sProp 𝕄) := by
  have hcore : (bigSep Finset.univ fun c : Dev nD => iprop(unscopedSems0 c ∗ owes (c : Thread nD τ) (owe c 0) ∅ ∗ Pipeline.launchCred (fun d => owe d 0) c ∗ prngReg c (ρ c) ∗ G c))
      ⊢ (iprop((bigSep Finset.univ fun c : Dev nD => iprop(crds c ∗ (∃ r, prngReg c r) ∗ owing c (owe c 0))) ∗ (bigSep barCells (fun g => semVal g 0)) ∗ bigSep Finset.univ G) : sProp 𝕄) := by
    rw [bigSep_map, ← bigSep_sep', ← bigSep_sep']
    refine bigSep_mono fun c _ => (show iprop(unscopedSems0 c ∗ owes (c : Thread nD τ) (owe c 0) ∅ ∗ Pipeline.launchCred (fun d => owe d 0) c ∗ prngReg c (ρ c) ∗ G c)
      ⊢ iprop((crds c ∗ (∃ r, prngReg c r) ∗ owing c (owe c 0)) ∗ semVal (kcell c 0) 0 ∗ G c) from ?_)
    rw [sems_eq]
    iintro ⟨Hv, HO, Hcr, Hp, HG⟩
    isplitr [Hv HG]
    · isplitl [Hcr]; · iapply (crds_dealt c) $$ Hcr
      isplitl [Hp]; · iexists (ρ c); iexact Hp
      unfold owing; iexists ∅; iexact HO
    isplitl [Hv]; · iexact Hv
    iexact HG
  iintro ⟨H, -⟩
  ihave H := hcore $$ H
  icases H with ⟨HB, Hv, HG⟩
  ihave Hu := (Entails.of_eq (G_all (F := F))) $$ HG
  imod (Rounds.fund_launch ER (Rd m) cells_disjoint (fun g _ h => h) dues) $$ [Hv Hu] with ⟨%K, -, #Hinv, #Hr, Hat, Hopen, Htok⟩
  · isplitl [Hv] <;> iassumption
  imodintro
  iapply (with_records (fun c => E0_intro m K c))
  isplitr
  · unfold records
    isplitr; · iapply (inv_intro m K); iexact Hinv
    iapply (Entails.of_eq (bigSep_map (s := Finset.univ) barEmb (Φ := fun g : GSem nD τ sig => (reached ER g 0 : sProp 𝕄)))); iexact Hr
  iapply (Entails.of_eq (bigSep_sep' _ _ _).symm)
  isplitr [HB]
  · unfold mine
    iapply (Entails.of_eq (bigSep_sep' _ _ _).symm)
    isplitl [Hat]
    · iapply (Entails.of_eq (bigSep_map (s := Finset.univ) barEmb (Φ := fun g : GSem nD τ sig => (atPos ER g 0 ∅ 0 : sProp 𝕄)))) $$ Hat
    iapply (Entails.of_eq (bigSep_sep' _ _ _).symm)
    isplitl [Hopen]
    · iapply (Entails.of_eq (show (bigSep ownCells (fun g => openTok ER g) : sProp 𝕄) = bigSep Finset.univ shut from by
        rw [bigSep_map, bigSep_univ_prod]; rfl)) $$ Hopen
    iapply (Entails.of_eq (dues_dealt (F := F))) $$ Htok
  iexact HB

end Cert.MoeK

end
-- ==== Proof.Run.lean ====
/-
  The program's run: it ends, with its arguments as they were, every counter at zero, and each device's result.
-/
module

public import proofs.«01_k».proof.Proof.Start

@[expose] public section

noncomputable section

namespace Cert.MoeK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The region is entered from what the host code leaves, -/
theorem reg_pre (c : Dev nD) : iprop(StableHlo.held (c : Thread nD τ) (Pipeline.ucRefs τ sig) (V5 m c) ∗ E0 m c) ⊢ (reg m).pre c := by
  show _ ⊢ iprop(StableHlo.held (c.tc : Thread nD τ) (Pipeline.arrRefs (τ := τ) spec0) (V5 m c) ∗ (∃ r, prngReg c r)
    ∗ (StableHlo.held (c.tc : Thread nD τ) restRefs (V5 m c) ∗ emp) ∗ Tk m c ∗ ∃ Wd, owes (c : Thread nD τ) (0 + owe c 0) Wd)
  rw [zero_add, StableHlo.held_sub_split (c.tc : Thread nD τ) (T := Pipeline.arrRefs (τ := τ) spec0) (S := Pipeline.ucRefs τ sig) (by decide) (V5 m c)]
  unfold E0 owing
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- and left with the result in place. -/
theorem reg_post (c : Dev nD) : (reg m).post c
    ⊢ iprop((StableHlo.held (c : Thread nD τ) (Pipeline.ucRefs τ sig) (V6 m (outs m) c) ∗ semVal (kcell c 0) 0) ∗ ∃ W, owes (c : Thread nD τ) (0 : CellTallies nD τ sig Unit) W) := by
  show iprop(StableHlo.held (c.tc : Thread nD τ) (Pipeline.arrRefs (τ := τ) spec0) (V6 m (outs m) c) ∗ (∃ r, prngReg c r)
    ∗ (StableHlo.held (c.tc : Thread nD τ) restRefs (V6 m (outs m) c) ∗ emp) ∗ Yk c ∗ ∃ Wd, owes (c : Thread nD τ) (0 : CellTallies nD τ sig Unit) Wd) ⊢ _
  rw [StableHlo.held_sub_split (c.tc : Thread nD τ) (T := Pipeline.arrRefs (τ := τ) spec0) (S := Pipeline.ucRefs τ sig) (by decide) (V6 m (outs m) c)]
  unfold Yk
  iintro ⟨Ha, -, ⟨Hr, -⟩, Hb, HO⟩
  isplitr [HO]
  · isplitr [Hb]
    · isplitl [Ha] <;> iassumption
    iexact Hb
  iexact HO

/-- What holds at the end on device `c`. -/
def Ends (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_v89) = outV m c
  ∧ s.sem (kcell c 0) = 0

/-- The only counter that is not the kernel's own is the barrier's. -/
theorem unscoped_eq : ∀ sm : SemLoc sig, sm.isScoped .tc = false → sm = osem 0 := by decide

theorem end_mem (c : Dev nD) (s' : Phys nD τ sig (Elt F)) :
    iprop((StableHlo.held (c : Thread nD τ) (Pipeline.ucRefs τ sig) (V6 m (outs m) c) ∗ semVal (kcell c 0) 0) ∗ SI s')
      ⊢ (|={Set.univ}=> iprop(⌜Ends m c s'.mem⌝ ∗ SI s') : sProp 𝕄) := by
  unfold StableHlo.held
  iintro ⟨⟨Hh, Hb0⟩, HSI⟩
  icombine HSI Hb0 gives %hb
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V6_main_arg0 m (outs m) c),
      (h (Proc.devRef .tc main_arg1) (Finset.mem_filter.mpr ⟨StableHlo.devRef_mem_tcRefs main_arg1, by decide⟩)).trans (V6_main_arg1 m (outs m) c),
      (h (Proc.devRef .tc main_arg2) (Finset.mem_filter.mpr ⟨StableHlo.devRef_mem_tcRefs main_arg2, by decide⟩)).trans (V6_main_arg2 m (outs m) c),
      (h (Proc.devRef .tc main_arg3) (Finset.mem_filter.mpr ⟨StableHlo.devRef_mem_tcRefs main_arg3, by decide⟩)).trans (V6_main_arg3 m (outs m) c),
      (h (Proc.devRef .tc main_v89) (Finset.mem_filter.mpr ⟨StableHlo.devRef_mem_tcRefs main_v89, by decide⟩)).trans (V6_res m c),
      by simpa using hb⟩
  iexact HSI

/-- What rides along beside the device's buffers, before and after the region. -/
def E : Fin 2 → Dev nD → sProp 𝕄
  | 0 => E0 m
  | 1 => E1

set_option backward.isDefEq.respectTransparency.types false in
/-- The run: from any memory with the counters at zero it ends, on every device with the arguments unchanged and the result in place, and with every
    counter of the machine at zero. -/
theorem run_main (ρ : Dev nD → PrngReg) : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c), StableHlo.seq hostOps0_1, StableHlo.seq hostOps0_2, StableHlo.seq hostOps0_3, StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => owe c 0) L_of_ne G (u₀ (F := F)) ?_
    (T₀ := fun c => iprop(StableHlo.held (c : Thread nD τ) (Pipeline.ucRefs τ sig) (V0 m c) ∗ E0 m c))
    (Tₙ := fun c => iprop(StableHlo.held (c : Thread nD τ) (Pipeline.ucRefs τ sig) (V6 m (outs m) c) ∗ semVal (kcell c 0) 0))
    (hch := fun c => ⟨.rfl, .rfl, .rfl, .rfl, .rfl, reg_pre m c, reg_post m c⟩)
    (hinit := ?_) (QY := Ends m) (hfin := end_mem m)
    (hQ := fun s h hs => ⟨h, sem_eq_zero hs fun c sm hsm => by
      obtain rfl := unscoped_eq sm hsm
      exact (h c).2.2.2.2.2⟩)
  · unfold u₀
    iintro Hu
    ihave H := (ownU_pair _ _) $$ Hu
    icases H with ⟨HP, HX⟩
    imodintro
    isplitl [HP]; · iexact HP
    rw [G_all]; iexact HX
  · have hsplit : (bigSep Finset.univ fun c : Dev nD => iprop(unscopedBufs c (fun b => m ((c.tc : Thread nD τ).loc b)) ∗ unscopedSems0 c
          ∗ owes (c.tc : Thread nD τ) (owe c 0) ∅ ∗ Pipeline.launchCred (fun d => owe d 0) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owe c 0) ∅ ∗ Pipeline.launchCred (fun d => owe d 0) c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (start_all m ρ) $$ [Hr Hla] with HE
    · isplitl [Hr]; · iexact Hr
      iexact Hla
    imodintro
    rw [bigSep_sep']
    isplitl [Hh]; · iexact Hh
    iexact HE

end Cert.MoeK

end
-- ==== Proof.Frames.lean ====
/-
  The programs' frames: each runs to its end with its arguments unchanged and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.MoeK

open Idealize.ShloMosaic Idealize.SL.Sem
open Cert.KernelIdeal (nD τ sig main main_arg0 main_arg1 main_arg2 main_arg3)

/-- Of the two texts, the bodies under the one label are the same. -/
theorem defs₀_same {F : FTy → Type} [FloatOps F] :
    @Cert.Kernel.defs₀ F _ Cert.Kernel.Gen.facts = @Cert.KernelIdeal.defs₀ F _ Cert.KernelIdeal.Gen.facts := by
  funext pr ℓ a
  cases pr with
  | tc =>
    have h : ℓ = (0 : Fin 1) := Subsingleton.elim (α := Fin 1) _ _
    subst h
    rfl
  | scScalar _ => rfl
  | scVector _ _ => rfl

/-- Of the two texts, the body tables are the same. -/
theorem defs_same {F : FTy → Type} [FloatOps F] :
    @Cert.Kernel.defs F _ Cert.Kernel.Gen.facts = @Cert.KernelIdeal.defs F _ Cert.KernelIdeal.Gen.facts := by
  unfold Cert.Kernel.defs Cert.KernelIdeal.defs
  rw [defs₀_same]
  exact rfl

set_option maxHeartbeats 1000000 in
/-- Of the two texts, the whole programs are the same. -/
theorem main_same {F : FTy → Type} [FloatOps F] :
    @Cert.Kernel.main F _ Cert.Kernel.Gen.facts = @Cert.KernelIdeal.main F _ Cert.KernelIdeal.Gen.facts := rfl

/-- What a frame says of a run: the arguments as they were, every counter at zero. -/
def Kept {F : FTy → Type} (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

/-- Over any float values, the run with its contents dropped. -/
theorem run_kept {F : FTy → Type} [FloatOps F] (m : (ℓ : Loc nD τ sig) → Buf (Elt F) ℓ) (ρ : Dev nD → PrngReg) :
    θ_run Cert.KernelIdeal.defs (onTc (τ := τ) (main (F := F))) ⟨m, fun _ => 0, ρ⟩ (fun r => Kept m r) :=
  (θ_run Cert.KernelIdeal.defs _ _).mono (fun _ h => ⟨fun c => ⟨(h.1 c).1, (h.1 c).2.1, (h.1 c).2.2.1, (h.1 c).2.2.2.1⟩, h.2⟩) (run_main (F := F) m ρ)

/-- The kernel over the extended reals. -/
theorem frame_ideal : Cert.quiescent_KernelIdeal := fun m ρ _ => run_kept (F := Ideal) m ρ

/-- The kernel as printed: its text is the same. -/
theorem frame_kernel : Cert.quiescent_Kernel := by
  intro m ρ _
  rw [defs_same, main_same]
  exact run_kept (F := Bits) m ρ

/-- The reference: host operations alone. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.MoeK

end
-- ==== Proof.Pays.lean ====
/-
  The kernel body's arithmetic over the extended reals, element by element.
-/
module

public import proofs.«01_k».proof.Proof.Slabs
public import Idealize.ShloMosaic.Lib.Pointwise

@[expose] public section

noncomputable section

namespace Cert.MoeV

open Idealize.ShloMosaic
open Cert.KernelIdeal Cert.KernelIdeal.Gen

set_option maxRecDepth 16384

/-- One token's row through one expert: the sum over the hidden units of the positive part times the second weights. -/
def ffn (row : Fin 1024 → EReal) (A : Fin 1024 → Fin 2048 → EReal) (B : Fin 2048 → Fin 1024 → EReal) (n : Fin 1024) : EReal :=
  ∑ k : Fin 2048, max (∑ d : Fin 1024, row d * A d k) 0 * B k n

/-- A selection times the tokens. -/
theorem pay6_at (P : Vec Ideal S320x2048 .bf16) (x : Vec Ideal S2048x1024 .bf16) (r : Fin 320) (n : Fin 1024) :
    k0_pay6 P x (ix2 r n) = ∑ k : Fin 2048, P (ix2 r k) * x (ix2 k n) := by
  pointwise [k0_pay6]

/-- Selected rows through an expert. -/
theorem pay12_at (P : Vec Ideal S320x2048 .bf16) (x : Vec Ideal S2048x1024 .bf16) (A : Vec Ideal S1024x2048 .bf16)
    (B : Vec Ideal S2048x1024 .bf16) (r : Fin 320) (n : Fin 1024) :
    k0_pay12 P x A B (ix2 r n)
      = ffn (fun d => ∑ k : Fin 2048, P (ix2 r k) * x (ix2 k d)) (fun d k => A (ix2 d k)) (fun k n => B (ix2 k n)) n := by
  pointwise [k0_pay12, ffn]

/-- Received rows through an expert. -/
theorem pay13_at (X : Vec Ideal S320x1024 .bf16) (A : Vec Ideal S1024x2048 .bf16)
    (B : Vec Ideal S2048x1024 .bf16) (r : Fin 320) (n : Fin 1024) :
    k0_pay13 X A (constant S320x2048 .f32 0x00000000#32) B (ix2 r n)
      = ffn (fun d => X (ix2 r d)) (fun d k => A (ix2 d k)) (fun k n => B (ix2 k n)) n := by
  pointwise [k0_pay13, ffn]

/-- The rows' results put back at their tokens, -/
theorem pay20_at (P : Vec Ideal S1280x512 .bf16) (y : Vec Ideal S1280x1024 .bf16) (t : Fin 512) (n : Fin 1024) :
    k0_pay20 P y (ix2 t n) = ∑ r : Fin 1280, P (ix2 r t) * y (ix2 r n) := by
  pointwise [k0_pay20]

/-- and added. -/
theorem pay25_at (P : Vec Ideal S1280x512 .bf16) (y : Vec Ideal S1280x1024 .bf16) (o : Vec Ideal S512x1024 .bf16) (t : Fin 512) (n : Fin 1024) :
    k0_pay25 P y o (ix2 t n) = o (ix2 t n) + ∑ r : Fin 1280, P (ix2 r t) * y (ix2 r n) := by
  pointwise [k0_pay25]

/-- The casts of the weights change nothing. -/
theorem pay9_at (w : Vec Ideal S1024x2048 .f32) (i : S1024x2048.Idx) : k0_pay9 w i = w i := by
  pointwise [k0_pay9]
theorem pay11_at (w : Vec Ideal S2048x1024 .f32) (i : S2048x1024.Idx) : k0_pay11 (k0_pay10 w) i = w i := by
  pointwise [k0_pay10, k0_pay11]

end Cert.MoeV

end
-- ==== Proof.HostRead.lean ====
/-
  What the host's operations before the launch leave in the selection arrays, stretch by stretch.
-/
module

public import proofs.«01_k».proof.Proof.Pays
public import proofs.«01_k».proof.Proof.Gen.KernelIdeal.Regions
public import Idealize.ShloMosaic.Lib.StableHlo.RunClose
public import Idealize.ShloMosaic.Lib.StableHlo.RunRead

@[expose] public section

noncomputable section

namespace Cert.MoeV

open Idealize.ShloMosaic Idealize.ShloMosaic.TcCoe Idealize.ShloMosaic.StableHlo
open Cert.KernelIdeal Cert.KernelIdeal.Gen

set_option maxRecDepth 16384

/-- Which expert each token names, one row per expert. -/
def hotI (a : IVec S2048 32) : IVec S8x2048 32 :=
  extui 32 (cmpi .eq (broadcastInDim S8x2048 ![0, 1] bcast_S8x1_S8x2048_0_1 (broadcastInDim S8x1 ![0] bcast_S8_S8x1_0 (iotaInDim S8 32 0)))
    (broadcastInDim S8x2048 ![0, 1] bcast_S1x2048_S8x2048_0_1 (broadcastInDim S1x2048 ![1] bcast_S2048_S1x2048_1 a))) natLt_1_32

/-- Its running counts along each row. -/
def csumI (h : IVec S8x2048 32) : IVec S8x2048 32 :=
  Host.reduceWindow IntOp.addi ![1, 2048] ![1, 1] ![0, 2047] ![0, 0] h (broadcastInDim S_ ![] bcast_S_S_ (constantI S_ 32 0#32))
    reduceWindows_S8x2048_S8x2048_w1s1p0_0_w2048s1p2047_0 h_S_

/-- Each token's place among the tokens of its expert. -/
def slotI (h s : IVec S8x2048 32) : IVec S2048 32 :=
  subi (Host.reduce IntOp.addi (muli s h) (constantI S_ 32 0#32) reducesTo_S8x2048_S2048_d0 h_S_)
    (broadcastInDim S2048 ![] bcast_S_S2048 (constantI S_ 32 1#32))

/-- Each token's number, from one, in its expert's row. -/
def posF (h : IVec S8x2048 32) : FVec Ideal S8x2048 .f32 :=
  sitofp .f32 (muli h (broadcastInDim S8x2048 ![0, 1] bcast_S1x2048_S8x2048_0_1 (broadcastInDim S1x2048 ![1] bcast_S2048_S1x2048_1
    (addi (iotaInDim S2048 32 0) (broadcastInDim S2048 ![] bcast_S_S2048 (constantI S_ 32 1#32))))))

/-- Which place each token has, one column per place. -/
def putF (p : IVec S2048 32) : FVec Ideal S2048x320 .f32 :=
  uitofp .f32 (cmpi .eq (broadcastInDim S2048x320 ![0, 1] bcast_S2048x1_S2048x320_0_1 (broadcastInDim S2048x1 ![0] bcast_S2048_S2048x1_0 p))
    (broadcastInDim S2048x320 ![0, 1] bcast_S1x320_S2048x320_0_1 (broadcastInDim S1x320 ![1] bcast_S320_S1x320_1 (iotaInDim S320 32 0))))

/-- The number, from one, of the token at each place of each expert. -/
def numF (h s : IVec S8x2048 32) : FVec Ideal S8x320 .f32 :=
  Host.dotGeneral dot_S8x2048_S2048x320_S8x320_1_0_0_1_n_n (some .fp32) (posF h) (putF (slotI h s))

/-- The token at each place of each expert, 2048 at an empty one. -/
def idxI (d : FVec Ideal S8x320 .f32) : IVec S8x320 32 :=
  select (cmpf .oeq d (broadcastInDim S8x320 ![] bcast_S_S8x320 (constant S_ .f32 0x00000000#32 : FVec Ideal S_ .f32)))
    (broadcastInDim S8x320 ![] bcast_S_S8x320 (id (constantI S_ 32 2048#32)))
    (subi (fptosi 32 d) (broadcastInDim S8x320 ![] bcast_S_S8x320 (constantI S_ 32 1#32)))

/-- A start position, counted from the end when negative. -/
def wrap (n : BitVec 32) (k : IVec S_ 32) : IVec S_ 32 :=
  select (cmpi .slt k (constantI S_ 32 0#32)) (addi k (constantI S_ 32 n)) k

/-- Four experts' rows from row `k`, -/
def four (d : IVec S8x320 32) (k : IVec S_ 32) : IVec S4x320 32 :=
  Host.dynamicSlice S4x320 d (fun i => ((![wrap 8#32 k, constantI S_ 32 0#32] : Fin 2 → IVec S_ 32) i (Shape.Idx.first h_S_)).toInt) sliceFits_S8x320_S4x320

/-- and two of the four. -/
def two (d : IVec S4x320 32) (k : IVec S_ 32) : IVec S2x320 32 :=
  Host.dynamicSlice S2x320 d (fun i => ((![wrap 4#32 k, constantI S_ 32 0#32] : Fin 2 → IVec S_ 32) i (Shape.Idx.first h_S_)).toInt) sliceFits_S4x320_S2x320

/-- Two pairs of rows, one below the other. -/
def pair (a b : IVec S2x320 32) : IVec S4x320 32 :=
  concatenate S4x320 0 [⟨S2x320, a⟩, ⟨S2x320, b⟩] concatenates_S2x320_S2x320_S4x320_d0

theorem pair_eq (a b : IVec S2x320 32) :
    concatenate S4x320 0 [⟨S2x320, a⟩, ⟨S2x320, b⟩] concatenates_S2x320_S2x320_S4x320_d0 = pair a b := rfl

/-- Two pairs of experts' rows, in one column. -/
def column (d : IVec S8x320 32) (x z : IVec S_ 32) : IVec S1280x1 32 :=
  shapeCast S1280x1 (pair (two (four d (muli x (constantI S_ 32 4#32))) (muli z (constantI S_ 32 2#32)))
    (two (four d (muli x (constantI S_ 32 4#32))) (muli (subi (constantI S_ 32 1#32) z) (constantI S_ 32 2#32)))) shapeCasts_S4x320_S1280x1

/-- The selection: row `r` marks the token the column names at `r`. -/
def planF (r : IVec S1280x1 32) : FVec Ideal S1280x2048 .bf16 :=
  uitofp .bf16 (cmpi .eq (broadcastInDim S1280x2048 ![0, 1] bcast_S1280x1_S1280x2048_0_1 r)
    (broadcastInDim S1280x2048 ![0, 1] bcast_S1x2048_S1280x2048_0_1 (broadcastInDim S1x2048 ![1] bcast_S2048_S1x2048_1 (iotaInDim S2048 32 0))))

section Stretches
variable (W : Valuation τ sig (Elt Ideal)) (c : Dev nD)

theorem read_v15 : (after (hostOps0 c) W main_v15 : IVec S8x2048 32) = hotI (W main_arg1) := by
  unfold hotI
  after_results_simp

theorem read_v4 : (after (hostOps0 c) W main_v4 : IVec S_ 32)
    = Host.remui (Host.divui (constantI S_ 32 (Dev.word c)) (constantI S_ 32 4#32)) (constantI S_ 32 2#32) := by
  after_results_simp
  rfl

theorem read_v8 : (after (hostOps0 c) W main_v8 : IVec S_ 32)
    = Host.remui (Host.divui (constantI S_ 32 (Dev.word c)) (constantI S_ 32 1#32)) (constantI S_ 32 2#32) := by
  after_results_simp
  rfl

theorem read_v16 : (after hostOps0_1 W main_v16 : IVec S8x2048 32) = csumI (W main_v15) := by
  unfold csumI
  simp only [hostOps0_1, TRef.ternary, TRef.unary, TRef.binary, TRef.nullary, TRef.toBuf, TRef.ofBuf, cast_eq]
  after_results_simp

theorem read_v35 : (after hostOps0_2 W main_v35 : FVec Ideal S8x320 .f32) = numF (W main_v15) (W main_v16) := by
  unfold numF posF putF slotI
  after_results_simp

theorem read_v37 : (after hostOps0_2 W main_v37 : IVec S8x320 1)
    = cmpf .oeq (numF (W main_v15) (W main_v16)) (broadcastInDim S8x320 ![] bcast_S_S8x320 (constant S_ .f32 0x00000000#32 : FVec Ideal S_ .f32)) := by
  unfold numF posF putF slotI
  after_results_simp

theorem read_v40 : (after hostOps0_2 W main_v40 : IVec S8x320 32)
    = subi (fptosi 32 (numF (W main_v15) (W main_v16))) (broadcastInDim S8x320 ![] bcast_S_S8x320 (constantI S_ 32 1#32)) := by
  unfold numF posF putF slotI
  after_results_simp

theorem read_c7 : (after hostOps0_2 W main_c_7 : IVec S_ 32) = constantI S_ 32 2048#32 := by
  after_results_simp

theorem read_v41 : (after hostOps0_3 W main_v41 : IVec S8x320 32)
    = select (W main_v37 : IVec S8x320 1) (broadcastInDim S8x320 ![] bcast_S_S8x320 (id (W main_c_7 : IVec S_ 32))) (W main_v40 : IVec S8x320 32) := by
  simp only [hostOps0_3, TRef.ternary, TRef.unary, TRef.binary, TRef.nullary, TRef.toBuf, TRef.ofBuf, cast_eq]
  after_results_simp

set_option maxHeartbeats 4000000 in
theorem read_v65 : (after hostOps0_4 W main_v65 : FVec Ideal S1280x2048 .bf16) = planF (column (W main_v41) (W main_v4) (W main_v8)) := by
  unfold planF column two four wrap
  after_results_simp_entrywise
  simp only [pair_eq]
  after_results_simp_entrywise
  rfl

set_option maxHeartbeats 4000000 in
theorem read_v88 : (after hostOps0_4 W main_v88 : FVec Ideal S1280x2048 .bf16)
    = planF (column (W main_v41) (subi (constantI S_ 32 1#32) (W main_v4 : IVec S_ 32)) (W main_v8)) := by
  unfold planF column two four wrap
  after_results_simp_entrywise
  simp only [pair_eq]
  after_results_simp_entrywise
  rfl

end Stretches

end Cert.MoeV

end
-- ==== Proof.Count.lean ====
/-
  The host's counting: each token's place among the tokens of its expert.
-/
module

public import proofs.«01_k».proof.Proof.HostRead
public import Idealize.ShloMosaic.Lib.Routing.Ops
public import Idealize.ShloMosaic.Lib.Routing.Count

@[expose] public section

noncomputable section

namespace Cert.MoeV

open Idealize.ShloMosaic
open Cert.KernelIdeal Cert.KernelIdeal.Gen

set_option maxRecDepth 16384

/-- Token `i`'s word; past the end a word that names no expert. -/
def word (a : IVec S2048 32) (i : ℕ) : BitVec 32 := if h : i < 2048 then a (ix1 ⟨i, h⟩) else 0xffffffff#32

/-- How many of the first `n` tokens carry the word `e`. -/
def cnt (a : IVec S2048 32) (e : BitVec 32) (n : ℕ) : ℕ := Nat.count (fun i => word a i = e) n

theorem word_fin (a : IVec S2048 32) (t : Fin 2048) : word a t = a (ix1 t) := dif_pos t.isLt

theorem cnt_le (a : IVec S2048 32) (e : BitVec 32) (n : ℕ) : cnt a e n ≤ n := Nat.count_le _

theorem cnt_succ (a : IVec S2048 32) (e : BitVec 32) (n : ℕ) : cnt a e (n + 1) = cnt a e n + if word a n = e then 1 else 0 :=
  Nat.count_succ _ _

/-- The comparison of two words, as a bit. -/
theorem cmpi_eq (p q : BitVec 32) : IntOp.cmpi CmpIPredicate.eq p q = if p = q then 1#1 else 0#1 := by
  by_cases h : p = q
  · simp [IntOp.cmpi, h]
  · have hb : (p == q) = false := beq_eq_false_iff_ne.mpr h
    simp [IntOp.cmpi, h, hb]

/-- Which expert each token names. -/
theorem hotI_at (a : IVec S2048 32) (e : Fin 8) (t : Fin 2048) :
    hotI a (ix2 e t) = BitVec.ofNat 32 (if word a t = BitVec.ofNat 32 e then 1 else 0) := by
  rw [word_fin]
  pointwise [hotI]
  rw [cmpi_eq]
  by_cases h : a (ix1 t) = BitVec.ofNat 32 e
  · rw [if_pos h.symm, if_pos h]; rfl
  · rw [if_neg (Ne.symm h), if_neg h]; rfl

/-- A running sum along the rows, of words that hold the naturals `f e i`. -/
theorem csumI_at (h : IVec S8x2048 32) (f : ℕ → ℕ → ℕ)
    (hf : ∀ (e : Fin 8) (i : Fin 2048), h (ix2 e i) = BitVec.ofNat 32 (f e i)) (e : Fin 8) (j : Fin 2048) :
    csumI h (ix2 e j) = BitVec.ofNat 32 ((List.range (j + 1)).map (f e)).sum := by
  have at0 : ∀ n : Fin (Routing.shape2 1 2048).numel, ((Routing.shape2 1 2048).rowMajor.symm n 0).val = 0 := fun n => by
    rw [Routing.symm2]; rfl
  have at1 : ∀ n : Fin (Routing.shape2 1 2048).numel, ((Routing.shape2 1 2048).rowMajor.symm n 1).val = n.val := fun n => by
    rw [Routing.symm2]; rfl
  have hj := j.isLt
  have he := e.isLt
  unfold csumI Host.reduceWindow
  refine (Routing.foldl_addi_ofNat _ _ (fun n => if 2047 ≤ j.val + n.val then f e (j.val + n.val - 2047) else 0) (fun n _ => ?_) _ 0 rfl).trans ?_
  · have hn : n.val < 2048 := (n.cast (Routing.numel2 2048)).isLt
    by_cases hc : 2047 ≤ j.val + n.val
    · rw [if_pos hc]
      dsimp only
      rw [dif_pos (fun b => by
        match b with
        | ⟨0, _⟩ =>
          show 0 ≤ e.val * 1 + ((Routing.shape2 1 2048).rowMajor.symm n 0).val
            ∧ e.val * 1 + ((Routing.shape2 1 2048).rowMajor.symm n 0).val - 0 < 8
          rw [at0]; omega
        | ⟨1, _⟩ =>
          show 2047 ≤ j.val * 1 + ((Routing.shape2 1 2048).rowMajor.symm n 1).val
            ∧ j.val * 1 + ((Routing.shape2 1 2048).rowMajor.symm n 1).val - 2047 < 2048
          rw [at1]; omega)]
      rw [← hf e ⟨j.val + n.val - 2047, by omega⟩]
      refine congrArg h (funext fun b => Fin.ext ?_)
      match b with
      | ⟨0, _⟩ =>
        show e.val * 1 + ((Routing.shape2 1 2048).rowMajor.symm n 0).val - 0 = e.val
        rw [at0]; omega
      | ⟨1, _⟩ =>
        show j.val * 1 + ((Routing.shape2 1 2048).rowMajor.symm n 1).val - 2047 = j.val + n.val - 2047
        rw [at1]; omega
    · rw [if_neg hc]
      dsimp only
      rw [dif_neg (fun hall => hc (by
        have h1 : 2047 ≤ j.val * 1 + ((Routing.shape2 1 2048).rowMajor.symm n 1).val := (hall 1).1
        rw [at1] at h1; omega))]
      rfl
  · rw [Nat.zero_add, Routing.map_finRange_val _ (fun n => if 2047 ≤ j.val + n then f e (j.val + n - 2047) else 0), Routing.numel2]
    exact congrArg (BitVec.ofNat 32) (Routing.sum_window (f e) 2047 j.val (by omega))

/-- The running counts of the experts' tokens. -/
theorem csum_hot_at (a : IVec S2048 32) (e : Fin 8) (t : Fin 2048) :
    csumI (hotI a) (ix2 e t) = BitVec.ofNat 32 (cnt a (BitVec.ofNat 32 e) (t + 1)) := by
  rw [csumI_at (hotI a) (fun e i => if word a i = BitVec.ofNat 32 e then 1 else 0) (fun e i => hotI_at a e i)]
  exact congrArg (BitVec.ofNat 32) (Routing.sum_map_ite (fun i => word a i = BitVec.ofNat 32 e) (t + 1))

/-- The fold of the words' addition from zero is their sum. -/
theorem fold_addi (f : Fin 8 → BitVec 32) : Finset.fold IntOp.addi (0#32) f Finset.univ = ∑ e, f e := rfl

/-- Two natural numbers below 2^32 with one word are one. -/
theorem ofNat_inj {p q : ℕ} (hp : p < 4294967296) (hq : q < 4294967296) : BitVec.ofNat 32 p = BitVec.ofNat 32 q ↔ p = q := by
  rw [← BitVec.toNat_inj, BitVec.toNat_ofNat, BitVec.toNat_ofNat, Nat.mod_eq_of_lt hp, Nat.mod_eq_of_lt hq]

/-- A token's place: the number of earlier tokens of its expert, and no place for a token whose word names no expert. -/
theorem slot_at (a : IVec S2048 32) (t : Fin 2048) :
    slotI (hotI a) (csumI (hotI a)) (ix1 t)
      = if (word a t).toNat < 8 then BitVec.ofNat 32 (cnt a (word a t) t) else 0xffffffff#32 := by
  have key : slotI (hotI a) (csumI (hotI a)) (ix1 t)
      = IntOp.subi (∑ e : Fin 8, IntOp.muli (csumI (hotI a) (ix2 e t)) (hotI a (ix2 e t))) 1#32 := by
    pointwise [slotI]
    rfl
  rw [key]
  have term : ∀ e : Fin 8, IntOp.muli (csumI (hotI a) (ix2 e t)) (hotI a (ix2 e t))
      = if word a t = BitVec.ofNat 32 e then BitVec.ofNat 32 (cnt a (word a t) t + 1) else 0#32 := fun e => by
    rw [csum_hot_at, hotI_at, cnt_succ]
    by_cases h : word a t = BitVec.ofNat 32 e
    · rw [if_pos h, if_pos h, ← h]
      exact BitVec.mul_one _
    · rw [if_neg h, if_neg h]
      exact BitVec.mul_zero
  rw [Finset.sum_congr rfl fun e _ => term e]
  by_cases hw : (word a t).toNat < 8
  · have he : word a t = BitVec.ofNat 32 ((⟨(word a t).toNat, hw⟩ : Fin 8) : ℕ) := by simp
    rw [if_pos hw, Finset.sum_eq_single ⟨(word a t).toNat, hw⟩, if_pos he]
    · show BitVec.ofNat 32 (cnt a (word a t) t + 1) - 1#32 = _
      rw [BitVec.ofNat_add]
      exact BitVec.add_sub_cancel _ _
    · intro e _ hne
      refine if_neg fun h => hne (Fin.ext ?_)
      rw [he] at h
      exact ((ofNat_inj (by omega) (by omega)).1 h).symm
    · exact fun h => absurd (Finset.mem_univ _) h
  · rw [if_neg hw, Finset.sum_eq_zero fun e _ => ?_]
    · rfl
    · refine if_neg fun h => hw ?_
      rw [h, BitVec.toNat_ofNat, Nat.mod_eq_of_lt (by omega)]
      exact e.isLt

/-- Token `t` is the one at place `k` of the expert `e`. -/
def At (a : IVec S2048 32) (e k t : ℕ) : Prop := word a t = BitVec.ofNat 32 e ∧ cnt a (BitVec.ofNat 32 e) t = k

instance (a : IVec S2048 32) (e k t : ℕ) : Decidable (At a e k t) := inferInstanceAs (Decidable (_ ∧ _))

/-- A place has at most one token, -/
theorem At.inj {a : IVec S2048 32} {e k t t' : ℕ} (h : At a e k t) (h' : At a e k t') : t = t' :=
  Nat.count_injective h.1 h'.1 (h.2.trans h'.2.symm)

/-- and a token one place. -/
theorem At.place {a : IVec S2048 32} {e e' k k' t : ℕ} (he : e < 8) (he' : e' < 8) (h : At a e k t) (h' : At a e' k' t) : e = e' ∧ k = k' := by
  have := (ofNat_inj (by omega) (by omega)).1 (h.1.symm.trans h'.1)
  subst this
  exact ⟨rfl, h.2.symm.trans h'.2⟩

/-- The product of the two marks, at one token. -/
theorem num_term (a : IVec S2048 32) (e : Fin 8) (k : Fin 320) (t : Fin 2048) :
    (FloatOps.sitofp FTy.f32 (IntOp.muli (hotI a (ix2 e t)) (IntOp.addi (BitVec.ofNat 32 t) 1#32)) : Ideal .f32)
        * FloatOps.uitofp FTy.f32 (IntOp.cmpi CmpIPredicate.eq (slotI (hotI a) (csumI (hotI a)) (ix1 t)) (BitVec.ofNat 32 k))
      = if At a e k t then (((t : ℕ) + 1 : ℝ) : EReal) else 0 := by
  have ht := t.isLt
  have hk := k.isLt
  have he := e.isLt
  show ((((IntOp.muli (hotI a (ix2 e t)) (IntOp.addi (BitVec.ofNat 32 t) 1#32)).toInt : ℤ) : ℝ) : EReal)
    * ((((IntOp.cmpi CmpIPredicate.eq (slotI (hotI a) (csumI (hotI a)) (ix1 t)) (BitVec.ofNat 32 k)).toNat : ℕ) : ℝ) : EReal) = _
  rw [hotI_at, slot_at, cmpi_eq]
  by_cases h : word a t = BitVec.ofNat 32 e
  · have hn : (word a t).toNat = e := by rw [h, BitVec.toNat_ofNat, Nat.mod_eq_of_lt (by omega)]
    have hi : (IntOp.muli (BitVec.ofNat 32 1) (IntOp.addi (BitVec.ofNat 32 t) 1#32)).toInt = (t : ℕ) + 1 := by
      have : IntOp.muli (BitVec.ofNat 32 1) (IntOp.addi (BitVec.ofNat 32 t) 1#32) = BitVec.ofNat 32 (t + 1) := by
        show 1#32 * (BitVec.ofNat 32 t + 1#32) = _
        rw [BitVec.one_mul, BitVec.ofNat_add]
      rw [this, BitVec.toInt_eq_toNat_of_lt (by rw [BitVec.toNat_ofNat]; omega), BitVec.toNat_ofNat, Nat.mod_eq_of_lt (by omega)]
      push_cast; rfl
    rw [if_pos h, if_pos (show (word a t).toNat < 8 by omega), hi]
    have hc := cnt_le a (word a t) t
    by_cases hs : cnt a (word a t) t = k
    · rw [if_pos (congrArg _ hs), if_pos ⟨h, h ▸ hs⟩]
      simp
    · rw [if_neg (fun hh => hs ((ofNat_inj (by omega) (by omega)).1 hh)), if_neg (fun hh : At a e k t => hs (h ▸ hh.2))]
      simp
  · rw [if_neg h, if_neg (fun hh : At a e k t => h hh.1)]
    have : IntOp.muli (BitVec.ofNat 32 0) (IntOp.addi (BitVec.ofNat 32 t) 1#32) = 0#32 := BitVec.zero_mul
    rw [this]
    simp

/-- The number, from one, of the token at a place; zero at an empty place. -/
theorem num_at (a : IVec S2048 32) (e : Fin 8) (k : Fin 320) :
    numF (hotI a) (csumI (hotI a)) (ix2 e k) = ∑ t : Fin 2048, if At a e k t then (((t : ℕ) + 1 : ℝ) : EReal) else 0 := by
  rw [← Finset.sum_congr rfl fun t _ => num_term a e k t]
  pointwise [numF, posF, putF]

theorem num_some (a : IVec S2048 32) (e : Fin 8) (k : Fin 320) (t : Fin 2048) (h : At a e k t) :
    numF (hotI a) (csumI (hotI a)) (ix2 e k) = (((t : ℕ) + 1 : ℝ) : EReal) := by
  rw [num_at, Finset.sum_eq_single t (fun t' _ hne => if_neg fun h' => hne (Fin.ext (h'.inj h))) (fun hh => absurd (Finset.mem_univ _) hh), if_pos h]

theorem num_none (a : IVec S2048 32) (e : Fin 8) (k : Fin 320) (h : ∀ t : Fin 2048, ¬ At a e k t) :
    numF (hotI a) (csumI (hotI a)) (ix2 e k) = 0 := by
  rw [num_at, Finset.sum_eq_zero fun t _ => if_neg (h t)]

/-- The conversion of a whole number below 2^31 is the number. -/
theorem fptosi_nat (n : ℕ) (h : n < 2147483648) : Ideal.fptosi 32 (((n : ℝ)) : EReal) = BitVec.ofNat 32 n := by
  have : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    omega
  unfold Ideal.fptosi
  rw [this]
  exact BitVec.ofInt_natCast 32 n

/-- The token at each place of each expert, as the host finds it. -/
def toks (a : IVec S2048 32) : IVec S8x320 32 := idxI (numF (hotI a) (csumI (hotI a)))

/-- A place names a token exactly when the token is there. -/
theorem toks_at (a : IVec S2048 32) (e : Fin 8) (k : Fin 320) (t : Fin 2048) :
    toks a (ix2 e k) = BitVec.ofNat 32 t ↔ At a e k t := by
  have ht := t.isLt
  have split : toks a (ix2 e k) = if numF (hotI a) (csumI (hotI a)) (ix2 e k) = 0 then 2048#32
      else IntOp.subi (Ideal.fptosi 32 (numF (hotI a) (csumI (hotI a)) (ix2 e k))) 1#32 := by
    unfold toks
    generalize numF (hotI a) (csumI (hotI a)) = d
    pointwise [idxI]
    rfl
  rw [split]
  by_cases h : ∃ t' : Fin 2048, At a e k t'
  · obtain ⟨t', h'⟩ := h
    have ht' := t'.isLt
    have e1 : (((t' : ℕ) + 1 : ℝ) : EReal) = (((t' + 1 : ℕ) : ℝ) : EReal) := by push_cast; rfl
    rw [num_some a e k t' h', e1, if_neg (EReal.coe_ne_zero.2 (Nat.cast_ne_zero.2 (Nat.succ_ne_zero t'.val))), fptosi_nat _ (by omega)]
    have : IntOp.subi (BitVec.ofNat 32 (t' + 1)) 1#32 = BitVec.ofNat 32 t' := by
      show BitVec.ofNat 32 (t' + 1) - 1#32 = _
      rw [BitVec.ofNat_add]
      exact BitVec.add_sub_cancel _ _
    rw [this, ofNat_inj (by omega) (by omega)]
    exact ⟨fun q => q ▸ h', fun q => h'.inj q⟩
  · have hn : ∀ t' : Fin 2048, ¬ At a e k t' := fun t' q => h ⟨t', q⟩
    rw [num_none a e k hn, if_pos rfl]
    exact ⟨fun q => absurd ((ofNat_inj (p := 2048) (by omega) (by omega)).1 q) (by omega), fun q => absurd q (hn t)⟩

end Cert.MoeV

end
-- ==== Proof.Capacity.lean ====
/-
  What the precondition says: no expert is named by more than 320 of a device's tokens.
-/
module

public import proofs.«01_k».proof.Defs
public import proofs.«01_k».proof.Proof.Count

@[expose] public section

noncomputable section

namespace Cert.MoeV

open Idealize.ShloMosaic
open Cert.KernelIdeal (S2048 S8 S8x2048)

set_option maxRecDepth 16384

/-- The shapes of the precondition, over one device's arrays. -/
theorem capacity_facts : Cert.Pre_capacity_KernelIdeal.Facts where
  bcast_S2048_S1x2048_1 := by decide
  bcast_S8_S8x1_0 := by decide
  bcast_S1x2048_S8x2048_0_1 := by decide
  bcast_S8x1_S8x2048_0_1 := by decide
  natLt_1_32 := by decide
  reducesTo_S8x2048_S8_d1 := by decide
  h_S_ := by decide
  bcast_S_S8 := by decide

/-- The shapes of the precondition, over the whole arrays. -/
theorem capacity_facts_whole : Cert.Pre_capacity_ReferenceIdeal.Facts where
  bcast_S4096_S1x4096_1 := by decide
  bcast_S8_S8x1_0 := by decide
  bcast_S1x4096_S8x4096_0_1 := by decide
  bcast_S8x1_S8x4096_0_1 := by decide
  natLt_1_32 := by decide
  reducesTo_S8x4096_S8_d1 := by decide
  h_S_ := by decide
  bcast_S_S8 := by decide

/-- A number below 2048 found at most 320 as a word is at most 320. -/
theorem word_le {k : ℕ} (hk : k ≤ 2048) (h : IntOp.cmpi .sle (BitVec.ofNat 32 k) 320#32 = 1#1) : k ≤ 320 := by
  have hs : (BitVec.ofNat 32 k).sle 320#32 = true := by
    by_contra hn
    have h' : BitVec.ofBool ((BitVec.ofNat 32 k).sle 320#32) = 1#1 := h
    rw [Bool.eq_false_iff.mpr hn] at h'
    exact absurd h' (by decide)
  rw [BitVec.sle_eq_decide, decide_eq_true_eq, BitVec.toInt_eq_toNat_of_lt (by rw [BitVec.toNat_ofNat]; omega), BitVec.toNat_ofNat] at hs
  have : (320#32).toInt = 320 := by decide
  omega

/-- Under the precondition an expert's tokens have places. -/
theorem capacity_le [Cert.Pre_capacity_KernelIdeal.Facts] (x : FVec Ideal Cert.KernelIdeal.S2048x1024 .f32) (a : IVec S2048 32)
    (u : FVec Ideal Cert.KernelIdeal.S4x1024x2048 .f32) (w : FVec Ideal Cert.KernelIdeal.S4x2048x1024 .f32)
    (h : Cert.Pre_capacity_KernelIdeal.fn x a u w = fun _ => 1#1) (e : ℕ) (he : e < 8) :
    cnt a (BitVec.ofNat 32 e) 2048 ≤ 320 := by
  have h1 := congrFun h (ix1 (⟨e, he⟩ : Fin 8))
  unfold Cert.Pre_capacity_KernelIdeal.fn at h1
  refine word_le (cnt_le _ _ _) (Eq.trans ?_ h1)
  refine congrArg (fun v => IntOp.cmpi .sle v 320#32) (Eq.symm ?_)
  refine Routing.reduce_count (n := 8) (m := 2048) (by decide) _ _ _ _ ⟨e, he⟩ (fun i => word a i = BitVec.ofNat 32 e) fun q => ?_
  rw [word_fin]
  refine (iff_of_eq (congrArg (· = 1#1) (a₂ := if a (ix1 q) = BitVec.ofNat 32 e then 1#1 else 0#1) ?_)).trans (by split <;> simp [*])
  rw [← ix2_eq_valueIdx]
  pointwise
  exact cmpi_eq _ _

end Cert.MoeV

end
-- ==== Proof.Select.lean ====
/-
  The two selection arrays the launch is given: row 320 q + k of each marks the token at place k of the q-th of four experts.
-/
module

public import proofs.«01_k».proof.Proof.Count

@[expose] public section

noncomputable section

namespace Cert.MoeV

open Idealize.ShloMosaic Idealize.ShloMosaic.TcCoe Idealize.ShloMosaic.StableHlo
open Cert.KernelIdeal Cert.KernelIdeal.Gen

set_option maxRecDepth 16384

/-- A small start is kept as it is. -/
theorem wrap_at (n : BitVec 32) (k : IVec S_ 32) (i : S_.Idx) (v : ℕ) (hv : v ≤ 4) (hk : k i = BitVec.ofNat 32 v) :
    wrap n k i = BitVec.ofNat 32 v := by
  show (if IntOp.cmpi .slt (k i) 0#32 = 1#1 then IntOp.addi (k i) n else k i) = _
  rw [hk]
  refine if_neg ?_
  interval_cases v <;> decide

theorem toInt_small (v : ℕ) (hv : v ≤ 4) : (BitVec.ofNat 32 v).toInt = v := by
  interval_cases v <;> rfl

/-- Four rows from row `v`. -/
theorem slice4_at (d : IVec S8x320 32) (start : Fin 2 → Int) (v : ℕ) (hv : v ≤ 4) (h0 : start 0 = v) (h1 : start 1 = 0) (q : Fin 4) (s : Fin 320) :
    Host.dynamicSlice S4x320 d start sliceFits_S8x320_S4x320 (ix2 q s) = d (ix2 ⟨v + q, by omega⟩ s) := by
  have e0 : Host.clampedStart S8x320 S4x320 rfl start 0 = v := by
    refine Host.clampedStart_of_le (s := S8x320) (t := S4x320) rfl start 0 v h0 ?_
    show v + 4 ≤ 8
    omega
  have e1 : Host.clampedStart S8x320 S4x320 rfl start 1 = 0 := by
    refine Host.clampedStart_of_le (s := S8x320) (t := S4x320) rfl start 1 0 h1 ?_
    show 0 + 320 ≤ 320
    omega
  pointwise
  refine congrArg d (congrArg₂ ix2 (Fin.ext ?_) (Fin.ext ?_))
  · exact congrArg (· + q.val) e0
  · exact (congrArg (· + s.val) e1).trans (Nat.zero_add _)

/-- Two rows from row `v`. -/
theorem slice2_at (d : IVec S4x320 32) (start : Fin 2 → Int) (v : ℕ) (hv : v ≤ 2) (h0 : start 0 = v) (h1 : start 1 = 0) (q : Fin 2) (s : Fin 320) :
    Host.dynamicSlice S2x320 d start sliceFits_S4x320_S2x320 (ix2 q s) = d (ix2 ⟨v + q, by omega⟩ s) := by
  have e0 : Host.clampedStart S4x320 S2x320 rfl start 0 = v := by
    refine Host.clampedStart_of_le (s := S4x320) (t := S2x320) rfl start 0 v h0 ?_
    show v + 2 ≤ 4
    omega
  have e1 : Host.clampedStart S4x320 S2x320 rfl start 1 = 0 := by
    refine Host.clampedStart_of_le (s := S4x320) (t := S2x320) rfl start 1 0 h1 ?_
    show 0 + 320 ≤ 320
    omega
  pointwise
  refine congrArg d (congrArg₂ ix2 (Fin.ext ?_) (Fin.ext ?_))
  · exact congrArg (· + q.val) e0
  · exact (congrArg (· + s.val) e1).trans (Nat.zero_add _)

theorem four_at (d : IVec S8x320 32) (k : IVec S_ 32) (v : ℕ) (hv : v ≤ 4) (hk : k (Shape.Idx.first h_S_) = BitVec.ofNat 32 v)
    (q : Fin 4) (s : Fin 320) : four d k (ix2 q s) = d (ix2 ⟨v + q, by omega⟩ s) := by
  refine slice4_at d _ v hv ?_ ?_ q s
  · show (wrap (8#32) k (Shape.Idx.first h_S_)).toInt = v
    rw [wrap_at _ _ _ v hv hk, toInt_small v hv]
  · show (0#32).toInt = 0
    rfl

theorem two_at (d : IVec S4x320 32) (k : IVec S_ 32) (v : ℕ) (hv : v ≤ 2) (hk : k (Shape.Idx.first h_S_) = BitVec.ofNat 32 v)
    (q : Fin 2) (s : Fin 320) : two d k (ix2 q s) = d (ix2 ⟨v + q, by omega⟩ s) := by
  refine slice2_at d _ v hv ?_ ?_ q s
  · show (wrap (4#32) k (Shape.Idx.first h_S_)).toInt = v
    rw [wrap_at _ _ _ v (by omega) hk, toInt_small v (by omega)]
  · show (0#32).toInt = 0
    rfl

/-- The `q`-th expert of the four at `X`, as a device at `Z` orders them: its own pair first. -/
def own (X Z q : ℕ) : ℕ := 4 * X + if q < 2 then 2 * Z + q else 2 * (1 - Z) + (q - 2)

theorem own_lt {X Z q : ℕ} (hX : X < 2) (hZ : Z < 2) (hq : q < 4) : own X Z q < 8 := by
  unfold own; split <;> omega

/-- The column of tokens. -/
theorem column_at (d : IVec S8x320 32) (x z : IVec S_ 32) (X Z : ℕ) (hX : X < 2) (hZ : Z < 2)
    (hx : x (Shape.Idx.first h_S_) = BitVec.ofNat 32 X) (hz : z (Shape.Idx.first h_S_) = BitVec.ofNat 32 Z) (r : Fin 1280) :
    column d x z (ix2 r 0) = d (ix2 ⟨own X Z (r / 320), own_lt hX hZ (by omega)⟩ ⟨r % 320, by omega⟩) := by
  have h4 : (muli x (constantI S_ 32 4#32)) (Shape.Idx.first h_S_) = BitVec.ofNat 32 (4 * X) := by
    show IntOp.muli (x _) 4#32 = _
    rw [hx]; interval_cases X <;> rfl
  have h2 : (muli z (constantI S_ 32 2#32)) (Shape.Idx.first h_S_) = BitVec.ofNat 32 (2 * Z) := by
    show IntOp.muli (z _) 2#32 = _
    rw [hz]; interval_cases Z <;> rfl
  have h2' : (muli (subi (constantI S_ 32 1#32) z) (constantI S_ 32 2#32)) (Shape.Idx.first h_S_) = BitVec.ofNat 32 (2 * (1 - Z)) := by
    show IntOp.muli (IntOp.subi 1#32 (z _)) 2#32 = _
    rw [hz]; interval_cases Z <;> rfl
  pointwise [column, pair]
  split
  · next h =>
    rw [two_at _ _ (2 * Z) (by omega) h2, four_at _ _ (4 * X) (by omega) h4]
    refine congrArg d (congrArg₂ ix2 (Fin.ext ?_) rfl)
    show 4 * X + (2 * Z + r / 320) = own X Z (r / 320)
    rw [own, if_pos h]
  · next h =>
    rw [two_at _ _ (2 * (1 - Z)) (by omega) h2', four_at _ _ (4 * X) (by omega) h4]
    refine congrArg d (congrArg₂ ix2 (Fin.ext ?_) rfl)
    show 4 * X + (2 * (1 - Z) + (r / 320 - 2)) = own X Z (r / 320)
    rw [own, if_neg h]

/-- The selection of four experts' tokens. -/
theorem plan_at (a : IVec S2048 32) (x z : IVec S_ 32) (X Z : ℕ) (hX : X < 2) (hZ : Z < 2)
    (hx : x (Shape.Idx.first h_S_) = BitVec.ofNat 32 X) (hz : z (Shape.Idx.first h_S_) = BitVec.ofNat 32 Z) (r : Fin 1280) (t : Fin 2048) :
    planF (column (toks a) x z) (ix2 r t) = (if At a (own X Z (r / 320)) (r % 320) t then 1 else 0 : EReal) := by
  have hp : planF (column (toks a) x z) (ix2 r t)
      = ((((IntOp.cmpi CmpIPredicate.eq (column (toks a) x z (ix2 r 0)) (BitVec.ofNat 32 t)).toNat : ℕ) : ℝ) : EReal) := by
    pointwise [planF]
    rfl
  rw [hp, column_at _ _ _ X Z hX hZ hx hz, cmpi_eq]
  by_cases h : At a (own X Z (r / 320)) (r % 320) t
  · rw [if_pos h, if_pos ((toks_at a ⟨own X Z (r / 320), own_lt hX hZ (by omega)⟩ ⟨r % 320, by omega⟩ t).2 h)]
    simp
  · rw [if_neg h, if_neg (fun q => h ((toks_at a ⟨own X Z (r / 320), own_lt hX hZ (by omega)⟩ ⟨r % 320, by omega⟩ t).1 q))]
    simp

/-- Device `c`'s first coordinate, as the host computes it, -/
def xw (c : Dev nD) : IVec S_ 32 := Host.remui (Host.divui (constantI S_ 32 (Dev.word c)) (constantI S_ 32 4#32)) (constantI S_ 32 2#32)
/-- and its third. -/
def zw (c : Dev nD) : IVec S_ 32 := Host.remui (Host.divui (constantI S_ 32 (Dev.word c)) (constantI S_ 32 1#32)) (constantI S_ 32 2#32)

theorem xw_at (c : Dev nD) (i : S_.Idx) : xw c i = BitVec.ofNat 32 (c.val / 4) := by
  show IntOp.remui .host (IntOp.divui .host (BitVec.ofNat 32 c.val) 4#32) 2#32 = _
  revert c; decide
theorem zw_at (c : Dev nD) (i : S_.Idx) : zw c i = BitVec.ofNat 32 (c.val % 2) := by
  show IntOp.remui .host (IntOp.divui .host (BitVec.ofNat 32 c.val) 1#32) 2#32 = _
  revert c; decide

variable (m : (ℓ : Loc nD τ sig) → Buf (Elt Ideal) ℓ) (c : Dev nD)

/-- The device's tokens' words. -/
def words : IVec S2048 32 := m ((c.tc : Thread nD τ).loc main_arg1)

theorem v41_eq : (V4 m c main_v41 : IVec S8x320 32) = toks (words m c) := by
  refine (read_v41 (V3 m c)).trans ?_
  rw [show V3 m c main_v37 = _ from read_v37 (V2 m c), show V3 m c main_v40 = _ from read_v40 (V2 m c),
    show V3 m c main_c_7 = _ from read_c7 (V2 m c), show V2 m c main_v16 = _ from read_v16 (V1 m c),
    show V2 m c main_v15 = V1 m c main_v15 from V2_of m c main_v15 (by decide),
    show V1 m c main_v15 = _ from read_v15 (V0 m c) c]
  rfl

theorem v4_eq : (V4 m c main_v4 : IVec S_ 32) = xw c :=
  (V4_of m c main_v4 (by decide)).trans <| (V3_of m c main_v4 (by decide)).trans <| (V2_of m c main_v4 (by decide)).trans (read_v4 (V0 m c) c)
theorem v8_eq : (V4 m c main_v8 : IVec S_ 32) = zw c :=
  (V4_of m c main_v8 (by decide)).trans <| (V3_of m c main_v8 (by decide)).trans <| (V2_of m c main_v8 (by decide)).trans (read_v8 (V0 m c) c)

/-- The selection of the tokens for the device's own four experts' group. -/
theorem pl_at (r : Fin 1280) (t : Fin 2048) :
    (V5 m c main_v65 : FVec Ideal S1280x2048 .bf16) (ix2 r t)
      = (if At (words m c) (own (c.val / 4) (c.val % 2) (r / 320)) (r % 320) t then 1 else 0 : EReal) := by
  rw [show V5 m c main_v65 = _ from read_v65 (V4 m c), v41_eq, v4_eq, v8_eq]
  have hc : c.val < 8 := c.isLt
  exact plan_at _ _ _ _ _ (by omega) (by omega) (xw_at c _) (zw_at c _) r t

/-- The selection of the tokens for the other group of four. -/
theorem ps_at (r : Fin 1280) (t : Fin 2048) :
    (V5 m c main_v88 : FVec Ideal S1280x2048 .bf16) (ix2 r t)
      = (if At (words m c) (own (1 - c.val / 4) (c.val % 2) (r / 320)) (r % 320) t then 1 else 0 : EReal) := by
  rw [show V5 m c main_v88 = _ from read_v88 (V4 m c), v41_eq, v4_eq, v8_eq]
  have hc : c.val < 8 := c.isLt
  refine plan_at _ _ _ _ _ (by omega) (by omega) ?_ (zw_at c _) r t
  show IntOp.subi 1#32 (xw c _) = _
  rw [xw_at]
  have : c.val / 4 < 2 := by omega
  generalize c.val / 4 = X at this
  interval_cases X <;> rfl

end Cert.MoeV

end
-- ==== Proof.Rows.lean ====
/-
  What the launch's buffers and its result hold, element by element, over the devices' arguments.
-/
module

public import proofs.«01_k».proof.Proof.Select

@[expose] public section

noncomputable section

namespace Cert.MoeV

open Idealize.ShloMosaic Idealize.ShloMosaic.TcCoe
open Cert.KernelIdeal Cert.KernelIdeal.Gen
open Cert.MoeK (xp zp dg xp_xp zp_zp glue selA selB cols xV plV psV w1V w2V xbV xsV w1f w2f aV bV ylV ybV ylS ylF yrS yrF oaV oV outV w1src w2src)

set_option maxRecDepth 16384

theorem ix2_same {a b : ℕ} (i : Fin a) (j : Fin b) : Cert.MoeK.ix2 i j = ix2 i j := by
  funext x
  match x with
  | ⟨0, _⟩ => rfl
  | ⟨1, _⟩ => rfl

theorem glue_at {α : Type} {k n w R : ℕ} (hR : R = k * n) (A : Fin k → (⟨2, ![n, w]⟩ : Shape).Idx → α) (r : Fin R) (j : Fin w)
    (h1 : r.val / n < k) (h2 : r.val % n < n) : glue hR A (ix2 r j) = A ⟨r / n, h1⟩ (ix2 ⟨r % n, h2⟩ j) := by
  exact congrArg (A ⟨r / n, h1⟩) (ix2_same (⟨r % n, h2⟩ : Fin n) j)

theorem selA_at (p : Vec Ideal S1280x2048 .bf16) (r : Fin 320) (t : Fin 2048) : selA p (ix2 r t) = p (ix2 ⟨r, by omega⟩ t) := by
  refine congrArg p (funext fun a => Fin.ext ?_)
  match a with
  | ⟨0, _⟩ => show 0 + 1 * r.val = r.val; omega
  | ⟨1, _⟩ => show 0 + 1 * t.val = t.val; omega

theorem selB_at (p : Vec Ideal S1280x2048 .bf16) (r : Fin 320) (t : Fin 2048) : selB p (ix2 r t) = p (ix2 ⟨320 + r, by omega⟩ t) := by
  refine congrArg p (funext fun a => Fin.ext ?_)
  match a with
  | ⟨0, _⟩ => show 320 + 1 * r.val = 320 + r.val; omega
  | ⟨1, _⟩ => show 0 + 1 * t.val = t.val; omega

theorem cols_at (i : Fin 4) (p : Vec Ideal S1280x2048 .bf16) (r : Fin 1280) (t : Fin 512) :
    cols i p (ix2 r t) = p (ix2 r ⟨512 * i + t, by omega⟩) := by
  fin_cases i
  all_goals
    refine congrArg p (funext fun a => Fin.ext ?_)
    match a with
    | ⟨0, _⟩ => first
      | (show 0 + 1 * r.val = r.val; omega)
    | ⟨1, _⟩ => first
      | (show 0 + 1 * t.val = 512 * 0 + t.val; omega)
      | (show 512 + 1 * t.val = 512 * 1 + t.val; omega)
      | (show 1024 + 1 * t.val = 512 * 2 + t.val; omega)
      | (show 1536 + 1 * t.val = 512 * 3 + t.val; omega)

theorem off1_at : ∀ (c : Dev nD) (j : Fin 2), k0_off1 c (BitVec.ofNat 32 j.val) 0 = 2 * (c.val % 2) + j.val
    ∧ k0_off1 c (BitVec.ofNat 32 j.val) 1 = 0 ∧ k0_off1 c (BitVec.ofNat 32 j.val) 2 = 0 := by decide +kernel
theorem off2_at : ∀ (c : Dev nD) (j : Fin 2), k0_off2 c (BitVec.ofNat 32 j.val) 0 = 2 * (c.val % 2) + j.val
    ∧ k0_off2 c (BitVec.ofNat 32 j.val) 1 = 0 ∧ k0_off2 c (BitVec.ofNat 32 j.val) 2 = 0 := by decide +kernel

section
variable (m : (ℓ : Loc nD τ sig) → Buf (Elt Ideal) ℓ) (c : Dev nD)

/-- The device's tokens and weights. -/
def toksX : Vec Ideal S2048x1024 .f32 := m ((c.tc : Thread nD τ).loc main_arg0)
def wtsU : Vec Ideal S4x1024x2048 .f32 := m ((c.tc : Thread nD τ).loc main_arg2)
def wtsW : Vec Ideal S4x2048x1024 .f32 := m ((c.tc : Thread nD τ).loc main_arg3)

theorem xV_eq : xV m c = toksX m c :=
  (V5_of m c main_arg0 (by decide)).trans <| (V4_of m c main_arg0 (by decide)).trans <| (V3_of m c main_arg0 (by decide)).trans <|
    (V2_of m c main_arg0 (by decide)).trans (V1_of m c main_arg0 (by decide))
theorem w1V_eq : w1V m c = wtsU m c :=
  (V5_of m c main_arg2 (by decide)).trans <| (V4_of m c main_arg2 (by decide)).trans <| (V3_of m c main_arg2 (by decide)).trans <|
    (V2_of m c main_arg2 (by decide)).trans (V1_of m c main_arg2 (by decide))
theorem w2V_eq : w2V m c = wtsW m c :=
  (V5_of m c main_arg3 (by decide)).trans <| (V4_of m c main_arg3 (by decide)).trans <| (V3_of m c main_arg3 (by decide)).trans <|
    (V2_of m c main_arg3 (by decide)).trans (V1_of m c main_arg3 (by decide))

theorem xbV_at (i : S2048x1024.Idx) : xbV m c i = toksX m c i := by
  rw [← xV_eq]; rfl

theorem aV_at (j : Fin 2) (d : Fin 1024) (k : Fin 2048) :
    aV m c j (ix2 d k) = wtsU m c (ix3 ⟨2 * (c.val % 2) + j, by omega⟩ d k) := by
  obtain ⟨h0, h1, h2⟩ := off1_at c j
  rw [← w1V_eq, aV, pay9_at]
  show w1V m c ((Rect.unit (s := S4x1024x2048) (k0_off1 c (BitVec.ofNat 32 j.val)) S1x1024x2048.size (k0_off1_inb c j)).emb
    (Shape.reshapeEquiv squeezes_S1x1024x2048_S1024x2048.numel_eq (ix2 d k))) = _
  rw [Shape.reshapeEquiv_cons_one]
  refine congrArg (w1V m c) (funext fun a => Fin.ext ?_)
  refine (ValueKit.rect_emb_unit_val (s := S4x1024x2048) _ S1x1024x2048.size _ _ a).trans ?_
  match a with
  | ⟨0, _⟩ => exact (congrArg (· + 0) h0)
  | ⟨1, _⟩ => exact (congrArg (· + d.val) h1).trans (Nat.zero_add _)
  | ⟨2, _⟩ => exact (congrArg (· + k.val) h2).trans (Nat.zero_add _)

theorem bV_at (j : Fin 2) (k : Fin 2048) (n : Fin 1024) :
    bV m c j (ix2 k n) = wtsW m c (ix3 ⟨2 * (c.val % 2) + j, by omega⟩ k n) := by
  obtain ⟨h0, h1, h2⟩ := off2_at c j
  rw [← w2V_eq, bV, pay11_at]
  show w2V m c ((Rect.unit (s := S4x2048x1024) (k0_off2 c (BitVec.ofNat 32 j.val)) S1x2048x1024.size (k0_off2_inb c j)).emb
    (Shape.reshapeEquiv squeezes_S1x2048x1024_S2048x1024.numel_eq (ix2 k n))) = _
  rw [Shape.reshapeEquiv_cons_one]
  refine congrArg (w2V m c) (funext fun a => Fin.ext ?_)
  refine (ValueKit.rect_emb_unit_val (s := S4x2048x1024) _ S1x2048x1024.size _ _ a).trans ?_
  match a with
  | ⟨0, _⟩ => exact (congrArg (· + 0) h0)
  | ⟨1, _⟩ => exact (congrArg (· + k.val) h1).trans (Nat.zero_add _)
  | ⟨2, _⟩ => exact (congrArg (· + n.val) h2).trans (Nat.zero_add _)

/-- The row gathered for place `k` of expert `e`: the token there, zero when there is none. -/
def gath (a : IVec S2048 32) (x : Vec Ideal S2048x1024 .f32) (e k : ℕ) (d : Fin 1024) : EReal :=
  ∑ t : Fin 2048, (if At a e k t then 1 else 0) * x (ix2 t d)

/-- That row through one of a device's four experts. -/
def thru (row : Fin 1024 → EReal) (u : Vec Ideal S4x1024x2048 .f32) (w : Vec Ideal S4x2048x1024 .f32) (l : Fin 4) (n : Fin 1024) : EReal :=
  ffn row (fun d k => u (ix3 l d k)) (fun k n => w (ix3 l k n)) n

theorem pairs_lt (j : Fin 2) : 2 * (c.val % 2) + j.val < 4 := by omega

/-- The rows of the own side through the device's pair. -/
theorem ylV_at (j : Fin 2) (r : Fin 320) (n : Fin 1024) :
    ylV m c j (ix2 r n) = thru (gath (words m c) (toksX m c) (own (c.val / 4) (c.val % 2) j) r) (wtsU m c) (wtsW m c) ⟨2 * (c.val % 2) + j, pairs_lt c j⟩ n := by
  have row : ∀ (P : Vec Ideal S320x2048 .bf16), (∀ t, P (ix2 r t) = (if At (words m c) (own (c.val / 4) (c.val % 2) j) r t then 1 else 0 : EReal)) →
      k0_pay12 P (xbV m c) (aV m c j) (bV m c j) (ix2 r n)
        = thru (gath (words m c) (toksX m c) (own (c.val / 4) (c.val % 2) j) r) (wtsU m c) (wtsW m c) ⟨2 * (c.val % 2) + j, pairs_lt c j⟩ n := by
    intro P hP
    rw [pay12_at]
    simp only [hP, xbV_at, aV_at, bV_at]
    rfl
  fin_cases j
  · refine row (selA (plV m c)) fun t => ?_
    rw [selA_at]
    refine (pl_at m c _ t).trans ?_
    show (if At _ (own _ _ (r.val / 320)) (r.val % 320) t then (1 : EReal) else 0) = if At _ (own _ _ 0) r t then 1 else 0
    rw [Nat.div_eq_of_lt r.isLt, Nat.mod_eq_of_lt r.isLt]
  · refine row (selB (plV m c)) fun t => ?_
    rw [selB_at]
    refine (pl_at m c _ t).trans ?_
    show (if At _ (own _ _ ((320 + r.val) / 320)) ((320 + r.val) % 320) t then (1 : EReal) else 0) = if At _ (own _ _ 1) r t then 1 else 0
    rw [show (320 + r.val) / 320 = 1 by omega, show (320 + r.val) % 320 = r.val by omega]

/-- The rows the device sends across. -/
theorem xsV_at (j : Fin 2) (r : Fin 320) (d : Fin 1024) :
    xsV m c j (ix2 r d) = gath (words m c) (toksX m c) (own (1 - c.val / 4) (c.val % 2) j) r d := by
  have row : ∀ (P : Vec Ideal S320x2048 .bf16), (∀ t, P (ix2 r t) = (if At (words m c) (own (1 - c.val / 4) (c.val % 2) j) r t then 1 else 0 : EReal)) →
      k0_pay6 P (xbV m c) (ix2 r d) = gath (words m c) (toksX m c) (own (1 - c.val / 4) (c.val % 2) j) r d := by
    intro P hP
    rw [pay6_at]
    simp only [hP, xbV_at]
    rfl
  fin_cases j
  · refine row (selA (psV m c)) fun t => ?_
    rw [selA_at]
    refine (ps_at m c _ t).trans ?_
    show (if At _ (own _ _ (r.val / 320)) (r.val % 320) t then (1 : EReal) else 0) = if At _ (own _ _ 0) r t then 1 else 0
    rw [Nat.div_eq_of_lt r.isLt, Nat.mod_eq_of_lt r.isLt]
  · refine row (selB (psV m c)) fun t => ?_
    rw [selB_at]
    refine (ps_at m c _ t).trans ?_
    show (if At _ (own _ _ ((320 + r.val) / 320)) ((320 + r.val) % 320) t then (1 : EReal) else 0) = if At _ (own _ _ 1) r t then 1 else 0
    rw [show (320 + r.val) / 320 = 1 by omega, show (320 + r.val) % 320 = r.val by omega]

/-- The rows received from across through the device's pair. -/
theorem ybV_at (j : Fin 2) (r : Fin 320) (n : Fin 1024) :
    ybV m c j (ix2 r n)
      = thru (gath (words m (xp c)) (toksX m (xp c)) (own (1 - (xp c).val / 4) ((xp c).val % 2) j) r) (wtsU m c) (wtsW m c) ⟨2 * (c.val % 2) + j, pairs_lt c j⟩ n := by
  unfold ybV
  rw [pay13_at]
  simp only [xsV_at, aV_at, bV_at]
  rfl

/-- The result: both sides' rows put back at their tokens. -/
theorem outV_at (t : Fin 2048) (n : Fin 1024) :
    outV m c (ix2 t n)
      = (∑ r : Fin 1280, (if At (words m c) (own (c.val / 4) (c.val % 2) (r / 320)) (r % 320) t then 1 else 0) * ylF m c (ix2 r n))
        + ∑ r : Fin 1280, (if At (words m c) (own (1 - c.val / 4) (c.val % 2) (r / 320)) (r % 320) t then 1 else 0) * yrF m c (ix2 r n) := by
  have h1 : t.val / 512 < 4 := by omega
  have h2 : t.val % 512 < 512 := by omega
  have ht : (⟨512 * (t.val / 512) + t.val % 512, by omega⟩ : Fin 2048) = t := Fin.ext (by show 512 * (t.val / 512) + t.val % 512 = t.val; omega)
  unfold outV
  refine (glue_at rfl (oV m c) t n h1 h2).trans ?_
  unfold oV oaV
  rw [pay25_at, pay20_at]
  have el : ∀ r : Fin 1280, cols ⟨t.val / 512, h1⟩ (plV m c) (ix2 r ⟨t.val % 512, h2⟩)
      = (if At (words m c) (own (c.val / 4) (c.val % 2) (r / 320)) (r % 320) t then 1 else 0 : EReal) := fun r =>
    (cols_at ⟨t.val / 512, h1⟩ (plV m c) r ⟨t.val % 512, h2⟩).trans ((congrArg (fun t => plV m c (ix2 r t)) ht).trans (pl_at m c r t))
  have es : ∀ r : Fin 1280, cols ⟨t.val / 512, h1⟩ (psV m c) (ix2 r ⟨t.val % 512, h2⟩)
      = (if At (words m c) (own (1 - c.val / 4) (c.val % 2) (r / 320)) (r % 320) t then 1 else 0 : EReal) := fun r =>
    (cols_at ⟨t.val / 512, h1⟩ (psV m c) r ⟨t.val % 512, h2⟩).trans ((congrArg (fun t => psV m c (ix2 r t)) ht).trans (ps_at m c r t))
  simp only [el, es]

end

end Cert.MoeV

end
-- ==== Proof.Refer.lean ====
/-
  What the reference computes, element by element.
-/
module

public import proofs.«01_k».proof.Proof.Pays
public import proofs.«01_k».proof.Proof.Gen.ReferenceIdeal.Run

@[expose] public section

noncomputable section

namespace Cert.MoeV

open Idealize.ShloMosaic
open Cert.ReferenceIdeal Cert.ReferenceIdeal.Gen

set_option maxRecDepth 16384

/-- One token's row through expert `e`. -/
def via (x : Vec Ideal S4096x1024 .f32) (u : Vec Ideal S8x1024x2048 .f32) (w : Vec Ideal S8x2048x1024 .f32)
    (e : Fin 8) (t : Fin 4096) (n : Fin 1024) : EReal :=
  ffn (fun d => x (ix2 t d)) (fun d k => u (ix3 e d k)) (fun k n => w (ix3 e k n)) n

/-- What the word `a` picks of eight values: nothing when it names none. -/
def byWord (a : BitVec 32) (f : Fin 8 → EReal) : EReal :=
  if h : a.toNat < 8 then f ⟨a.toNat, h⟩ else 0

/-- A choice by whether two words are equal. -/
theorem select_eq (a b : BitVec 32) (p q : EReal) :
    Scalar.select (IntOp.cmpi CmpIPredicate.eq a b) p q = if a = b then p else q := by
  by_cases h : a = b
  · simp [Scalar.select, IntOp.cmpi, h]
  · have hb : (a == b) = false := beq_eq_false_iff_ne.mpr h
    simp [Scalar.select, IntOp.cmpi, h, hb]

/-- Eight choices in a row pick by the word. -/
theorem chain_byWord (a : BitVec 32) (f : Fin 8 → EReal) :
    (if a = 7#32 then f 7 else if a = 6#32 then f 6 else if a = 5#32 then f 5 else if a = 4#32 then f 4
      else if a = 3#32 then f 3 else if a = 2#32 then f 2 else if a = 1#32 then f 1 else if a = 0#32 then f 0 else 0)
      = byWord a f := by
  have key : ∀ k : ℕ, k < 8 → (a = BitVec.ofNat 32 k ↔ a.toNat = k) := by
    intro k hk
    rw [← BitVec.toNat_inj, BitVec.toNat_ofNat, Nat.mod_eq_of_lt (by omega)]
  simp only [key 0 (by omega), key 1 (by omega), key 2 (by omega), key 3 (by omega), key 4 (by omega), key 5 (by omega),
    key 6 (by omega), key 7 (by omega), byWord]
  by_cases h : a.toNat < 8
  · rw [dif_pos h]
    generalize a.toNat = k at h
    interval_cases k <;> rfl
  · rw [dif_neg h]
    repeat rw [if_neg (by omega)]

set_option maxHeartbeats 4000000 in
/-- The reference at token `t`: its row through the expert its word names, nothing when the word names none. -/
theorem ref_at (m : (ℓ : Loc nD τ sig) → Buf (Elt Ideal) ℓ) (c : Dev nD) (x : Vec Ideal S4096x1024 .f32) (a : IVec S4096 32)
    (u : Vec Ideal S8x1024x2048 .f32) (w : Vec Ideal S8x2048x1024 .f32)
    (hx : m ((c.tc : Thread nD τ).loc main_arg0) = x) (ha : m ((c.tc : Thread nD τ).loc main_arg1) = a)
    (hu : m ((c.tc : Thread nD τ).loc main_arg2) = u) (hw : m ((c.tc : Thread nD τ).loc main_arg3) = w)
    (t : Fin 4096) (n : Fin 1024) :
    (Cert.ReferenceIdeal.Value.res_main_v97 m c : Vec Ideal S4096x1024 .bf16) (ix2 t n)
      = byWord (a (ix1 t)) (fun e => via x u w e t n) := by
  unfold Cert.ReferenceIdeal.Value.res_main_v97
  rw [hx, ha, hu, hw]
  pointwise
  simp only [select_eq]
  exact chain_byWord (a (ix1 t)) (fun e => via x u w e t n)

end Cert.MoeV

end
-- ==== Proof.Equation.lean ====
/-
  The launch's result is the reference's: each token's row goes through the expert its word names, on whichever device that expert lies.
-/
module

public import proofs.«01_k».proof.Proof.Rows
public import proofs.«01_k».proof.Proof.Refer

@[expose] public section

noncomputable section

namespace Cert.MoeV

open Idealize.ShloMosaic Idealize.ShloMosaic.TcCoe
open Cert.KernelIdeal Cert.KernelIdeal.Gen
open Cert.MoeK (xp zp dg xp_xp glue ylV ybV ylS ylF yrS yrF outV)

set_option maxRecDepth 16384

/-- A gathered row is its token's. -/
theorem gath_of_at {a : IVec S2048 32} {e k : ℕ} {t : Fin 2048} (h : At a e k t) (x : Vec Ideal S2048x1024 .f32) :
    gath a x e k = fun d => x (ix2 t d) := by
  funext d
  unfold gath
  rw [Finset.sum_eq_single t (fun t' _ hne => by rw [if_neg fun h' => hne (Fin.ext (h'.inj h)), zero_mul])
    (fun hh => absurd (Finset.mem_univ _) hh), if_pos h, one_mul]

theorem own_div {X Z q : ℕ} (hZ : Z < 2) (hq : q < 4) : own X Z q / 4 = X := by
  unfold own; split <;> omega

theorem own_inj {X Z q q' : ℕ} (hZ : Z < 2) (hq : q < 4) (hq' : q' < 4) (h : own X Z q = own X Z q') : q = q' := by
  unfold own at h; split at h <;> split at h <;> omega

theorem own_onto {X Z e : ℕ} (hZ : Z < 2) (he : e / 4 = X) : ∃ q, q < 4 ∧ own X Z q = e := by
  by_cases h : e % 4 / 2 = Z
  · refine ⟨e % 2, by omega, ?_⟩
    unfold own; rw [if_pos (by omega)]; omega
  · refine ⟨2 + e % 2, by omega, ?_⟩
    unfold own; rw [if_neg (by omega)]; omega

theorem toNat_small {a : BitVec 32} {e : ℕ} (he : e < 8) (h : a = BitVec.ofNat 32 e) : a.toNat = e := by
  rw [h, BitVec.toNat_ofNat, Nat.mod_eq_of_lt (by omega)]

/-- Four experts' rows put back at a token: the token's own row when its expert is one of the four, else nothing. -/
theorem combine (a : IVec S2048 32) (t : Fin 2048) (X Z : ℕ) (hX : X < 2) (hZ : Z < 2) (Y : Fin 1280 → EReal) (V : Fin 8 → EReal)
    (hY : ∀ r : Fin 1280, At a (own X Z (r / 320)) (r % 320) t → Y r = V ⟨own X Z (r / 320), own_lt hX hZ (by omega)⟩)
    (hcap : ∀ e, e < 8 → word a t = BitVec.ofNat 32 e → cnt a (BitVec.ofNat 32 e) t < 320) :
    ∑ r : Fin 1280, (if At a (own X Z (r / 320)) (r % 320) t then 1 else 0) * Y r
      = if (word a t).toNat / 4 = X then byWord (word a t) V else 0 := by
  by_cases hw : (word a t).toNat < 8 ∧ (word a t).toNat / 4 = X
  · obtain ⟨h8, hx⟩ := hw
    obtain ⟨q, hq, hown⟩ := own_onto hZ hx
    have hword : word a t = BitVec.ofNat 32 (own X Z q) := by rw [hown]; simp
    have hk := hcap (own X Z q) (own_lt hX hZ hq) hword
    have d1 : (320 * q + cnt a (BitVec.ofNat 32 (own X Z q)) t) / 320 = q := by omega
    have d2 : (320 * q + cnt a (BitVec.ofNat 32 (own X Z q)) t) % 320 = cnt a (BitVec.ofNat 32 (own X Z q)) t := by omega
    have hat : At a (own X Z ((320 * q + cnt a (BitVec.ofNat 32 (own X Z q)) t) / 320)) ((320 * q + cnt a (BitVec.ofNat 32 (own X Z q)) t) % 320) t := by
      rw [d1, d2]; exact ⟨hword, rfl⟩
    rw [if_pos hx, Finset.sum_eq_single (⟨320 * q + cnt a (BitVec.ofNat 32 (own X Z q)) t, by omega⟩ : Fin 1280)]
    · rw [if_pos hat, one_mul, hY _ hat, byWord, dif_pos h8]
      refine congrArg V (Fin.ext ?_)
      show own X Z ((320 * q + cnt a (BitVec.ofNat 32 (own X Z q)) t) / 320) = (word a t).toNat
      rw [d1, hown]
    · intro r _ hne
      rw [if_neg, zero_mul]
      intro h
      have hr := r.isLt
      obtain ⟨p1, p2⟩ := At.place (own_lt hX hZ (by omega)) (own_lt hX hZ (by omega)) h hat
      rw [d1] at p1
      rw [d2] at p2
      have := own_inj hZ (by omega) hq p1
      exact hne (Fin.ext (by show r.val = 320 * q + cnt a (BitVec.ofNat 32 (own X Z q)) t; omega))
    · exact fun h => absurd (Finset.mem_univ _) h
  · have rhs : (if (word a t).toNat / 4 = X then byWord (word a t) V else 0) = 0 := by
      split
      · next h => rw [byWord, dif_neg (fun h8 => hw ⟨h8, h⟩)]
      · rfl
    rw [rhs]
    refine Finset.sum_eq_zero fun r _ => ?_
    have hr := r.isLt
    rw [if_neg, zero_mul]
    intro h
    have hn := toNat_small (own_lt hX hZ (by omega)) h.1
    exact hw ⟨hn ▸ own_lt hX hZ (by omega), hn ▸ own_div hZ (by omega)⟩

section
variable (m : (ℓ : Loc nD τ sig) → Buf (Elt Ideal) ℓ)
variable (x' : Vec Ideal Cert.ReferenceIdeal.S4096x1024 .f32) (a' : IVec Cert.ReferenceIdeal.S4096 32)
  (u' : Vec Ideal Cert.ReferenceIdeal.S8x1024x2048 .f32) (w' : Vec Ideal Cert.ReferenceIdeal.S8x2048x1024 .f32)

theorem dev_lt (c : Dev nD) : c.val < 8 := c.isLt

/-- The devices at `X` hold tokens `2048 X …` and experts `4 X …` of the whole arrays. -/
structure Held : Prop where
  x : ∀ (c : Dev nD) (t : Fin 2048) (d : Fin 1024),
    toksX m c (ix2 t d) = x' (ix2 ⟨2048 * (c.val / 4) + t, by have := dev_lt c; omega⟩ d)
  a : ∀ (c : Dev nD) (t : Fin 2048), words m c (ix1 t) = a' (ix1 ⟨2048 * (c.val / 4) + t, by have := dev_lt c; omega⟩)
  u : ∀ (c : Dev nD) (l : Fin 4) (d : Fin 1024) (k : Fin 2048),
    wtsU m c (ix3 l d k) = u' (ix3 ⟨4 * (c.val / 4) + l, by have := dev_lt c; omega⟩ d k)
  w : ∀ (c : Dev nD) (l : Fin 4) (k : Fin 2048) (n : Fin 1024),
    wtsW m c (ix3 l k n) = w' (ix3 ⟨4 * (c.val / 4) + l, by have := dev_lt c; omega⟩ k n)

variable {m x' a' u' w'}

/-- A device's expert is an expert of the whole. -/
theorem Held.thru (H : Held m x' a' u' w') (row : Fin 1024 → EReal) (c : Dev nD) (l : Fin 4) (e : Fin 8) (he : 4 * (c.val / 4) + l.val = e.val) (n : Fin 1024) :
    thru row (wtsU m c) (wtsW m c) l n = ffn row (fun d k => u' (ix3 e d k)) (fun k n => w' (ix3 e k n)) n := by
  have h : (⟨4 * (c.val / 4) + l, by have := dev_lt c; omega⟩ : Fin 8) = e := Fin.ext he
  unfold MoeV.thru
  simp only [H.u, H.w, h]

/-- Devices with one first coordinate hold the same tokens. -/
theorem Held.gath (H : Held m x' a' u' w') {c c' : Dev nD} (h : c.val / 4 = c'.val / 4) (e k : ℕ) :
    gath (words m c) (toksX m c) e k = gath (words m c') (toksX m c') e k := by
  have hw : words m c = words m c' := by
    have at_ : ∀ t : Fin 2048, words m c (ix1 t) = words m c' (ix1 t) := fun t => by rw [H.a, H.a]; simp only [h]
    funext i
    rw [eq_ix1 i]
    exact at_ (i 0)
  have hx : toksX m c = toksX m c' := by
    have at_ : ∀ (t : Fin 2048) (d : Fin 1024), toksX m c (ix2 t d) = toksX m c' (ix2 t d) := fun t d => by rw [H.x, H.x]; simp only [h]
    funext i
    rw [eq_ix2 i]
    exact at_ (i 0) (i 1)
  rw [hw, hx]

theorem zp_div : ∀ c : Dev nD, (zp c).val / 4 = c.val / 4 ∧ (zp c).val % 2 = 1 - c.val % 2 := by decide
theorem xp_div : ∀ c : Dev nD, (xp c).val / 4 = 1 - c.val / 4 ∧ (xp c).val % 2 = c.val % 2 := by decide

/-- The results of the own side's rows. -/
theorem Held.ylF (H : Held m x' a' u' w') (c : Dev nD) (r : Fin 1280) (n : Fin 1024)
    (e : Fin 8) (he : e.val = own (c.val / 4) (c.val % 2) (r.val / 320)) :
    ylF m c (ix2 r n) = ffn (MoeV.gath (words m c) (toksX m c) e (r.val % 320)) (fun d k => u' (ix3 e d k)) (fun k n => w' (ix3 e k n)) n := by
  have hz := zp_div c
  have hc := dev_lt c
  have slab : ∀ (q : Fin 4) (k : Fin 320), e.val = own (c.val / 4) (c.val % 2) q.val →
      ylS m c q (ix2 k n) = ffn (MoeV.gath (words m c) (toksX m c) e k) (fun d k => u' (ix3 e d k)) (fun k n => w' (ix3 e k n)) n := by
    intro q k hq
    fin_cases q
    · refine (ylV_at m c 0 k n).trans ?_
      rw [show own (c.val / 4) (c.val % 2) ((0 : Fin 2) : ℕ) = e.val from hq.symm]
      exact H.thru _ c _ e (hq ▸ rfl) n
    · refine (ylV_at m c 1 k n).trans ?_
      rw [show own (c.val / 4) (c.val % 2) ((1 : Fin 2) : ℕ) = e.val from hq.symm]
      exact H.thru _ c _ e (hq ▸ rfl) n
    · refine (ylV_at m (zp c) 0 k n).trans ?_
      have hq' : own ((zp c).val / 4) ((zp c).val % 2) ((0 : Fin 2) : ℕ) = e.val := by rw [hz.1, hz.2]; exact hq.symm
      rw [hq', H.gath hz.1]
      exact H.thru _ (zp c) _ e (hq' ▸ rfl) n
    · refine (ylV_at m (zp c) 1 k n).trans ?_
      have hq' : own ((zp c).val / 4) ((zp c).val % 2) ((1 : Fin 2) : ℕ) = e.val := by rw [hz.1, hz.2]; exact hq.symm
      rw [hq', H.gath hz.1]
      exact H.thru _ (zp c) _ e (hq' ▸ rfl) n
  have h1 : r.val / 320 < 4 := by omega
  have h2 : r.val % 320 < 320 := by omega
  exact (glue_at rfl (ylS m c) r n h1 h2).trans (slab ⟨r.val / 320, h1⟩ ⟨r.val % 320, h2⟩ he)

/-- The results of the rows sent across. -/
theorem Held.yrF (H : Held m x' a' u' w') (c : Dev nD) (r : Fin 1280) (n : Fin 1024)
    (e : Fin 8) (he : e.val = own (1 - c.val / 4) (c.val % 2) (r.val / 320)) :
    yrF m c (ix2 r n) = ffn (MoeV.gath (words m c) (toksX m c) e (r.val % 320)) (fun d k => u' (ix3 e d k)) (fun k n => w' (ix3 e k n)) n := by
  have hz := zp_div c
  have hc := dev_lt c
  have across : ∀ (b : Dev nD) (j : Fin 2) (k : Fin 320), b.val / 4 = c.val / 4 → e.val = own (1 - b.val / 4) (b.val % 2) j.val →
      ybV m (xp b) j (ix2 k n) = ffn (MoeV.gath (words m c) (toksX m c) e k) (fun d k => u' (ix3 e d k)) (fun k n => w' (ix3 e k n)) n := by
    intro b j k hb hq
    have hx := xp_div b
    refine (ybV_at m (xp b) j k n).trans ?_
    rw [xp_xp, ← hq, H.gath hb]
    refine H.thru _ (xp b) _ e ?_ n
    show 4 * ((xp b).val / 4) + (2 * ((xp b).val % 2) + j.val) = e.val
    rw [hq, own, if_pos j.isLt, hx.1, hx.2]
  have slab : ∀ (q : Fin 4) (k : Fin 320), e.val = own (1 - c.val / 4) (c.val % 2) q.val →
      yrS m c q (ix2 k n) = ffn (MoeV.gath (words m c) (toksX m c) e k) (fun d k => u' (ix3 e d k)) (fun k n => w' (ix3 e k n)) n := by
    intro q k hq
    fin_cases q
    · exact across c 0 k rfl hq
    · exact across c 1 k rfl hq
    · exact across (zp c) 0 k hz.1 (by rw [hz.1, hz.2]; exact hq)
    · exact across (zp c) 1 k hz.1 (by rw [hz.1, hz.2]; exact hq)
  have h1 : r.val / 320 < 4 := by omega
  have h2 : r.val % 320 < 320 := by omega
  exact (glue_at rfl (yrS m c) r n h1 h2).trans (slab ⟨r.val / 320, h1⟩ ⟨r.val % 320, h2⟩ he)

/-- The result at a token is the reference's, when no expert has more tokens than places. -/
theorem Held.out (H : Held m x' a' u' w') (c : Dev nD)
    (hcap : ∀ e, e < 8 → cnt (words m c) (BitVec.ofNat 32 e) 2048 ≤ 320) (t : Fin 2048) (n : Fin 1024) :
    outV m c (ix2 t n) = byWord (a' (ix1 ⟨2048 * (c.val / 4) + t, by have := dev_lt c; omega⟩))
      (fun e => via x' u' w' e ⟨2048 * (c.val / 4) + t, by have := dev_lt c; omega⟩ n) := by
  have hc := dev_lt c
  have ht := t.isLt
  have places : ∀ e, e < 8 → word (words m c) t = BitVec.ofNat 32 e → cnt (words m c) (BitVec.ofNat 32 e) t < 320 := by
    intro e he hw
    have h1 := cnt_succ (words m c) (BitVec.ofNat 32 e) t
    rw [if_pos hw] at h1
    have h2 : cnt (words m c) (BitVec.ofNat 32 e) (t + 1) ≤ cnt (words m c) (BitVec.ofNat 32 e) 2048 := Nat.count_monotone _ (by omega)
    have h3 := hcap e he
    omega
  have hrow : ∀ (e : Fin 8) (k : ℕ), At (words m c) e k t →
      ffn (MoeV.gath (words m c) (toksX m c) e k) (fun d k => u' (ix3 e d k)) (fun k n => w' (ix3 e k n)) n
        = via x' u' w' e ⟨2048 * (c.val / 4) + t, by omega⟩ n := by
    intro e k h
    rw [gath_of_at h]
    simp only [H.x]
    rfl
  have hX : c.val / 4 < 2 := by omega
  have hX' : 1 - c.val / 4 < 2 := by omega
  have hZ : c.val % 2 < 2 := by omega
  rw [outV_at,
    combine (words m c) t (c.val / 4) (c.val % 2) hX hZ (fun r => Cert.MoeK.ylF m c (ix2 r n)) (fun e => via x' u' w' e ⟨2048 * (c.val / 4) + t, by omega⟩ n)
      (fun r h => (H.ylF c r n ⟨_, own_lt hX hZ (by omega)⟩ rfl).trans (hrow ⟨_, own_lt hX hZ (by omega)⟩ _ h)) places,
    combine (words m c) t (1 - c.val / 4) (c.val % 2) hX' hZ (fun r => Cert.MoeK.yrF m c (ix2 r n)) (fun e => via x' u' w' e ⟨2048 * (c.val / 4) + t, by omega⟩ n)
      (fun r h => (H.yrF c r n ⟨_, own_lt hX' hZ (by omega)⟩ rfl).trans (hrow ⟨_, own_lt hX' hZ (by omega)⟩ _ h)) places,
    ← H.a c t, ← word_fin (words m c) t]
  by_cases h8 : (word (words m c) t).toNat < 8
  · by_cases h4 : (word (words m c) t).toNat / 4 = c.val / 4
    · rw [if_pos h4, if_neg (by omega), add_zero]
    · rw [if_neg h4, if_pos (by omega), zero_add]
  · have h0 : ∀ V, byWord (word (words m c) t) V = 0 := fun V => dif_neg h8
    simp only [h0, ite_self, add_zero]

end

end Cert.MoeV

end
-- ==== Proof.Algebra.lean ====
/-
  Where the experts' tokens have places, the kernel's result is the reference's.
-/
module

public import proofs.«01_k».proof.Proof.Frames
public import proofs.«01_k».proof.Proof.Capacity
public import proofs.«01_k».proof.Proof.Equation

@[expose] public section

noncomputable section

namespace Cert.MoeV

open Idealize.ShloMosaic Idealize.SL.Sem
open Cert.KernelIdeal.Gen Cert.ReferenceIdeal.Gen
open Cert.MoeK (outV)

set_option maxRecDepth 16384

/-- A device's block along an axis cut by the mesh's first. -/
theorem lin_one : ∀ c : Fin 8, Layout.meshLin [2, 2, 2] c.val [0] = c.val / 4 := by decide

/-- Row `t` of a device's block of an array of two axes cut along the first. -/
theorem block2_at {α : Type} (p q n : ℕ) (hq : q = 2 * p) (v : (⟨2, ![q, n]⟩ : Shape).Idx → α) (c : Fin 8)
    (h : Layout.TilesN ⟨2, ![p, n]⟩ ⟨2, ![q, n]⟩ fun b => Layout.cutSize [2, 2, 2] ((![[0], []] : Fin 2 → List ℕ) b)) (t : Fin p) (d : Fin n) :
    Layout.blockN ⟨2, ![p, n]⟩ ⟨2, ![q, n]⟩ (Layout.meshBlock [2, 2, 2] ![[0], []] c) v h (ix2 t d)
      = v (ix2 ⟨p * (c.val / 4) + t, by
        have h1 : c.val / 4 ≤ 1 := by omega
        have := Nat.mul_le_mul_left p h1
        omega⟩ d) := by
  refine congrArg v (funext fun b => Fin.ext ?_)
  match b with
  | ⟨0, _⟩ =>
    show Layout.meshLin [2, 2, 2] c.val [0] * p + t.val = p * (c.val / 4) + t.val
    rw [lin_one, Nat.mul_comm]
  | ⟨1, _⟩ =>
    show 0 * n + d.val = d.val
    omega

/-- Entry `t` of a device's block of a vector. -/
theorem block1_at {α : Type} (p q : ℕ) (hq : q = 2 * p) (v : (⟨1, ![q]⟩ : Shape).Idx → α) (c : Fin 8)
    (h : Layout.TilesN ⟨1, ![p]⟩ ⟨1, ![q]⟩ fun b => Layout.cutSize [2, 2, 2] ((![[0]] : Fin 1 → List ℕ) b)) (t : Fin p) :
    Layout.blockN ⟨1, ![p]⟩ ⟨1, ![q]⟩ (Layout.meshBlock [2, 2, 2] ![[0]] c) v h (ix1 t)
      = v (ix1 ⟨p * (c.val / 4) + t, by
        have h1 : c.val / 4 ≤ 1 := by omega
        have := Nat.mul_le_mul_left p h1
        omega⟩) := by
  refine congrArg v (funext fun b => Fin.ext ?_)
  match b with
  | ⟨0, _⟩ =>
    show Layout.meshLin [2, 2, 2] c.val [0] * p + t.val = p * (c.val / 4) + t.val
    rw [lin_one, Nat.mul_comm]

/-- Matrix `l` of a device's block of a stack of matrices. -/
theorem block3_at {α : Type} (p q n k : ℕ) (hq : q = 2 * p) (v : (⟨3, ![q, n, k]⟩ : Shape).Idx → α) (c : Fin 8)
    (h : Layout.TilesN ⟨3, ![p, n, k]⟩ ⟨3, ![q, n, k]⟩ fun b => Layout.cutSize [2, 2, 2] ((![[0], [], []] : Fin 3 → List ℕ) b))
    (l : Fin p) (d : Fin n) (f : Fin k) :
    Layout.blockN ⟨3, ![p, n, k]⟩ ⟨3, ![q, n, k]⟩ (Layout.meshBlock [2, 2, 2] ![[0], [], []] c) v h (ix3 l d f)
      = v (ix3 ⟨p * (c.val / 4) + l, by
        have h1 : c.val / 4 ≤ 1 := by omega
        have := Nat.mul_le_mul_left p h1
        omega⟩ d f) := by
  refine congrArg v (funext fun b => Fin.ext ?_)
  match b with
  | ⟨0, _⟩ =>
    show Layout.meshLin [2, 2, 2] c.val [0] * p + l.val = p * (c.val / 4) + l.val
    rw [lin_one, Nat.mul_comm]
  | ⟨1, _⟩ =>
    show 0 * n + d.val = d.val
    omega
  | ⟨2, _⟩ =>
    show 0 * k + f.val = f.val
    omega

/-- The kernel and the reference, over the extended reals: one result. -/
theorem same_result : @Cert.algebraic_KernelIdeal_ReferenceIdeal_pre_capacity_KernelIdeal
    Cert.KernelIdeal.Gen.facts Cert.ReferenceIdeal.Gen.facts capacity_facts := by
  intro m g m' g' hpre hargs
  have H : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    { x := fun c t d => (congrFun (hargs c).1 (ix2 t d)).trans (block2_at 2048 4096 1024 rfl _ c _ t d)
      a := fun c t => (congrFun (hargs c).2.1 (ix1 t)).trans (block1_at 2048 4096 rfl _ c _ t)
      u := fun c l d k => (congrFun (hargs c).2.2.1 (ix3 l d k)).trans (block3_at 4 8 1024 2048 rfl _ c _ l d k)
      w := fun c l k n => (congrFun (hargs c).2.2.2 (ix3 l k n)).trans (block3_at 4 8 2048 1024 rfl _ c _ l k n) }
  refine ⟨Cert.ReferenceIdeal.Value.res_main_v97 m' 0, ?_, ?_⟩
  · refine (θ_run Cert.KernelIdeal.defs _ _).mono (fun r h c => ⟨?_, (h.1 c).1, (h.1 c).2.1, (h.1 c).2.2.1, (h.1 c).2.2.2.1⟩)
      (Cert.MoeK.run_main (F := Ideal) m g)
    refine (h.1 c).2.2.2.2.1.trans ?_
    have at_ : ∀ (t : Fin 2048) (n : Fin 1024), outV m c (ix2 t n)
        = Layout.blockN ⟨2, ![2048, 1024]⟩ ⟨2, ![4096, 1024]⟩ (Layout.meshBlock [2, 2, 2] ![[0], []] c)
          (Cert.ReferenceIdeal.Value.res_main_v97 m' 0 : Vec Ideal Cert.ReferenceIdeal.S4096x1024 .bf16) (by decide) (ix2 t n) := fun t n => by
      rw [H.out c (fun e he => @capacity_le capacity_facts _ _ _ _ (hpre c) e he) t n, block2_at 2048 4096 1024 rfl _ c _ t n]
      exact (ref_at m' 0 _ _ _ _ rfl rfl rfl rfl _ n).symm
    funext i
    rw [eq_ix2 i]
    exact at_ (i 0) (i 1)
  · exact (θ_run Cert.ReferenceIdeal.defs _ _).mono (fun r h => h 0) (Cert.ReferenceIdeal.Value.run (F := Ideal) m' g')

/-- The kernel's frame, where the precondition holds. -/
theorem frame_ideal_pre : @Cert.quiescent_KernelIdeal_pre_capacity_KernelIdeal Cert.KernelIdeal.Gen.facts capacity_facts :=
  fun m g _ => Cert.MoeK.frame_ideal m g trivial

/-- The reference's frame, where the precondition holds of the whole arrays. -/
theorem frame_reference_pre : @Cert.quiescent_ReferenceIdeal_pre_capacity_ReferenceIdeal Cert.ReferenceIdeal.Gen.facts capacity_facts_whole :=
  fun m g _ => Cert.MoeK.frame_reference m g trivial

end Cert.MoeV

end
-- ==== Proof.lean ====
/-
  The claim of this certificate, assembled: the three programs' frames, the text kept, and the one result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts,
  Cert.MoeV.capacity_facts, Cert.MoeV.capacity_facts_whole,
  Cert.MoeK.frame_kernel, Cert.MoeK.frame_ideal, Cert.MoeV.frame_ideal_pre, Cert.MoeK.frame_reference, Cert.MoeV.frame_reference_pre,
  trivial, Cert.MoeV.same_result⟩

end Cert.Proof

end
